-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_and_scales_tame [hPre_gates_and_scales_tame : Cert.Pre_gates_and_scales_tame.Facts] (m : (ℓ : Loc Cert.KernelIdeal.nD Cert.KernelIdeal.τ Cert.KernelIdeal.sig) → Buf (Elt Ideal) ℓ) : Prop :=
  ∀ c : Dev Cert.KernelIdeal.nD,
    (Cert.Pre_gates_and_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_gates_and_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_gates_and_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_and_scales_tame [hPre_gates_and_scales_tame : Cert.Pre_gates_and_scales_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_and_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_gates_and_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_gates_and_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_KernelWIdeal_all_finite [hPre_all_finite : Cert.Pre_all_finite.Facts] (m : (ℓ : Loc Cert.KernelWIdeal.nD Cert.KernelWIdeal.τ Cert.KernelWIdeal.sig) → Buf (Elt Ideal) ℓ) : Prop :=
  ∀ c : Dev Cert.KernelWIdeal.nD,
    (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.2.2.2.2.1 = (fun _ => 1#1)
    ∧ (Cert.Pre_all_finite.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2.2.2.2.2.2.2.2.2.2.2.2.2 = (fun _ => 1#1)

def Pre_ReferenceWIdeal (m : (ℓ : Loc Cert.ReferenceWIdeal.nD Cert.ReferenceWIdeal.τ Cert.ReferenceWIdeal.sig) → Buf (Elt Ideal) ℓ) : Prop :=
  True

def Pre_ReferenceWIdeal_all_finite [hPre_all_finite : Cert.Pre_all_finite.Facts] (m : (ℓ : Loc Cert.ReferenceWIdeal.nD Cert.ReferenceWIdeal.τ Cert.ReferenceWIdeal.sig) → Buf (Elt Ideal) ℓ) : Prop :=
  ∀ c : Dev Cert.ReferenceWIdeal.nD,
    (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.2.2.2.2.1 = (fun _ => 1#1)
    ∧ (Cert.Pre_all_finite.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4)) (m ((c.tc : Thread Cert.ReferenceWIdeal.nD Cert.ReferenceWIdeal.τ).loc Cert.ReferenceWIdeal.main_arg5)) (m ((c.tc : Thread Cert.ReferenceWIdeal.nD Cert.ReferenceWIdeal.τ).loc Cert.ReferenceWIdeal.main_arg6)) (m ((c.tc : Thread Cert.ReferenceWIdeal.nD Cert.ReferenceWIdeal.τ).loc Cert.ReferenceWIdeal.main_arg7)) (m ((c.tc : Thread Cert.ReferenceWIdeal.nD Cert.ReferenceWIdeal.τ).loc Cert.ReferenceWIdeal.main_arg8))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gates_and_scales_tame [hKernelIdeal : Cert.KernelIdeal.Facts] [hPre_gates_and_scales_tame : Cert.Pre_gates_and_scales_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_and_scales_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gates_and_scales_tame [hReferenceIdeal : Cert.ReferenceIdeal.Facts] [hPre_gates_and_scales_tame : Cert.Pre_gates_and_scales_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_and_scales_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5)
      ∧ r.2.mem ((c.tc : Thread Cert.KernelW.nD Cert.KernelW.τ).loc Cert.KernelW.main_arg6) = m ((c.tc : Thread Cert.KernelW.nD Cert.KernelW.τ).loc Cert.KernelW.main_arg6)
      ∧ r.2.mem ((c.tc : Thread Cert.KernelW.nD Cert.KernelW.τ).loc Cert.KernelW.main_arg7) = m ((c.tc : Thread Cert.KernelW.nD Cert.KernelW.τ).loc Cert.KernelW.main_arg7)
      ∧ r.2.mem ((c.tc : Thread Cert.KernelW.nD Cert.KernelW.τ).loc Cert.KernelW.main_arg8) = m ((c.tc : Thread Cert.KernelW.nD Cert.KernelW.τ).loc Cert.KernelW.main_arg8))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
      ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8))
      ∧ r.2.sem = fun _ => 0)

def quiescent_KernelWIdeal_pre_all_finite [hKernelWIdeal : Cert.KernelWIdeal.Facts] [hPre_all_finite : Cert.Pre_all_finite.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal_all_finite m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
      ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5)
      ∧ r.2.mem ((c.tc : Thread Cert.ReferenceWIdeal.nD Cert.ReferenceWIdeal.τ).loc Cert.ReferenceWIdeal.main_arg6) = m ((c.tc : Thread Cert.ReferenceWIdeal.nD Cert.ReferenceWIdeal.τ).loc Cert.ReferenceWIdeal.main_arg6)
      ∧ r.2.mem ((c.tc : Thread Cert.ReferenceWIdeal.nD Cert.ReferenceWIdeal.τ).loc Cert.ReferenceWIdeal.main_arg7) = m ((c.tc : Thread Cert.ReferenceWIdeal.nD Cert.ReferenceWIdeal.τ).loc Cert.ReferenceWIdeal.main_arg7)
      ∧ r.2.mem ((c.tc : Thread Cert.ReferenceWIdeal.nD Cert.ReferenceWIdeal.τ).loc Cert.ReferenceWIdeal.main_arg8) = m ((c.tc : Thread Cert.ReferenceWIdeal.nD Cert.ReferenceWIdeal.τ).loc Cert.ReferenceWIdeal.main_arg8))
      ∧ r.2.sem = fun _ => 0)

def quiescent_ReferenceWIdeal_pre_all_finite [hReferenceWIdeal : Cert.ReferenceWIdeal.Facts] [hPre_all_finite : Cert.Pre_all_finite.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal_all_finite m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5)
      ∧ r.2.mem ((c.tc : Thread Cert.ReferenceWIdeal.nD Cert.ReferenceWIdeal.τ).loc Cert.ReferenceWIdeal.main_arg6) = m ((c.tc : Thread Cert.ReferenceWIdeal.nD Cert.ReferenceWIdeal.τ).loc Cert.ReferenceWIdeal.main_arg6)
      ∧ r.2.mem ((c.tc : Thread Cert.ReferenceWIdeal.nD Cert.ReferenceWIdeal.τ).loc Cert.ReferenceWIdeal.main_arg7) = m ((c.tc : Thread Cert.ReferenceWIdeal.nD Cert.ReferenceWIdeal.τ).loc Cert.ReferenceWIdeal.main_arg7)
      ∧ r.2.mem ((c.tc : Thread Cert.ReferenceWIdeal.nD Cert.ReferenceWIdeal.τ).loc Cert.ReferenceWIdeal.main_arg8) = m ((c.tc : Thread Cert.ReferenceWIdeal.nD Cert.ReferenceWIdeal.τ).loc Cert.ReferenceWIdeal.main_arg8))
      ∧ r.2.sem = fun _ => 0)

def preserves_Kernel_KernelIdeal : Prop :=
  True

def algebraic_KernelIdeal_ReferenceIdeal_on_all_but_dg_pre_gates_and_scales_tame [hKernelIdeal : Cert.KernelIdeal.Facts] [hReferenceIdeal : Cert.ReferenceIdeal.Facts] [hPre_gates_and_scales_tame : Cert.Pre_gates_and_scales_tame.Facts] [hOn_all_but_dg : Cert.On_all_but_dg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_and_scales_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v10) i = v0 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v11) i = v1 c i)
          ∧ (∀ i : (⟨4, ![2, 1024, 6, 384]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v12) i = v2 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v13) i = v3 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.KernelIdeal.nD Cert.KernelIdeal.τ).loc Cert.KernelIdeal.main_v14) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v94) i = v0 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v96) i = v1 c i)
          ∧ (∀ i : (⟨4, ![2, 1024, 6, 384]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v98) i = v2 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v92) i = v3 c i)
          ∧ (∀ i : (⟨4, ![2, 1024, 6, 192]⟩ : Shape).Idx, (Cert.On_all_but_dg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.ReferenceIdeal.nD Cert.ReferenceIdeal.τ).loc Cert.ReferenceIdeal.main_v91) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelW_KernelWIdeal : Prop :=
  True

def algebraic_KernelWIdeal_ReferenceWIdeal_on_only_dg_pre_all_finite [hKernelWIdeal : Cert.KernelWIdeal.Facts] [hReferenceWIdeal : Cert.ReferenceWIdeal.Facts] [hPre_all_finite : Cert.Pre_all_finite.Facts] [hOn_only_dg : Cert.On_only_dg.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal_all_finite m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)
      ∧ m' ((c.tc : Thread Cert.ReferenceWIdeal.nD Cert.ReferenceWIdeal.τ).loc Cert.ReferenceWIdeal.main_arg6) = m ((c.tc : Thread Cert.KernelWIdeal.nD Cert.KernelWIdeal.τ).loc Cert.KernelWIdeal.main_arg6)
      ∧ m' ((c.tc : Thread Cert.ReferenceWIdeal.nD Cert.ReferenceWIdeal.τ).loc Cert.ReferenceWIdeal.main_arg7) = m ((c.tc : Thread Cert.KernelWIdeal.nD Cert.KernelWIdeal.τ).loc Cert.KernelWIdeal.main_arg7)
      ∧ m' ((c.tc : Thread Cert.ReferenceWIdeal.nD Cert.ReferenceWIdeal.τ).loc Cert.ReferenceWIdeal.main_arg8) = m ((c.tc : Thread Cert.KernelWIdeal.nD Cert.KernelWIdeal.τ).loc Cert.KernelWIdeal.main_arg8)) →
    ∃ (v0 : (c : Dev Cert.KernelWIdeal.nD) → Buf (Elt Ideal) ((c.tc : Thread Cert.KernelWIdeal.nD Cert.KernelWIdeal.τ).loc Cert.KernelWIdeal.main_v14)) (v1 : (c : Dev Cert.KernelWIdeal.nD) → Buf (Elt Ideal) ((c.tc : Thread Cert.KernelWIdeal.nD Cert.KernelWIdeal.τ).loc Cert.KernelWIdeal.main_v15)) (v2 : (c : Dev Cert.KernelWIdeal.nD) → Buf (Elt Ideal) ((c.tc : Thread Cert.KernelWIdeal.nD Cert.KernelWIdeal.τ).loc Cert.KernelWIdeal.main_v16)) (v3 : (c : Dev Cert.KernelWIdeal.nD) → Buf (Elt Ideal) ((c.tc : Thread Cert.KernelWIdeal.nD Cert.KernelWIdeal.τ).loc Cert.KernelWIdeal.main_v17)) (v4 : (c : Dev Cert.KernelWIdeal.nD) → Buf (Elt Ideal) ((c.tc : Thread Cert.KernelWIdeal.nD Cert.KernelWIdeal.τ).loc Cert.KernelWIdeal.main_v18)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).1 i = 1#1 → r.2.mem ((c.tc : Thread Cert.KernelWIdeal.nD Cert.KernelWIdeal.τ).loc Cert.KernelWIdeal.main_v14) i = v0 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.1 i = 1#1 → r.2.mem ((c.tc : Thread Cert.KernelWIdeal.nD Cert.KernelWIdeal.τ).loc Cert.KernelWIdeal.main_v15) i = v1 c i)
          ∧ (∀ i : (⟨4, ![2, 1024, 6, 384]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.1 i = 1#1 → r.2.mem ((c.tc : Thread Cert.KernelWIdeal.nD Cert.KernelWIdeal.τ).loc Cert.KernelWIdeal.main_v16) i = v2 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.1 i = 1#1 → r.2.mem ((c.tc : Thread Cert.KernelWIdeal.nD Cert.KernelWIdeal.τ).loc Cert.KernelWIdeal.main_v17) i = v3 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2 i = 1#1 → r.2.mem ((c.tc : Thread Cert.KernelWIdeal.nD Cert.KernelWIdeal.τ).loc Cert.KernelWIdeal.main_v18) i = v4 c i)
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
          ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
          ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
          ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).1 i = 1#1 → r.2.mem ((c.tc : Thread Cert.ReferenceWIdeal.nD Cert.ReferenceWIdeal.τ).loc Cert.ReferenceWIdeal.main_v98) i = v0 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.1 i = 1#1 → r.2.mem ((c.tc : Thread Cert.ReferenceWIdeal.nD Cert.ReferenceWIdeal.τ).loc Cert.ReferenceWIdeal.main_v100) i = v1 c i)
          ∧ (∀ i : (⟨4, ![2, 1024, 6, 384]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.1 i = 1#1 → r.2.mem ((c.tc : Thread Cert.ReferenceWIdeal.nD Cert.ReferenceWIdeal.τ).loc Cert.ReferenceWIdeal.main_v102) i = v2 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.1 i = 1#1 → r.2.mem ((c.tc : Thread Cert.ReferenceWIdeal.nD Cert.ReferenceWIdeal.τ).loc Cert.ReferenceWIdeal.main_v96) i = v3 c i)
          ∧ (∀ i : (⟨4, ![2, 1024, 6, 192]⟩ : Shape).Idx, (Cert.On_only_dg.fn (F := Ideal) (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) (m ((c.tc : Thread Cert.KernelWIdeal.nD Cert.KernelWIdeal.τ).loc Cert.KernelWIdeal.main_arg2)) (m ((c.tc : Thread Cert.KernelWIdeal.nD Cert.KernelWIdeal.τ).loc Cert.KernelWIdeal.main_arg3)) (m ((c.tc : Thread Cert.KernelWIdeal.nD Cert.KernelWIdeal.τ).loc Cert.KernelWIdeal.main_arg4)) (m ((c.tc : Thread Cert.KernelWIdeal.nD Cert.KernelWIdeal.τ).loc Cert.KernelWIdeal.main_arg5)) (m ((c.tc : Thread Cert.KernelWIdeal.nD Cert.KernelWIdeal.τ).loc Cert.KernelWIdeal.main_arg6)) (m ((c.tc : Thread Cert.KernelWIdeal.nD Cert.KernelWIdeal.τ).loc Cert.KernelWIdeal.main_arg7)) (m ((c.tc : Thread Cert.KernelWIdeal.nD Cert.KernelWIdeal.τ).loc Cert.KernelWIdeal.main_arg8))).2.2.2.2 i = 1#1 → r.2.mem ((c.tc : Thread Cert.ReferenceWIdeal.nD Cert.ReferenceWIdeal.τ).loc Cert.ReferenceWIdeal.main_v95) i = v4 c i)
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4)
          ∧ r.2.mem ((c.tc : Thread Cert.ReferenceWIdeal.nD Cert.ReferenceWIdeal.τ).loc Cert.ReferenceWIdeal.main_arg5) = m' ((c.tc : Thread Cert.ReferenceWIdeal.nD Cert.ReferenceWIdeal.τ).loc Cert.ReferenceWIdeal.main_arg5)
          ∧ r.2.mem ((c.tc : Thread Cert.ReferenceWIdeal.nD Cert.ReferenceWIdeal.τ).loc Cert.ReferenceWIdeal.main_arg6) = m' ((c.tc : Thread Cert.ReferenceWIdeal.nD Cert.ReferenceWIdeal.τ).loc Cert.ReferenceWIdeal.main_arg6)
          ∧ r.2.mem ((c.tc : Thread Cert.ReferenceWIdeal.nD Cert.ReferenceWIdeal.τ).loc Cert.ReferenceWIdeal.main_arg7) = m' ((c.tc : Thread Cert.ReferenceWIdeal.nD Cert.ReferenceWIdeal.τ).loc Cert.ReferenceWIdeal.main_arg7)
          ∧ r.2.mem ((c.tc : Thread Cert.ReferenceWIdeal.nD Cert.ReferenceWIdeal.τ).loc Cert.ReferenceWIdeal.main_arg8) = m' ((c.tc : Thread Cert.ReferenceWIdeal.nD Cert.ReferenceWIdeal.τ).loc Cert.ReferenceWIdeal.main_arg8))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hPre_gates_and_scales_tame : Cert.Pre_gates_and_scales_tame.Facts) (hPre_all_finite : Cert.Pre_all_finite.Facts) (hOn_all_but_dg : Cert.On_all_but_dg.Facts) (hOn_only_dg : Cert.On_only_dg.Facts),
    quiescent_Kernel (hKernel := hKernel)
    ∧ quiescent_KernelIdeal (hKernelIdeal := hKernelIdeal)
    ∧ quiescent_KernelIdeal_pre_gates_and_scales_tame (hKernelIdeal := hKernelIdeal) (hPre_gates_and_scales_tame := hPre_gates_and_scales_tame)
    ∧ quiescent_ReferenceIdeal (hReferenceIdeal := hReferenceIdeal)
    ∧ quiescent_ReferenceIdeal_pre_gates_and_scales_tame (hReferenceIdeal := hReferenceIdeal) (hPre_gates_and_scales_tame := hPre_gates_and_scales_tame)
    ∧ quiescent_KernelW (hKernelW := hKernelW)
    ∧ quiescent_KernelWIdeal (hKernelWIdeal := hKernelWIdeal)
    ∧ quiescent_KernelWIdeal_pre_all_finite (hKernelWIdeal := hKernelWIdeal) (hPre_all_finite := hPre_all_finite)
    ∧ quiescent_ReferenceWIdeal (hReferenceWIdeal := hReferenceWIdeal)
    ∧ quiescent_ReferenceWIdeal_pre_all_finite (hReferenceWIdeal := hReferenceWIdeal) (hPre_all_finite := hPre_all_finite)
    ∧ preserves_Kernel_KernelIdeal
    ∧ algebraic_KernelIdeal_ReferenceIdeal_on_all_but_dg_pre_gates_and_scales_tame (hKernelIdeal := hKernelIdeal) (hReferenceIdeal := hReferenceIdeal) (hPre_gates_and_scales_tame := hPre_gates_and_scales_tame) (hOn_all_but_dg := hOn_all_but_dg)
    ∧ preserves_KernelW_KernelWIdeal
    ∧ algebraic_KernelWIdeal_ReferenceWIdeal_on_only_dg_pre_all_finite (hKernelWIdeal := hKernelWIdeal) (hReferenceWIdeal := hReferenceWIdeal) (hPre_all_finite := hPre_all_finite) (hOn_only_dg := hOn_only_dg)
-- ==== On_all_but_dg.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S_ : Shape := ⟨0, ![]⟩

class Facts : Prop where
  bcast_S_S2x1024x6x192 : S_.BroadcastsInDim S2x1024x6x192 (![] : Fin 0 → Fin S2x1024x6x192.rank)
  bcast_S_S2x1024x6x384 : S_.BroadcastsInDim S2x1024x6x384 (![] : Fin 0 → Fin S2x1024x6x384.rank)

variable [Facts]

def fn {F : FTy → Type} [FloatOps F] (main_arg0 : FVec F S2x1024x6x192 .fp8e4m3) (main_arg1 : FVec F S2x1024x6x192 .fp8e4m3) (main_arg2 : FVec F S2x16x6 .f32) (main_arg3 : FVec F S2x16x6 .f32) (main_arg4 : FVec F S2x1024x6x384 .fp8e4m3) (main_arg5 : FVec F S2x16x6 .f32) (main_arg6 : FVec F S2x1024x6x384 .fp8e5m2) (main_arg7 : FVec F S2x1024x6x12 .f32) (main_arg8 : FVec F S2x1024x6x192 .f32) : IVec S2x1024x6x192 1 × IVec S2x1024x6x192 1 × IVec S2x1024x6x384 1 × IVec S2x1024x6x192 1 × IVec S2x1024x6x192 1 :=
  let main_c : IVec S_ 1 := constantI S_ 1 1#1
  let main_v0 : IVec S2x1024x6x192 1 := broadcastInDim S2x1024x6x192 ![] bcast_S_S2x1024x6x192 main_c
  let main_c_0 : IVec S_ 1 := constantI S_ 1 1#1
  let main_v1 : IVec S2x1024x6x192 1 := broadcastInDim S2x1024x6x192 ![] bcast_S_S2x1024x6x192 main_c_0
  let main_c_1 : IVec S_ 1 := constantI S_ 1 1#1
  let main_v2 : IVec S2x1024x6x384 1 := broadcastInDim S2x1024x6x384 ![] bcast_S_S2x1024x6x384 main_c_1
  let main_c_2 : IVec S_ 1 := constantI S_ 1 0#1
  let main_v3 : IVec S2x1024x6x192 1 := broadcastInDim S2x1024x6x192 ![] bcast_S_S2x1024x6x192 main_c_2
  let main_c_3 : IVec S_ 1 := constantI S_ 1 1#1
  let main_v4 : IVec S2x1024x6x192 1 := broadcastInDim S2x1024x6x192 ![] bcast_S_S2x1024x6x192 main_c_3
  (main_v0, main_v1, main_v2, main_v3, main_v4)
-- ==== On_only_dg.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S_ : Shape := ⟨0, ![]⟩

class Facts : Prop where
  bcast_S_S2x1024x6x192 : S_.BroadcastsInDim S2x1024x6x192 (![] : Fin 0 → Fin S2x1024x6x192.rank)
  bcast_S_S2x1024x6x384 : S_.BroadcastsInDim S2x1024x6x384 (![] : Fin 0 → Fin S2x1024x6x384.rank)

variable [Facts]

def fn {F : FTy → Type} [FloatOps F] (main_arg0 : IVec S2x1024x6x192 8) (main_arg1 : IVec S2x1024x6x192 8) (main_arg2 : FVec F S2x16x6 .f32) (main_arg3 : FVec F S2x16x6 .f32) (main_arg4 : IVec S2x1024x6x384 8) (main_arg5 : FVec F S2x16x6 .f32) (main_arg6 : IVec S2x1024x6x384 8) (main_arg7 : FVec F S2x1024x6x12 .f32) (main_arg8 : FVec F S2x1024x6x192 .f32) : IVec S2x1024x6x192 1 × IVec S2x1024x6x192 1 × IVec S2x1024x6x384 1 × IVec S2x1024x6x192 1 × IVec S2x1024x6x192 1 :=
  let main_c : IVec S_ 1 := constantI S_ 1 0#1
  let main_v0 : IVec S2x1024x6x192 1 := broadcastInDim S2x1024x6x192 ![] bcast_S_S2x1024x6x192 main_c
  let main_c_0 : IVec S_ 1 := constantI S_ 1 0#1
  let main_v1 : IVec S2x1024x6x192 1 := broadcastInDim S2x1024x6x192 ![] bcast_S_S2x1024x6x192 main_c_0
  let main_c_1 : IVec S_ 1 := constantI S_ 1 0#1
  let main_v2 : IVec S2x1024x6x384 1 := broadcastInDim S2x1024x6x384 ![] bcast_S_S2x1024x6x384 main_c_1
  let main_c_2 : IVec S_ 1 := constantI S_ 1 1#1
  let main_v3 : IVec S2x1024x6x192 1 := broadcastInDim S2x1024x6x192 ![] bcast_S_S2x1024x6x192 main_c_2
  let main_c_3 : IVec S_ 1 := constantI S_ 1 0#1
  let main_v4 : IVec S2x1024x6x192 1 := broadcastInDim S2x1024x6x192 ![] bcast_S_S2x1024x6x192 main_c_3
  (main_v0, main_v1, main_v2, main_v3, main_v4)
-- ==== Pre_all_finite.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S_ : Shape := ⟨0, ![]⟩

class Facts : Prop where
  bcast_S_S2x1024x6x192 : S_.BroadcastsInDim S2x1024x6x192 (![] : Fin 0 → Fin S2x1024x6x192.rank)
  bcast_S_S2x1024x6x384 : S_.BroadcastsInDim S2x1024x6x384 (![] : Fin 0 → Fin S2x1024x6x384.rank)
  bcast_S_S2x16x6 : S_.BroadcastsInDim S2x16x6 (![] : Fin 0 → Fin S2x16x6.rank)
  bcast_S_S2x1024x6x12 : S_.BroadcastsInDim S2x1024x6x12 (![] : Fin 0 → Fin S2x1024x6x12.rank)

variable [Facts]

def fn_where {F : FTy → Type} [FloatOps F] (arg0 : IVec S2x1024x6x384 1) (arg1 : IVec S2x1024x6x384 1) (arg2 : IVec S2x1024x6x384 1) : IVec S2x1024x6x384 1 :=
  let v0 : IVec S2x1024x6x384 1 := select arg0 arg1 arg2
  v0

def fn_part2 {F : FTy → Type} [FloatOps F] (main_arg5 : FVec F S2x16x6 .f32) (main_arg7 : FVec F S2x1024x6x12 .f32) (main_arg8 : FVec F S2x1024x6x192 .f32) (main_v1 : IVec S2x1024x6x192 1) (main_v3 : IVec S2x1024x6x192 1) (main_v5 : IVec S2x1024x6x192 1) (main_v7 : IVec S2x1024x6x192 1) (main_v9 : IVec S2x1024x6x384 1) (main_v11 : IVec S2x1024x6x384 1) (main_v18 : IVec S2x1024x6x384 1) (main_v21 : IVec S2x16x6 1) (main_v23 : IVec S2x16x6 1) (main_v26 : IVec S2x16x6 1) (main_v28 : IVec S2x16x6 1) (main_v31 : IVec S2x16x6 1) (main_v32 : FVec F S2x16x6 .f32) : IVec S2x1024x6x192 1 × IVec S2x1024x6x192 1 × IVec S2x1024x6x192 1 × IVec S2x1024x6x192 1 × IVec S2x1024x6x384 1 × IVec S2x1024x6x384 1 × IVec S2x1024x6x384 1 × IVec S2x16x6 1 × IVec S2x16x6 1 × IVec S2x16x6 1 × IVec S2x16x6 1 × IVec S2x16x6 1 × IVec S2x16x6 1 × IVec S2x1024x6x12 1 × IVec S2x1024x6x12 1 × IVec S2x1024x6x192 1 × IVec S2x1024x6x192 1 :=
  let main_v33 : IVec S2x16x6 1 := cmpf .olt main_arg5 main_v32
  let main_cst_13 : FVec F S_ .f32 := constant S_ .f32 0x7F800000#32
  let main_v34 : FVec F S_ .f32 := Host.negf main_cst_13
  let main_v35 : FVec F S2x1024x6x12 .f32 := broadcastInDim S2x1024x6x12 ![] bcast_S_S2x1024x6x12 main_v34
  let main_v36 : IVec S2x1024x6x12 1 := cmpf .olt main_v35 main_arg7
  let main_cst_14 : FVec F S_ .f32 := constant S_ .f32 0x7F800000#32
  let main_v37 : FVec F S2x1024x6x12 .f32 := broadcastInDim S2x1024x6x12 ![] bcast_S_S2x1024x6x12 main_cst_14
  let main_v38 : IVec S2x1024x6x12 1 := cmpf .olt main_arg7 main_v37
  let main_cst_15 : FVec F S_ .f32 := constant S_ .f32 0x7F800000#32
  let main_v39 : FVec F S_ .f32 := Host.negf main_cst_15
  let main_v40 : FVec F S2x1024x6x192 .f32 := broadcastInDim S2x1024x6x192 ![] bcast_S_S2x1024x6x192 main_v39
  let main_v41 : IVec S2x1024x6x192 1 := cmpf .olt main_v40 main_arg8
  let main_cst_16 : FVec F S_ .f32 := constant S_ .f32 0x7F800000#32
  let main_v42 : FVec F S2x1024x6x192 .f32 := broadcastInDim S2x1024x6x192 ![] bcast_S_S2x1024x6x192 main_cst_16
  let main_v43 : IVec S2x1024x6x192 1 := cmpf .olt main_arg8 main_v42
  (main_v1, main_v3, main_v5, main_v7, main_v9, main_v11, main_v18, main_v21, main_v23, main_v26, main_v28, main_v31, main_v33, main_v36, main_v38, main_v41, main_v43)

def fn_part1 {F : FTy → Type} [FloatOps F] (main_arg2 : FVec F S2x16x6 .f32) (main_arg3 : FVec F S2x16x6 .f32) (main_arg5 : FVec F S2x16x6 .f32) (main_arg6 : IVec S2x1024x6x384 8) (main_arg7 : FVec F S2x1024x6x12 .f32) (main_arg8 : FVec F S2x1024x6x192 .f32) (main_v1 : IVec S2x1024x6x192 1) (main_v3 : IVec S2x1024x6x192 1) (main_v5 : IVec S2x1024x6x192 1) (main_v7 : IVec S2x1024x6x192 1) (main_v9 : IVec S2x1024x6x384 1) (main_v11 : IVec S2x1024x6x384 1) (main_v13 : IVec S2x1024x6x384 1) (main_v15 : IVec S2x1024x6x384 1) : IVec S2x1024x6x192 1 × IVec S2x1024x6x192 1 × IVec S2x1024x6x192 1 × IVec S2x1024x6x192 1 × IVec S2x1024x6x384 1 × IVec S2x1024x6x384 1 × IVec S2x1024x6x384 1 × IVec S2x16x6 1 × IVec S2x16x6 1 × IVec S2x16x6 1 × IVec S2x16x6 1 × IVec S2x16x6 1 × IVec S2x16x6 1 × IVec S2x1024x6x12 1 × IVec S2x1024x6x12 1 × IVec S2x1024x6x192 1 × IVec S2x1024x6x192 1 :=
  let main_c_7 : IVec S_ 8 := constantI S_ 8 252#8
  let main_v16 : IVec S2x1024x6x384 8 := broadcastInDim S2x1024x6x384 ![] bcast_S_S2x1024x6x384 main_c_7
  let main_v17 : IVec S2x1024x6x384 1 := cmpi .ult main_arg6 main_v16
  let main_v18 : IVec S2x1024x6x384 1 := fn_where (F := F) main_v13 main_v15 main_v17
  let main_cst : FVec F S_ .f32 := constant S_ .f32 0x7F800000#32
  let main_v19 : FVec F S_ .f32 := Host.negf main_cst
  let main_v20 : FVec F S2x16x6 .f32 := broadcastInDim S2x16x6 ![] bcast_S_S2x16x6 main_v19
  let main_v21 : IVec S2x16x6 1 := cmpf .olt main_v20 main_arg2
  let main_cst_8 : FVec F S_ .f32 := constant S_ .f32 0x7F800000#32
  let main_v22 : FVec F S2x16x6 .f32 := broadcastInDim S2x16x6 ![] bcast_S_S2x16x6 main_cst_8
  let main_v23 : IVec S2x16x6 1 := cmpf .olt main_arg2 main_v22
  let main_cst_9 : FVec F S_ .f32 := constant S_ .f32 0x7F800000#32
  let main_v24 : FVec F S_ .f32 := Host.negf main_cst_9
  let main_v25 : FVec F S2x16x6 .f32 := broadcastInDim S2x16x6 ![] bcast_S_S2x16x6 main_v24
  let main_v26 : IVec S2x16x6 1 := cmpf .olt main_v25 main_arg3
  let main_cst_10 : FVec F S_ .f32 := constant S_ .f32 0x7F800000#32
  let main_v27 : FVec F S2x16x6 .f32 := broadcastInDim S2x16x6 ![] bcast_S_S2x16x6 main_cst_10
  let main_v28 : IVec S2x16x6 1 := cmpf .olt main_arg3 main_v27
  let main_cst_11 : FVec F S_ .f32 := constant S_ .f32 0x7F800000#32
  let main_v29 : FVec F S_ .f32 := Host.negf main_cst_11
  let main_v30 : FVec F S2x16x6 .f32 := broadcastInDim S2x16x6 ![] bcast_S_S2x16x6 main_v29
  let main_v31 : IVec S2x16x6 1 := cmpf .olt main_v30 main_arg5
  let main_cst_12 : FVec F S_ .f32 := constant S_ .f32 0x7F800000#32
  let main_v32 : FVec F S2x16x6 .f32 := broadcastInDim S2x16x6 ![] bcast_S_S2x16x6 main_cst_12
  fn_part2 (F := F) main_arg5 main_arg7 main_arg8 main_v1 main_v3 main_v5 main_v7 main_v9 main_v11 main_v18 main_v21 main_v23 main_v26 main_v28 main_v31 main_v32

def fn {F : FTy → Type} [FloatOps F] (main_arg0 : IVec S2x1024x6x192 8) (main_arg1 : IVec S2x1024x6x192 8) (main_arg2 : FVec F S2x16x6 .f32) (main_arg3 : FVec F S2x16x6 .f32) (main_arg4 : IVec S2x1024x6x384 8) (main_arg5 : FVec F S2x16x6 .f32) (main_arg6 : IVec S2x1024x6x384 8) (main_arg7 : FVec F S2x1024x6x12 .f32) (main_arg8 : FVec F S2x1024x6x192 .f32) : IVec S2x1024x6x192 1 × IVec S2x1024x6x192 1 × IVec S2x1024x6x192 1 × IVec S2x1024x6x192 1 × IVec S2x1024x6x384 1 × IVec S2x1024x6x384 1 × IVec S2x1024x6x384 1 × IVec S2x16x6 1 × IVec S2x16x6 1 × IVec S2x16x6 1 × IVec S2x16x6 1 × IVec S2x16x6 1 × IVec S2x16x6 1 × IVec S2x1024x6x12 1 × IVec S2x1024x6x12 1 × IVec S2x1024x6x192 1 × IVec S2x1024x6x192 1 :=
  let main_c : IVec S_ 8 := constantI S_ 8 127#8
  let main_v0 : IVec S2x1024x6x192 8 := broadcastInDim S2x1024x6x192 ![] bcast_S_S2x1024x6x192 main_c
  let main_v1 : IVec S2x1024x6x192 1 := cmpi .ne main_arg0 main_v0
  let main_c_0 : IVec S_ 8 := constantI S_ 8 255#8
  let main_v2 : IVec S2x1024x6x192 8 := broadcastInDim S2x1024x6x192 ![] bcast_S_S2x1024x6x192 main_c_0
  let main_v3 : IVec S2x1024x6x192 1 := cmpi .ne main_arg0 main_v2
  let main_c_1 : IVec S_ 8 := constantI S_ 8 127#8
  let main_v4 : IVec S2x1024x6x192 8 := broadcastInDim S2x1024x6x192 ![] bcast_S_S2x1024x6x192 main_c_1
  let main_v5 : IVec S2x1024x6x192 1 := cmpi .ne main_arg1 main_v4
  let main_c_2 : IVec S_ 8 := constantI S_ 8 255#8
  let main_v6 : IVec S2x1024x6x192 8 := broadcastInDim S2x1024x6x192 ![] bcast_S_S2x1024x6x192 main_c_2
  let main_v7 : IVec S2x1024x6x192 1 := cmpi .ne main_arg1 main_v6
  let main_c_3 : IVec S_ 8 := constantI S_ 8 127#8
  let main_v8 : IVec S2x1024x6x384 8 := broadcastInDim S2x1024x6x384 ![] bcast_S_S2x1024x6x384 main_c_3
  let main_v9 : IVec S2x1024x6x384 1 := cmpi .ne main_arg4 main_v8
  let main_c_4 : IVec S_ 8 := constantI S_ 8 255#8
  let main_v10 : IVec S2x1024x6x384 8 := broadcastInDim S2x1024x6x384 ![] bcast_S_S2x1024x6x384 main_c_4
  let main_v11 : IVec S2x1024x6x384 1 := cmpi .ne main_arg4 main_v10
  let main_c_5 : IVec S_ 8 := constantI S_ 8 128#8
  let main_v12 : IVec S2x1024x6x384 8 := broadcastInDim S2x1024x6x384 ![] bcast_S_S2x1024x6x384 main_c_5
  let main_v13 : IVec S2x1024x6x384 1 := cmpi .ult main_arg6 main_v12
  let main_c_6 : IVec S_ 8 := constantI S_ 8 124#8
  let main_v14 : IVec S2x1024x6x384 8 := broadcastInDim S2x1024x6x384 ![] bcast_S_S2x1024x6x384 main_c_6
  let main_v15 : IVec S2x1024x6x384 1 := cmpi .ult main_arg6 main_v14
  fn_part1 (F := F) main_arg2 main_arg3 main_arg5 main_arg6 main_arg7 main_arg8 main_v1 main_v3 main_v5 main_v7 main_v9 main_v11 main_v13 main_v15
-- ==== Pre_gates_and_scales_tame.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S_ : Shape := ⟨0, ![]⟩

class Facts : Prop where
  bcast_S_S2x1024x6x192 : S_.BroadcastsInDim S2x1024x6x192 (![] : Fin 0 → Fin S2x1024x6x192.rank)
  bcast_S_S2x16x6 : S_.BroadcastsInDim S2x16x6 (![] : Fin 0 → Fin S2x16x6.rank)

variable [Facts]

def fn {F : FTy → Type} [FloatOps F] (main_arg0 : FVec F S2x1024x6x192 .fp8e4m3) (main_arg1 : FVec F S2x1024x6x192 .fp8e4m3) (main_arg2 : FVec F S2x16x6 .f32) (main_arg3 : FVec F S2x16x6 .f32) (main_arg4 : FVec F S2x1024x6x384 .fp8e4m3) (main_arg5 : FVec F S2x16x6 .f32) (main_arg6 : FVec F S2x1024x6x384 .fp8e5m2) (main_arg7 : FVec F S2x1024x6x12 .f32) (main_arg8 : FVec F S2x1024x6x192 .f32) : IVec S2x1024x6x192 1 × IVec S2x16x6 1 × IVec S2x16x6 1 :=
  let main_cst : FVec F S_ .f32 := constant S_ .f32 0x7F800000#32
  let main_v0 : FVec F S2x1024x6x192 .f32 := broadcastInDim S2x1024x6x192 ![] bcast_S_S2x1024x6x192 main_cst
  let main_v1 : IVec S2x1024x6x192 1 := cmpf .olt main_arg8 main_v0
  let main_cst_0 : FVec F S_ .f32 := constant S_ .f32 0x00000000#32
  let main_v2 : FVec F S2x16x6 .f32 := broadcastInDim S2x16x6 ![] bcast_S_S2x16x6 main_cst_0
  let main_v3 : IVec S2x16x6 1 := cmpf .oge main_arg5 main_v2
  let main_cst_1 : FVec F S_ .f32 := constant S_ .f32 0x7F800000#32
  let main_v4 : FVec F S2x16x6 .f32 := broadcastInDim S2x16x6 ![] bcast_S_S2x16x6 main_cst_1
  let main_v5 : IVec S2x16x6 1 := cmpf .olt main_arg5 main_v4
  (main_v1, main_v3, main_v5)
-- ==== Kernel.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S6x2x16 : Shape := ⟨3, ![6, 2, 16]⟩
abbrev S2x6x192x1024 : Shape := ⟨4, ![2, 6, 192, 1024]⟩
abbrev S2x6x1024x384 : Shape := ⟨4, ![2, 6, 1024, 384]⟩
abbrev S6x12x2x1024 : Shape := ⟨4, ![6, 12, 2, 1024]⟩
abbrev S1x1x192x1024 : Shape := ⟨4, ![1, 1, 192, 1024]⟩
abbrev S1x1x1024x384 : Shape := ⟨4, ![1, 1, 1024, 384]⟩
abbrev S1x12x2x1024 : Shape := ⟨4, ![1, 12, 2, 1024]⟩
abbrev S768x256 : Shape := ⟨2, ![768, 256]⟩
abbrev S8x128x768 : Shape := ⟨3, ![8, 128, 768]⟩
abbrev S8x384x128 : Shape := ⟨3, ![8, 384, 128]⟩
abbrev S8x768x128 : Shape := ⟨3, ![8, 768, 128]⟩
abbrev S8x192x128 : Shape := ⟨3, ![8, 192, 128]⟩
abbrev S8x128x128 : Shape := ⟨3, ![8, 128, 128]⟩
abbrev S8x128x192 : Shape := ⟨3, ![8, 128, 192]⟩
abbrev S192x1024 : Shape := ⟨2, ![192, 1024]⟩
abbrev S256x256 : Shape := ⟨2, ![256, 256]⟩
abbrev S1x128 : Shape := ⟨2, ![1, 128]⟩
abbrev S128x128 : Shape := ⟨2, ![128, 128]⟩
abbrev S1x12x1x1024 : Shape := ⟨4, ![1, 12, 1, 1024]⟩
abbrev S12x1024 : Shape := ⟨2, ![12, 1024]⟩
abbrev S192x384 : Shape := ⟨2, ![192, 384]⟩
abbrev S1x1x192x256 : Shape := ⟨4, ![1, 1, 192, 256]⟩
abbrev S192x256 : Shape := ⟨2, ![192, 256]⟩
abbrev S192x768 : Shape := ⟨2, ![192, 768]⟩
abbrev S192x128 : Shape := ⟨2, ![192, 128]⟩
abbrev S192x1 : Shape := ⟨2, ![192, 1]⟩
abbrev S1x1x1 : Shape := ⟨3, ![1, 1, 1]⟩
abbrev S1x1x192x128 : Shape := ⟨4, ![1, 1, 192, 128]⟩
abbrev S1x192x128 : Shape := ⟨3, ![1, 192, 128]⟩
abbrev S128x192 : Shape := ⟨2, ![128, 192]⟩
abbrev S1x128x192 : Shape := ⟨3, ![1, 128, 192]⟩
abbrev S1x1x128x384 : Shape := ⟨4, ![1, 1, 128, 384]⟩
abbrev S128x384 : Shape := ⟨2, ![128, 384]⟩
abbrev S64x384 : Shape := ⟨2, ![64, 384]⟩
abbrev S64x768 : Shape := ⟨2, ![64, 768]⟩
abbrev S128x768 : Shape := ⟨2, ![128, 768]⟩
abbrev S1x128x768 : Shape := ⟨3, ![1, 128, 768]⟩
abbrev S384x128 : Shape := ⟨2, ![384, 128]⟩
abbrev S12x128 : Shape := ⟨2, ![12, 128]⟩
abbrev S12x1x128 : Shape := ⟨3, ![12, 1, 128]⟩
abbrev S12x32x128 : Shape := ⟨3, ![12, 32, 128]⟩
abbrev S1x384x128 : Shape := ⟨3, ![1, 384, 128]⟩
abbrev S768x128 : Shape := ⟨2, ![768, 128]⟩
abbrev S1x768x128 : Shape := ⟨3, ![1, 768, 128]⟩
abbrev S64x128 : Shape := ⟨2, ![64, 128]⟩
abbrev S128x256 : Shape := ⟨2, ![128, 256]⟩
abbrev S1x128x128 : Shape := ⟨3, ![1, 128, 128]⟩
abbrev S64x192 : Shape := ⟨2, ![64, 192]⟩

abbrev nBuf : Space → Nat
  | .hbm => 28
  | .vmem => 33
  | .smem => 3
  | _ => 0

abbrev bufTy : (tb : Table) → Fin (tcTables nBuf tb) → BufTy
  | .hbm, ⟨0, _⟩ => ⟨S2x1024x6x192, .fp8e4m3⟩
  | .hbm, ⟨1, _⟩ => ⟨S2x1024x6x192, .fp8e4m3⟩
  | .hbm, ⟨2, _⟩ => ⟨S2x16x6, .f32⟩
  | .hbm, ⟨3, _⟩ => ⟨S2x16x6, .f32⟩
  | .hbm, ⟨4, _⟩ => ⟨S2x1024x6x384, .fp8e4m3⟩
  | .hbm, ⟨5, _⟩ => ⟨S2x16x6, .f32⟩
  | .hbm, ⟨6, _⟩ => ⟨S2x1024x6x384, .fp8e5m2⟩
  | .hbm, ⟨7, _⟩ => ⟨S2x1024x6x12, .f32⟩
  | .hbm, ⟨8, _⟩ => ⟨S2x1024x6x192, .f32⟩
  | .hbm, ⟨9, _⟩ => ⟨S6x2x16, .f32⟩
  | .hbm, ⟨10, _⟩ => ⟨S6x2x16, .f32⟩
  | .hbm, ⟨11, _⟩ => ⟨S6x2x16, .f32⟩
  | .hbm, ⟨12, _⟩ => ⟨S2x6x192x1024, .fp8e4m3⟩
  | .hbm, ⟨13, _⟩ => ⟨S2x6x192x1024, .fp8e4m3⟩
  | .hbm, ⟨14, _⟩ => ⟨S2x6x1024x384, .fp8e4m3⟩
  | .hbm, ⟨15, _⟩ => ⟨S2x6x1024x384, .fp8e5m2⟩
  | .hbm, ⟨16, _⟩ => ⟨S6x12x2x1024, .f32⟩
  | .hbm, ⟨17, _⟩ => ⟨S2x6x192x1024, .f32⟩
  | .hbm, ⟨18, _⟩ => ⟨S2x6x192x1024, .bf16⟩
  | .hbm, ⟨19, _⟩ => ⟨S2x6x192x1024, .bf16⟩
  | .hbm, ⟨20, _⟩ => ⟨S2x6x1024x384, .bf16⟩
  | .hbm, ⟨21, _⟩ => ⟨S2x6x192x1024, .f32⟩
  | .hbm, ⟨22, _⟩ => ⟨S2x6x192x1024, .f32⟩
  | .hbm, ⟨23, _⟩ => ⟨S2x1024x6x192, .bf16⟩
  | .hbm, ⟨24, _⟩ => ⟨S2x1024x6x192, .bf16⟩
  | .hbm, ⟨25, _⟩ => ⟨S2x1024x6x384, .bf16⟩
  | .hbm, ⟨26, _⟩ => ⟨S2x1024x6x192, .f32⟩
  | .hbm, ⟨27, _⟩ => ⟨S2x1024x6x192, .f32⟩
  | .local _ .vmem, ⟨0, _⟩ => ⟨S1x1x192x1024, .fp8e4m3⟩
  | .local _ .vmem, ⟨1, _⟩ => ⟨S1x1x192x1024, .fp8e4m3⟩
  | .local _ .vmem, ⟨2, _⟩ => ⟨S1x1x192x1024, .fp8e4m3⟩
  | .local _ .vmem, ⟨3, _⟩ => ⟨S1x1x192x1024, .fp8e4m3⟩
  | .local _ .vmem, ⟨4, _⟩ => ⟨S1x1x1024x384, .fp8e4m3⟩
  | .local _ .vmem, ⟨5, _⟩ => ⟨S1x1x1024x384, .fp8e4m3⟩
  | .local _ .vmem, ⟨6, _⟩ => ⟨S1x1x1024x384, .fp8e5m2⟩
  | .local _ .vmem, ⟨7, _⟩ => ⟨S1x1x1024x384, .fp8e5m2⟩
  | .local _ .vmem, ⟨8, _⟩ => ⟨S1x12x2x1024, .f32⟩
  | .local _ .vmem, ⟨9, _⟩ => ⟨S1x12x2x1024, .f32⟩
  | .local _ .vmem, ⟨10, _⟩ => ⟨S1x1x192x1024, .f32⟩
  | .local _ .vmem, ⟨11, _⟩ => ⟨S1x1x192x1024, .f32⟩
  | .local _ .vmem, ⟨12, _⟩ => ⟨S1x1x192x1024, .bf16⟩
  | .local _ .vmem, ⟨13, _⟩ => ⟨S1x1x192x1024, .bf16⟩
  | .local _ .vmem, ⟨14, _⟩ => ⟨S1x1x192x1024, .bf16⟩
  | .local _ .vmem, ⟨15, _⟩ => ⟨S1x1x192x1024, .bf16⟩
  | .local _ .vmem, ⟨16, _⟩ => ⟨S1x1x1024x384, .bf16⟩
  | .local _ .vmem, ⟨17, _⟩ => ⟨S1x1x1024x384, .bf16⟩
  | .local _ .vmem, ⟨18, _⟩ => ⟨S1x1x192x1024, .f32⟩
  | .local _ .vmem, ⟨19, _⟩ => ⟨S1x1x192x1024, .f32⟩
  | .local _ .vmem, ⟨20, _⟩ => ⟨S1x1x192x1024, .f32⟩
  | .local _ .vmem, ⟨21, _⟩ => ⟨S1x1x192x1024, .f32⟩
  | .local _ .vmem, ⟨22, _⟩ => ⟨S768x256, .bf16⟩
  | .local _ .vmem, ⟨23, _⟩ => ⟨S768x256, .bf16⟩
  | .local _ .vmem, ⟨24, _⟩ => ⟨S8x128x768, .bf16⟩
  | .local _ .vmem, ⟨25, _⟩ => ⟨S8x384x128, .bf16⟩
  | .local _ .vmem, ⟨26, _⟩ => ⟨S8x768x128, .bf16⟩
  | .local _ .vmem, ⟨27, _⟩ => ⟨S8x192x128, .bf16⟩
  | .local _ .vmem, ⟨28, _⟩ => ⟨S8x128x128, .bf16⟩
  | .local _ .vmem, ⟨29, _⟩ => ⟨S8x128x192, .bf16⟩
  | .local _ .vmem, ⟨30, _⟩ => ⟨S192x1024, .f32⟩
  | .local _ .vmem, ⟨31, _⟩ => ⟨S192x1024, .f32⟩
  | .local _ .vmem, ⟨32, _⟩ => ⟨S192x1024, .f32⟩
  | .local _ .smem, ⟨0, _⟩ => ⟨S6x2x16, .f32⟩
  | .local _ .smem, ⟨1, _⟩ => ⟨S6x2x16, .f32⟩
  | .local _ .smem, ⟨2, _⟩ => ⟨S6x2x16, .f32⟩
  | _, _ => ⟨S2x1024x6x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![6, 2], ![false, false]⟩

def k0_off1 (i : grid0.Coords) : Fin 4 → Nat :=
  let c0 : Index := 0#32
  let c0_15 : Index := 0#32
  let arg1 : BitVec 32 := BitVec.ofNat 32 (i 1).val
  let v61 : Index := Scalar.indexCast arg1
  let c0_16 : Index := 0#32
  ![0, 0, v61.toNat, 0]
def k0_off2 (i : grid0.Coords) : Fin 3 → Nat :=
  let arg0 : BitVec 32 := BitVec.ofNat 32 (i 0).val
  let v97 : Index := Scalar.indexCast arg0
  let arg1 : BitVec 32 := BitVec.ofNat 32 (i 1).val
  let v98 : Index := Scalar.indexCast arg1
  let c0_26 : Index := 0#32
  ![v97.toNat, v98.toNat, 0]
def k0_off3 (i : grid0.Coords) : Fin 3 → Nat :=
  let arg0 : BitVec 32 := BitVec.ofNat 32 (i 0).val
  let v100 : Index := Scalar.indexCast arg0
  let arg1 : BitVec 32 := BitVec.ofNat 32 (i 1).val
  let v101 : Index := Scalar.indexCast arg1
  let c1 : Index := 1#32
  ![v100.toNat, v101.toNat, 1]
def k0_off4 (i : grid0.Coords) : Fin 3 → Nat :=
  let arg0 : BitVec 32 := BitVec.ofNat 32 (i 0).val
  let v275 : Index := Scalar.indexCast arg0
  let arg1 : BitVec 32 := BitVec.ofNat 32 (i 1).val
  let v276 : Index := Scalar.indexCast arg1
  let c2 : Index := 2#32
  ![v275.toNat, v276.toNat, 2]
def k0_off5 (i : grid0.Coords) : Fin 3 → Nat :=
  let arg0 : BitVec 32 := BitVec.ofNat 32 (i 0).val
  let v278 : Index := Scalar.indexCast arg0
  let arg1 : BitVec 32 := BitVec.ofNat 32 (i 1).val
  let v279 : Index := Scalar.indexCast arg1
  let c3 : Index := 3#32
  ![v278.toNat, v279.toNat, 3]
def k0_off6 (i : grid0.Coords) : Fin 3 → Nat :=
  let arg0 : BitVec 32 := BitVec.ofNat 32 (i 0).val
  let v465 : Index := Scalar.indexCast arg0
  let arg1 : BitVec 32 := BitVec.ofNat 32 (i 1).val
  let v466 : Index := Scalar.indexCast arg1
  let c4 : Index := 4#32
  ![v465.toNat, v466.toNat, 4]
def k0_off7 (i : grid0.Coords) : Fin 3 → Nat :=
  let arg0 : BitVec 32 := BitVec.ofNat 32 (i 0).val
  let v468 : Index := Scalar.indexCast arg0
  let arg1 : BitVec 32 := BitVec.ofNat 32 (i 1).val
  let v469 : Index := Scalar.indexCast arg1
  let c5 : Index := 5#32
  ![v468.toNat, v469.toNat, 5]
def k0_off8 (i : grid0.Coords) : Fin 3 → Nat :=
  let arg0 : BitVec 32 := BitVec.ofNat 32 (i 0).val
  let v643 : Index := Scalar.indexCast arg0
  let arg1 : BitVec 32 := BitVec.ofNat 32 (i 1).val
  let v644 : Index := Scalar.indexCast arg1
  let c6 : Index := 6#32
  ![v643.toNat, v644.toNat, 6]
def k0_off9 (i : grid0.Coords) : Fin 3 → Nat :=
  let arg0 : BitVec 32 := BitVec.ofNat 32 (i 0).val
  let v646 : Index := Scalar.indexCast arg0
  let arg1 : BitVec 32 := BitVec.ofNat 32 (i 1).val
  let v647 : Index := Scalar.indexCast arg1
  let c7 : Index := 7#32
  ![v646.toNat, v647.toNat, 7]
def k0_off10 (i : grid0.Coords) : Fin 3 → Nat :=
  let arg0 : BitVec 32 := BitVec.ofNat 32 (i 0).val
  let v833 : Index := Scalar.indexCast arg0
  let arg1 : BitVec 32 := BitVec.ofNat 32 (i 1).val
  let v834 : Index := Scalar.indexCast arg1
  let c8 : Index := 8#32
  ![v833.toNat, v834.toNat, 8]
def k0_off11 (i : grid0.Coords) : Fin 3 → Nat :=
  let arg0 : BitVec 32 := BitVec.ofNat 32 (i 0).val
  let v836 : Index := Scalar.indexCast arg0
  let arg1 : BitVec 32 := BitVec.ofNat 32 (i 1).val
  let v837 : Index := Scalar.indexCast arg1
  let c9 : Index := 9#32
  ![v836.toNat, v837.toNat, 9]
def k0_off12 (i : grid0.Coords) : Fin 3 → Nat :=
  let arg0 : BitVec 32 := BitVec.ofNat 32 (i 0).val
  let v1011 : Index := Scalar.indexCast arg0
  let arg1 : BitVec 32 := BitVec.ofNat 32 (i 1).val
  let v1012 : Index := Scalar.indexCast arg1
  let c10 : Index := 10#32
  ![v1011.toNat, v1012.toNat, 10]
def k0_off13 (i : grid0.Coords) : Fin 3 → Nat :=
  let arg0 : BitVec 32 := BitVec.ofNat 32 (i 0).val
  let v1014 : Index := Scalar.indexCast arg0
  let arg1 : BitVec 32 := BitVec.ofNat 32 (i 1).val
  let v1015 : Index := Scalar.indexCast arg1
  let c11 : Index := 11#32
  ![v1014.toNat, v1015.toNat, 11]
def k0_off14 (i : grid0.Coords) : Fin 3 → Nat :=
  let arg0 : BitVec 32 := BitVec.ofNat 32 (i 0).val
  let v1201 : Index := Scalar.indexCast arg0
  let arg1 : BitVec 32 := BitVec.ofNat 32 (i 1).val
  let v1202 : Index := Scalar.indexCast arg1
  let c12 : Index := 12#32
  ![v1201.toNat, v1202.toNat, 12]
def k0_off15 (i : grid0.Coords) : Fin 3 → Nat :=
  let arg0 : BitVec 32 := BitVec.ofNat 32 (i 0).val
  let v1204 : Index := Scalar.indexCast arg0
  let arg1 : BitVec 32 := BitVec.ofNat 32 (i 1).val
  let v1205 : Index := Scalar.indexCast arg1
  let c13 : Index := 13#32
  ![v1204.toNat, v1205.toNat, 13]
def k0_off16 (i : grid0.Coords) : Fin 3 → Nat :=
  let arg0 : BitVec 32 := BitVec.ofNat 32 (i 0).val
  let v1379 : Index := Scalar.indexCast arg0
  let arg1 : BitVec 32 := BitVec.ofNat 32 (i 1).val
  let v1380 : Index := Scalar.indexCast arg1
  let c14 : Index := 14#32
  ![v1379.toNat, v1380.toNat, 14]
def k0_off17 (i : grid0.Coords) : Fin 3 → Nat :=
  let arg0 : BitVec 32 := BitVec.ofNat 32 (i 0).val
  let v1382 : Index := Scalar.indexCast arg0
  let arg1 : BitVec 32 := BitVec.ofNat 32 (i 1).val
  let v1383 : Index := Scalar.indexCast arg1
  let c15 : Index := 15#32
  ![v1382.toNat, v1383.toNat, 15]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S6x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x192x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x192x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x384 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x12x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x192x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x192x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x192x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S2x16x64x6x192 : Shape := ⟨5, ![2, 16, 64, 6, 192]⟩
abbrev S2x16x1x6x1 : Shape := ⟨5, ![2, 16, 1, 6, 1]⟩
abbrev S_ : Shape := ⟨0, ![]⟩
abbrev S2x16x1x6x192 : Shape := ⟨5, ![2, 16, 1, 6, 192]⟩
abbrev S2x16x6x192 : Shape := ⟨4, ![2, 16, 6, 192]⟩
abbrev S2x16x64x6x384 : Shape := ⟨5, ![2, 16, 64, 6, 384]⟩
abbrev S2x16x64x6x12x32 : Shape := ⟨6, ![2, 16, 64, 6, 12, 32]⟩
abbrev S2x16x64x6x12x1 : Shape := ⟨6, ![2, 16, 64, 6, 12, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x16x6x64x64 : Shape := ⟨5, ![2, 16, 6, 64, 64]⟩
abbrev S2x16x6x1x1 : Shape := ⟨5, ![2, 16, 6, 1, 1]⟩
abbrev S16x2x6x192 : Shape := ⟨4, ![16, 2, 6, 192]⟩
abbrev S16x2x6x192x1 : Shape := ⟨5, ![16, 2, 6, 192, 1]⟩
abbrev S16x2x6x192x384 : Shape := ⟨5, ![16, 2, 6, 192, 384]⟩
abbrev S16x2x6 : Shape := ⟨3, ![16, 2, 6]⟩
abbrev S16x2x6x1x1 : Shape := ⟨5, ![16, 2, 6, 1, 1]⟩
abbrev S1x2x6x192x384 : Shape := ⟨5, ![1, 2, 6, 192, 384]⟩
abbrev S2x16x6x192x64 : Shape := ⟨5, ![2, 16, 6, 192, 64]⟩
abbrev S2x16x6x384x64 : Shape := ⟨5, ![2, 16, 6, 384, 64]⟩

abbrev nBuf : Space → Nat
  | .hbm => 249
  | .vmem => 8
  | .smem => 0
  | _ => 0

abbrev hbmTy0_0 (i : Nat) : BufTy := match i % 128 with
  | 0 => ⟨S2x1024x6x192, .fp8e4m3⟩
  | 1 => ⟨S2x1024x6x192, .fp8e4m3⟩
  | 2 => ⟨S2x16x6, .f32⟩
  | 3 => ⟨S2x16x6, .f32⟩
  | 4 => ⟨S2x1024x6x384, .fp8e4m3⟩
  | 5 => ⟨S2x16x6, .f32⟩
  | 6 => ⟨S2x1024x6x384, .fp8e5m2⟩
  | 7 => ⟨S2x1024x6x12, .f32⟩
  | 8 => ⟨S2x1024x6x192, .f32⟩
  | 9 => ⟨S2x1024x6x192, .f32⟩
  | 10 => ⟨S2x1024x6x192, .f32⟩
  | 11 => ⟨S2x1024x6x384, .bf16⟩
  | 12 => ⟨S2x1024x6x384, .bf16⟩
  | 13 => ⟨S2x16x64x6x192, .f32⟩
  | 14 => ⟨S2x16x1x6x1, .f32⟩
  | 15 => ⟨S2x16x64x6x192, .f32⟩
  | 16 => ⟨S2x16x64x6x192, .f32⟩
  | 17 => ⟨S2x16x64x6x192, .f32⟩
  | 18 => ⟨S2x16x1x6x1, .f32⟩
  | 19 => ⟨S2x16x64x6x192, .f32⟩
  | 20 => ⟨S2x16x64x6x192, .f32⟩
  | 21 => ⟨S2x16x64x6x192, .f32⟩
  | 22 => ⟨S_, .f32⟩
  | 23 => ⟨S_, .f32⟩
  | 24 => ⟨S2x16x64x6x192, .f32⟩
  | 25 => ⟨S2x16x1x6x192, .f32⟩
  | 26 => ⟨S2x16x6x192, .f32⟩
  | 27 => ⟨S2x16x64x6x192, .f32⟩
  | 28 => ⟨S2x16x64x6x192, .f32⟩
  | 29 => ⟨S2x16x64x6x192, .f32⟩
  | 30 => ⟨S2x16x1x6x192, .f32⟩
  | 31 => ⟨S2x16x64x6x192, .f32⟩
  | 32 => ⟨S2x16x64x6x192, .f32⟩
  | 33 => ⟨S2x16x64x6x192, .f32⟩
  | 34 => ⟨S_, .f32⟩
  | 35 => ⟨S2x16x64x6x192, .f32⟩
  | 36 => ⟨S2x16x64x6x192, .f32⟩
  | 37 => ⟨S2x16x64x6x192, .f32⟩
  | 38 => ⟨S2x16x64x6x192, .bf16⟩
  | 39 => ⟨S2x16x64x6x192, .f32⟩
  | 40 => ⟨S2x16x64x6x192, .bf16⟩
  | 41 => ⟨S2x16x64x6x192, .f32⟩
  | 42 => ⟨S2x16x64x6x192, .bf16⟩
  | 43 => ⟨S2x16x64x6x384, .bf16⟩
  | 44 => ⟨S2x16x64x6x12x32, .bf16⟩
  | 45 => ⟨S2x16x64x6x12x1, .f32⟩
  | 46 => ⟨S2x16x64x6x12x1, .bf16⟩
  | 47 => ⟨S2x16x64x6x12x32, .bf16⟩
  | 48 => ⟨S2x16x64x6x12x32, .bf16⟩
  | 49 => ⟨S2x16x64x6x384, .bf16⟩
  | 50 => ⟨S64, .i32⟩
  | 51 => ⟨S64x1, .i32⟩
  | 52 => ⟨S64, .i32⟩
  | 53 => ⟨S1x64, .i32⟩
  | 54 => ⟨S64x64, .i32⟩
  | 55 => ⟨S64x64, .i32⟩
  | 56 => ⟨S64x64, .i1⟩
  | 57 => ⟨S2x16x6x64x64, .f32⟩
  | 58 => ⟨S2x16x6x1x1, .f32⟩
  | 59 => ⟨S2x16x6x64x64, .f32⟩
  | 60 => ⟨S2x16x6x64x64, .f32⟩
  | 61 => ⟨S2x16x6x64x64, .f32⟩
  | 62 => ⟨S_, .f32⟩
  | 63 => ⟨S_, .f32⟩
  | 64 => ⟨S2x16x6x64x64, .i1⟩
  | 65 => ⟨S2x16x6x64x64, .f32⟩
  | 66 => ⟨S2x16x6x64x64, .f32⟩
  | 67 => ⟨S2x16x6x64x64, .bf16⟩
  | 68 => ⟨S_, .f32⟩
  | 69 => ⟨S_, .f32⟩
  | 70 => ⟨S2x16x6x64x64, .i1⟩
  | 71 => ⟨S2x16x6x64x64, .f32⟩
  | 72 => ⟨S2x16x6x64x64, .f32⟩
  | 73 => ⟨S2x16x6x64x64, .bf16⟩
  | 74 => ⟨S2x16x6x192, .f32⟩
  | 75 => ⟨S16x2x6x192, .f32⟩
  | 76 => ⟨S16x2x6x192x1, .f32⟩
  | 77 => ⟨S16x2x6x192x384, .f32⟩
  | 78 => ⟨S16x2x6, .f32⟩
  | 79 => ⟨S16x2x6x1x1, .f32⟩
  | 80 => ⟨S16x2x6x192x384, .f32⟩
  | 81 => ⟨S16x2x6x192x384, .f32⟩
  | 82 => ⟨S16x2x6x192x384, .f32⟩
  | 83 => ⟨S16x2x6x192x384, .f32⟩
  | 84 => ⟨S_, .f32⟩
  | 85 => ⟨S1x2x6x192x384, .f32⟩
  | 86 => ⟨S1x2x6x192x384, .f32⟩
  | 87 => ⟨S1x2x6x192x384, .f32⟩
  | 88 => ⟨S1x2x6x192x384, .f32⟩
  | 89 => ⟨S1x2x6x192x384, .f32⟩
  | 90 => ⟨S1x2x6x192x384, .f32⟩
  | 91 => ⟨S1x2x6x192x384, .f32⟩
  | 92 => ⟨S1x2x6x192x384, .f32⟩
  | 93 => ⟨S1x2x6x192x384, .f32⟩
  | 94 => ⟨S1x2x6x192x384, .f32⟩
  | 95 => ⟨S1x2x6x192x384, .f32⟩
  | 96 => ⟨S1x2x6x192x384, .f32⟩
  | 97 => ⟨S1x2x6x192x384, .f32⟩
  | 98 => ⟨S1x2x6x192x384, .f32⟩
  | 99 => ⟨S1x2x6x192x384, .f32⟩
  | 100 => ⟨S1x2x6x192x384, .f32⟩
  | 101 => ⟨S1x2x6x192x384, .f32⟩
  | 102 => ⟨S1x2x6x192x384, .f32⟩
  | 103 => ⟨S1x2x6x192x384, .f32⟩
  | 104 => ⟨S1x2x6x192x384, .f32⟩
  | 105 => ⟨S1x2x6x192x384, .f32⟩
  | 106 => ⟨S1x2x6x192x384, .f32⟩
  | 107 => ⟨S1x2x6x192x384, .f32⟩
  | 108 => ⟨S1x2x6x192x384, .f32⟩
  | 109 => ⟨S1x2x6x192x384, .f32⟩
  | 110 => ⟨S1x2x6x192x384, .f32⟩
  | 111 => ⟨S1x2x6x192x384, .f32⟩
  | 112 => ⟨S1x2x6x192x384, .f32⟩
  | 113 => ⟨S1x2x6x192x384, .f32⟩
  | 114 => ⟨S1x2x6x192x384, .f32⟩
  | 115 => ⟨S1x2x6x192x384, .f32⟩
  | 116 => ⟨S1x2x6x192x384, .f32⟩
  | 117 => ⟨S1x2x6x192x384, .f32⟩
  | 118 => ⟨S1x2x6x192x384, .f32⟩
  | 119 => ⟨S1x2x6x192x384, .f32⟩
  | 120 => ⟨S1x2x6x192x384, .f32⟩
  | 121 => ⟨S1x2x6x192x384, .f32⟩
  | 122 => ⟨S1x2x6x192x384, .f32⟩
  | 123 => ⟨S1x2x6x192x384, .f32⟩
  | 124 => ⟨S1x2x6x192x384, .f32⟩
  | 125 => ⟨S1x2x6x192x384, .f32⟩
  | 126 => ⟨S1x2x6x192x384, .f32⟩
  | 127 => ⟨S1x2x6x192x384, .f32⟩
  | _ => ⟨S2x1024x6x192, .fp8e4m3⟩

abbrev hbmTy0_1 (i : Nat) : BufTy := match i % 128 with
  | 0 => ⟨S1x2x6x192x384, .f32⟩
  | 1 => ⟨S1x2x6x192x384, .f32⟩
  | 2 => ⟨S1x2x6x192x384, .f32⟩
  | 3 => ⟨S1x2x6x192x384, .f32⟩
  | 4 => ⟨S1x2x6x192x384, .f32⟩
  | 5 => ⟨S1x2x6x192x384, .f32⟩
  | 6 => ⟨S1x2x6x192x384, .f32⟩
  | 7 => ⟨S1x2x6x192x384, .f32⟩
  | 8 => ⟨S1x2x6x192x384, .f32⟩
  | 9 => ⟨S1x2x6x192x384, .f32⟩
  | 10 => ⟨S1x2x6x192x384, .f32⟩
  | 11 => ⟨S1x2x6x192x384, .f32⟩
  | 12 => ⟨S1x2x6x192x384, .f32⟩
  | 13 => ⟨S1x2x6x192x384, .f32⟩
  | 14 => ⟨S1x2x6x192x384, .f32⟩
  | 15 => ⟨S1x2x6x192x384, .f32⟩
  | 16 => ⟨S1x2x6x192x384, .f32⟩
  | 17 => ⟨S1x2x6x192x384, .f32⟩
  | 18 => ⟨S16x2x6x192x384, .f32⟩
  | 19 => ⟨S_, .f32⟩
  | 20 => ⟨S1x2x6x192x384, .f32⟩
  | 21 => ⟨S1x2x6x192x384, .f32⟩
  | 22 => ⟨S1x2x6x192x384, .f32⟩
  | 23 => ⟨S1x2x6x192x384, .f32⟩
  | 24 => ⟨S1x2x6x192x384, .f32⟩
  | 25 => ⟨S1x2x6x192x384, .f32⟩
  | 26 => ⟨S1x2x6x192x384, .f32⟩
  | 27 => ⟨S1x2x6x192x384, .f32⟩
  | 28 => ⟨S1x2x6x192x384, .f32⟩
  | 29 => ⟨S1x2x6x192x384, .f32⟩
  | 30 => ⟨S1x2x6x192x384, .f32⟩
  | 31 => ⟨S1x2x6x192x384, .f32⟩
  | 32 => ⟨S1x2x6x192x384, .f32⟩
  | 33 => ⟨S1x2x6x192x384, .f32⟩
  | 34 => ⟨S1x2x6x192x384, .f32⟩
  | 35 => ⟨S1x2x6x192x384, .f32⟩
  | 36 => ⟨S1x2x6x192x384, .f32⟩
  | 37 => ⟨S1x2x6x192x384, .f32⟩
  | 38 => ⟨S1x2x6x192x384, .f32⟩
  | 39 => ⟨S1x2x6x192x384, .f32⟩
  | 40 => ⟨S1x2x6x192x384, .f32⟩
  | 41 => ⟨S1x2x6x192x384, .f32⟩
  | 42 => ⟨S1x2x6x192x384, .f32⟩
  | 43 => ⟨S1x2x6x192x384, .f32⟩
  | 44 => ⟨S1x2x6x192x384, .f32⟩
  | 45 => ⟨S1x2x6x192x384, .f32⟩
  | 46 => ⟨S1x2x6x192x384, .f32⟩
  | 47 => ⟨S1x2x6x192x384, .f32⟩
  | 48 => ⟨S1x2x6x192x384, .f32⟩
  | 49 => ⟨S1x2x6x192x384, .f32⟩
  | 50 => ⟨S1x2x6x192x384, .f32⟩
  | 51 => ⟨S1x2x6x192x384, .f32⟩
  | 52 => ⟨S1x2x6x192x384, .f32⟩
  | 53 => ⟨S1x2x6x192x384, .f32⟩
  | 54 => ⟨S1x2x6x192x384, .f32⟩
  | 55 => ⟨S1x2x6x192x384, .f32⟩
  | 56 => ⟨S1x2x6x192x384, .f32⟩
  | 57 => ⟨S1x2x6x192x384, .f32⟩
  | 58 => ⟨S1x2x6x192x384, .f32⟩
  | 59 => ⟨S1x2x6x192x384, .f32⟩
  | 60 => ⟨S1x2x6x192x384, .f32⟩
  | 61 => ⟨S1x2x6x192x384, .f32⟩
  | 62 => ⟨S1x2x6x192x384, .f32⟩
  | 63 => ⟨S1x2x6x192x384, .f32⟩
  | 64 => ⟨S1x2x6x192x384, .f32⟩
  | 65 => ⟨S1x2x6x192x384, .f32⟩
  | 66 => ⟨S1x2x6x192x384, .f32⟩
  | 67 => ⟨S1x2x6x192x384, .f32⟩
  | 68 => ⟨S1x2x6x192x384, .f32⟩
  | 69 => ⟨S1x2x6x192x384, .f32⟩
  | 70 => ⟨S1x2x6x192x384, .f32⟩
  | 71 => ⟨S1x2x6x192x384, .f32⟩
  | 72 => ⟨S1x2x6x192x384, .f32⟩
  | 73 => ⟨S1x2x6x192x384, .f32⟩
  | 74 => ⟨S1x2x6x192x384, .f32⟩
  | 75 => ⟨S1x2x6x192x384, .f32⟩
  | 76 => ⟨S1x2x6x192x384, .f32⟩
  | 77 => ⟨S1x2x6x192x384, .f32⟩
  | 78 => ⟨S1x2x6x192x384, .f32⟩
  | 79 => ⟨S1x2x6x192x384, .f32⟩
  | 80 => ⟨S1x2x6x192x384, .f32⟩
  | 81 => ⟨S16x2x6x192x384, .f32⟩
  | 82 => ⟨S16x2x6x192x384, .bf16⟩
  | 83 => ⟨S16x2x6x192x384, .bf16⟩
  | 84 => ⟨S_, .f32⟩
  | 85 => ⟨S2x16x64x6x192, .f32⟩
  | 86 => ⟨S2x16x64x6x192, .f32⟩
  | 87 => ⟨S2x16x6x192x64, .f32⟩
  | 88 => ⟨S2x16x64x6x192, .f32⟩
  | 89 => ⟨S2x16x6x192x64, .f32⟩
  | 90 => ⟨S2x16x64x6x192, .f32⟩
  | 91 => ⟨S2x16x64x6x192, .f32⟩
  | 92 => ⟨S2x16x64x6x192, .f32⟩
  | 93 => ⟨S2x16x1x6x1, .f32⟩
  | 94 => ⟨S2x16x6x192x64, .f32⟩
  | 95 => ⟨S2x16x64x6x192, .f32⟩
  | 96 => ⟨S2x16x64x6x192, .f32⟩
  | 97 => ⟨S2x16x64x6x192, .f32⟩
  | 98 => ⟨S2x16x64x6x192, .f32⟩
  | 99 => ⟨S2x16x6x192x64, .f32⟩
  | 100 => ⟨S2x16x64x6x192, .f32⟩
  | 101 => ⟨S2x16x64x6x192, .f32⟩
  | 102 => ⟨S2x16x64x6x192, .f32⟩
  | 103 => ⟨S2x16x6x384x64, .f32⟩
  | 104 => ⟨S2x16x64x6x384, .f32⟩
  | 105 => ⟨S2x16x6x384x64, .f32⟩
  | 106 => ⟨S2x16x64x6x384, .f32⟩
  | 107 => ⟨S2x16x64x6x384, .f32⟩
  | 108 => ⟨S2x16x64x6x192, .f32⟩
  | 109 => ⟨S2x16x64x6x192, .f32⟩
  | 110 => ⟨S2x16x64x6x192, .f32⟩
  | 111 => ⟨S2x1024x6x192, .f32⟩
  | 112 => ⟨S_, .f32⟩
  | 113 => ⟨S_, .f32⟩
  | 114 => ⟨S2x1024x6x192, .f32⟩
  | 115 => ⟨S2x16x64x6x192, .bf16⟩
  | 116 => ⟨S2x1024x6x192, .bf16⟩
  | 117 => ⟨S2x16x64x6x192, .bf16⟩
  | 118 => ⟨S2x1024x6x192, .bf16⟩
  | 119 => ⟨S2x16x64x6x384, .bf16⟩
  | 120 => ⟨S2x1024x6x384, .bf16⟩
  | _ => ⟨S2x1024x6x192, .fp8e4m3⟩

abbrev hbmTy (i : Nat) : BufTy := match i / 128 with
  | 0 => hbmTy0_0 i
  | 1 => hbmTy0_1 i
  | _ => ⟨S2x1024x6x192, .fp8e4m3⟩

abbrev bufTy : (tb : Table) → Fin (tcTables nBuf tb) → BufTy
  | .hbm, ⟨i, _⟩ => hbmTy i
  | .local _ .vmem, ⟨0, _⟩ => ⟨S2x1024x6x192, .fp8e4m3⟩
  | .local _ .vmem, ⟨1, _⟩ => ⟨S2x1024x6x192, .fp8e4m3⟩
  | .local _ .vmem, ⟨2, _⟩ => ⟨S2x1024x6x384, .fp8e4m3⟩
  | .local _ .vmem, ⟨3, _⟩ => ⟨S2x1024x6x384, .fp8e5m2⟩
  | .local _ .vmem, ⟨4, _⟩ => ⟨S2x1024x6x192, .f32⟩
  | .local _ .vmem, ⟨5, _⟩ => ⟨S2x1024x6x192, .f32⟩
  | .local _ .vmem, ⟨6, _⟩ => ⟨S2x1024x6x384, .bf16⟩
  | .local _ .vmem, ⟨7, _⟩ => ⟨S2x1024x6x384, .bf16⟩
  | _, _ => ⟨S2x1024x6x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_0 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v47 : Ref sig .tc := ⟨.hbm, 66, rfl⟩
abbrev main_v48 : Ref sig .tc := ⟨.hbm, 67, rfl⟩
abbrev main_cst_1 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_v15 : Ref sig .tc := ⟨.hbm, 100, rfl⟩
abbrev main_call3_v16 : Ref sig .tc := ⟨.hbm, 101, rfl⟩
abbrev main_call3_v17 : Ref sig .tc := ⟨.hbm, 102, rfl⟩
abbrev main_call3_v18 : Ref sig .tc := ⟨.hbm, 103, rfl⟩
abbrev main_call3_v19 : Ref sig .tc := ⟨.hbm, 104, rfl⟩
abbrev main_call3_v20 : Ref sig .tc := ⟨.hbm, 105, rfl⟩
abbrev main_call3_v21 : Ref sig .tc := ⟨.hbm, 106, rfl⟩
abbrev main_call3_v22 : Ref sig .tc := ⟨.hbm, 107, rfl⟩
abbrev main_call3_v23 : Ref sig .tc := ⟨.hbm, 108, rfl⟩
abbrev main_call3_v24 : Ref sig .tc := ⟨.hbm, 109, rfl⟩
abbrev main_call3_v25 : Ref sig .tc := ⟨.hbm, 110, rfl⟩
abbrev main_call3_v26 : Ref sig .tc := ⟨.hbm, 111, rfl⟩
abbrev main_call3_v27 : Ref sig .tc := ⟨.hbm, 112, rfl⟩
abbrev main_call3_v28 : Ref sig .tc := ⟨.hbm, 113, rfl⟩
abbrev main_call3_v29 : Ref sig .tc := ⟨.hbm, 114, rfl⟩
abbrev main_call3_v30 : Ref sig .tc := ⟨.hbm, 115, rfl⟩
abbrev main_call3_v31 : Ref sig .tc := ⟨.hbm, 116, rfl⟩
abbrev main_call3_v32 : Ref sig .tc := ⟨.hbm, 117, rfl⟩
abbrev main_call3_v33 : Ref sig .tc := ⟨.hbm, 118, rfl⟩
abbrev main_call3_v34 : Ref sig .tc := ⟨.hbm, 119, rfl⟩
abbrev main_call3_v35 : Ref sig .tc := ⟨.hbm, 120, rfl⟩
abbrev main_call3_v36 : Ref sig .tc := ⟨.hbm, 121, rfl⟩
abbrev main_call3_v37 : Ref sig .tc := ⟨.hbm, 122, rfl⟩
abbrev main_call3_v38 : Ref sig .tc := ⟨.hbm, 123, rfl⟩
abbrev main_call3_v39 : Ref sig .tc := ⟨.hbm, 124, rfl⟩
abbrev main_call3_v40 : Ref sig .tc := ⟨.hbm, 125, rfl⟩
abbrev main_call3_v41 : Ref sig .tc := ⟨.hbm, 126, rfl⟩
abbrev main_call3_v42 : Ref sig .tc := ⟨.hbm, 127, rfl⟩
abbrev main_call3_v43 : Ref sig .tc := ⟨.hbm, 128, rfl⟩
abbrev main_call3_v44 : Ref sig .tc := ⟨.hbm, 129, rfl⟩
abbrev main_call3_v45 : Ref sig .tc := ⟨.hbm, 130, rfl⟩
abbrev main_call3_v46 : Ref sig .tc := ⟨.hbm, 131, rfl⟩
abbrev main_call3_v47 : Ref sig .tc := ⟨.hbm, 132, rfl⟩
abbrev main_call3_v48 : Ref sig .tc := ⟨.hbm, 133, rfl⟩
abbrev main_call3_v49 : Ref sig .tc := ⟨.hbm, 134, rfl⟩
abbrev main_call3_v50 : Ref sig .tc := ⟨.hbm, 135, rfl⟩
abbrev main_call3_v51 : Ref sig .tc := ⟨.hbm, 136, rfl⟩
abbrev main_call3_v52 : Ref sig .tc := ⟨.hbm, 137, rfl⟩
abbrev main_call3_v53 : Ref sig .tc := ⟨.hbm, 138, rfl⟩
abbrev main_call3_v54 : Ref sig .tc := ⟨.hbm, 139, rfl⟩
abbrev main_call3_v55 : Ref sig .tc := ⟨.hbm, 140, rfl⟩
abbrev main_call3_v56 : Ref sig .tc := ⟨.hbm, 141, rfl⟩
abbrev main_call3_v57 : Ref sig .tc := ⟨.hbm, 142, rfl⟩
abbrev main_call3_v58 : Ref sig .tc := ⟨.hbm, 143, rfl⟩
abbrev main_call3_v59 : Ref sig .tc := ⟨.hbm, 144, rfl⟩
abbrev main_call3_v60 : Ref sig .tc := ⟨.hbm, 145, rfl⟩
abbrev main_v61 : Ref sig .tc := ⟨.hbm, 146, rfl⟩
abbrev main_call4_cst : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_v15 : Ref sig .tc := ⟨.hbm, 163, rfl⟩
abbrev main_call4_v16 : Ref sig .tc := ⟨.hbm, 164, rfl⟩
abbrev main_call4_v17 : Ref sig .tc := ⟨.hbm, 165, rfl⟩
abbrev main_call4_v18 : Ref sig .tc := ⟨.hbm, 166, rfl⟩
abbrev main_call4_v19 : Ref sig .tc := ⟨.hbm, 167, rfl⟩
abbrev main_call4_v20 : Ref sig .tc := ⟨.hbm, 168, rfl⟩
abbrev main_call4_v21 : Ref sig .tc := ⟨.hbm, 169, rfl⟩
abbrev main_call4_v22 : Ref sig .tc := ⟨.hbm, 170, rfl⟩
abbrev main_call4_v23 : Ref sig .tc := ⟨.hbm, 171, rfl⟩
abbrev main_call4_v24 : Ref sig .tc := ⟨.hbm, 172, rfl⟩
abbrev main_call4_v25 : Ref sig .tc := ⟨.hbm, 173, rfl⟩
abbrev main_call4_v26 : Ref sig .tc := ⟨.hbm, 174, rfl⟩
abbrev main_call4_v27 : Ref sig .tc := ⟨.hbm, 175, rfl⟩
abbrev main_call4_v28 : Ref sig .tc := ⟨.hbm, 176, rfl⟩
abbrev main_call4_v29 : Ref sig .tc := ⟨.hbm, 177, rfl⟩
abbrev main_call4_v30 : Ref sig .tc := ⟨.hbm, 178, rfl⟩
abbrev main_call4_v31 : Ref sig .tc := ⟨.hbm, 179, rfl⟩
abbrev main_call4_v32 : Ref sig .tc := ⟨.hbm, 180, rfl⟩
abbrev main_call4_v33 : Ref sig .tc := ⟨.hbm, 181, rfl⟩
abbrev main_call4_v34 : Ref sig .tc := ⟨.hbm, 182, rfl⟩
abbrev main_call4_v35 : Ref sig .tc := ⟨.hbm, 183, rfl⟩
abbrev main_call4_v36 : Ref sig .tc := ⟨.hbm, 184, rfl⟩
abbrev main_call4_v37 : Ref sig .tc := ⟨.hbm, 185, rfl⟩
abbrev main_call4_v38 : Ref sig .tc := ⟨.hbm, 186, rfl⟩
abbrev main_call4_v39 : Ref sig .tc := ⟨.hbm, 187, rfl⟩
abbrev main_call4_v40 : Ref sig .tc := ⟨.hbm, 188, rfl⟩
abbrev main_call4_v41 : Ref sig .tc := ⟨.hbm, 189, rfl⟩
abbrev main_call4_v42 : Ref sig .tc := ⟨.hbm, 190, rfl⟩
abbrev main_call4_v43 : Ref sig .tc := ⟨.hbm, 191, rfl⟩
abbrev main_call4_v44 : Ref sig .tc := ⟨.hbm, 192, rfl⟩
abbrev main_call4_v45 : Ref sig .tc := ⟨.hbm, 193, rfl⟩
abbrev main_call4_v46 : Ref sig .tc := ⟨.hbm, 194, rfl⟩
abbrev main_call4_v47 : Ref sig .tc := ⟨.hbm, 195, rfl⟩
abbrev main_call4_v48 : Ref sig .tc := ⟨.hbm, 196, rfl⟩
abbrev main_call4_v49 : Ref sig .tc := ⟨.hbm, 197, rfl⟩
abbrev main_call4_v50 : Ref sig .tc := ⟨.hbm, 198, rfl⟩
abbrev main_call4_v51 : Ref sig .tc := ⟨.hbm, 199, rfl⟩
abbrev main_call4_v52 : Ref sig .tc := ⟨.hbm, 200, rfl⟩
abbrev main_call4_v53 : Ref sig .tc := ⟨.hbm, 201, rfl⟩
abbrev main_call4_v54 : Ref sig .tc := ⟨.hbm, 202, rfl⟩
abbrev main_call4_v55 : Ref sig .tc := ⟨.hbm, 203, rfl⟩
abbrev main_call4_v56 : Ref sig .tc := ⟨.hbm, 204, rfl⟩
abbrev main_call4_v57 : Ref sig .tc := ⟨.hbm, 205, rfl⟩
abbrev main_call4_v58 : Ref sig .tc := ⟨.hbm, 206, rfl⟩
abbrev main_call4_v59 : Ref sig .tc := ⟨.hbm, 207, rfl⟩
abbrev main_call4_v60 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_cst_2 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_call5_cst : Ref sig .tc := ⟨.hbm, 240, rfl⟩
abbrev main_call5_v0 : Ref sig .tc := ⟨.hbm, 241, rfl⟩
abbrev main_v92 : Ref sig .tc := ⟨.hbm, 242, rfl⟩
abbrev main_v93 : Ref sig .tc := ⟨.hbm, 243, rfl⟩
abbrev main_v94 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x6x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x6x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x6x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x6x384 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x6x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x6x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x6x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x6x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelW.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S6x2x16 : Shape := ⟨3, ![6, 2, 16]⟩
abbrev S2x6x192x1024 : Shape := ⟨4, ![2, 6, 192, 1024]⟩
abbrev S2x6x1024x384 : Shape := ⟨4, ![2, 6, 1024, 384]⟩
abbrev S6x12x2x1024 : Shape := ⟨4, ![6, 12, 2, 1024]⟩
abbrev S1x1x192x1024 : Shape := ⟨4, ![1, 1, 192, 1024]⟩
abbrev S1x1x1024x384 : Shape := ⟨4, ![1, 1, 1024, 384]⟩
abbrev S1x12x2x1024 : Shape := ⟨4, ![1, 12, 2, 1024]⟩
abbrev S768x256 : Shape := ⟨2, ![768, 256]⟩
abbrev S8x128x768 : Shape := ⟨3, ![8, 128, 768]⟩
abbrev S8x384x128 : Shape := ⟨3, ![8, 384, 128]⟩
abbrev S8x768x128 : Shape := ⟨3, ![8, 768, 128]⟩
abbrev S8x192x128 : Shape := ⟨3, ![8, 192, 128]⟩
abbrev S8x128x128 : Shape := ⟨3, ![8, 128, 128]⟩
abbrev S8x128x192 : Shape := ⟨3, ![8, 128, 192]⟩
abbrev S192x1024 : Shape := ⟨2, ![192, 1024]⟩
abbrev S256x256 : Shape := ⟨2, ![256, 256]⟩
abbrev S1x128 : Shape := ⟨2, ![1, 128]⟩
abbrev S128x128 : Shape := ⟨2, ![128, 128]⟩
abbrev S1x12x1x1024 : Shape := ⟨4, ![1, 12, 1, 1024]⟩
abbrev S12x1024 : Shape := ⟨2, ![12, 1024]⟩
abbrev S192x384 : Shape := ⟨2, ![192, 384]⟩
abbrev S1x1x192x256 : Shape := ⟨4, ![1, 1, 192, 256]⟩
abbrev S192x256 : Shape := ⟨2, ![192, 256]⟩
abbrev S192x768 : Shape := ⟨2, ![192, 768]⟩
abbrev S192x128 : Shape := ⟨2, ![192, 128]⟩
abbrev S192x1 : Shape := ⟨2, ![192, 1]⟩
abbrev S1x1x1 : Shape := ⟨3, ![1, 1, 1]⟩
abbrev S1x1x192x128 : Shape := ⟨4, ![1, 1, 192, 128]⟩
abbrev S1x192x128 : Shape := ⟨3, ![1, 192, 128]⟩
abbrev S128x192 : Shape := ⟨2, ![128, 192]⟩
abbrev S1x128x192 : Shape := ⟨3, ![1, 128, 192]⟩
abbrev S1x1x128x384 : Shape := ⟨4, ![1, 1, 128, 384]⟩
abbrev S128x384 : Shape := ⟨2, ![128, 384]⟩
abbrev S64x384 : Shape := ⟨2, ![64, 384]⟩
abbrev S64x768 : Shape := ⟨2, ![64, 768]⟩
abbrev S128x768 : Shape := ⟨2, ![128, 768]⟩
abbrev S1x128x768 : Shape := ⟨3, ![1, 128, 768]⟩
abbrev S384x128 : Shape := ⟨2, ![384, 128]⟩
abbrev S12x128 : Shape := ⟨2, ![12, 128]⟩
abbrev S12x1x128 : Shape := ⟨3, ![12, 1, 128]⟩
abbrev S12x32x128 : Shape := ⟨3, ![12, 32, 128]⟩
abbrev S1x384x128 : Shape := ⟨3, ![1, 384, 128]⟩
abbrev S768x128 : Shape := ⟨2, ![768, 128]⟩
abbrev S1x768x128 : Shape := ⟨3, ![1, 768, 128]⟩
abbrev S64x128 : Shape := ⟨2, ![64, 128]⟩
abbrev S128x256 : Shape := ⟨2, ![128, 256]⟩
abbrev S1x128x128 : Shape := ⟨3, ![1, 128, 128]⟩
abbrev S64x192 : Shape := ⟨2, ![64, 192]⟩

abbrev nBuf : Space → Nat
  | .hbm => 32
  | .vmem => 33
  | .smem => 3
  | _ => 0

abbrev bufTy : (tb : Table) → Fin (tcTables nBuf tb) → BufTy
  | .hbm, ⟨0, _⟩ => ⟨S2x1024x6x192, .i8⟩
  | .hbm, ⟨1, _⟩ => ⟨S2x1024x6x192, .i8⟩
  | .hbm, ⟨2, _⟩ => ⟨S2x16x6, .f32⟩
  | .hbm, ⟨3, _⟩ => ⟨S2x16x6, .f32⟩
  | .hbm, ⟨4, _⟩ => ⟨S2x1024x6x384, .i8⟩
  | .hbm, ⟨5, _⟩ => ⟨S2x16x6, .f32⟩
  | .hbm, ⟨6, _⟩ => ⟨S2x1024x6x384, .i8⟩
  | .hbm, ⟨7, _⟩ => ⟨S2x1024x6x12, .f32⟩
  | .hbm, ⟨8, _⟩ => ⟨S2x1024x6x192, .f32⟩
  | .hbm, ⟨9, _⟩ => ⟨S2x1024x6x192, .fp8e4m3⟩
  | .hbm, ⟨10, _⟩ => ⟨S2x1024x6x192, .fp8e4m3⟩
  | .hbm, ⟨11, _⟩ => ⟨S2x1024x6x384, .fp8e4m3⟩
  | .hbm, ⟨12, _⟩ => ⟨S2x1024x6x384, .fp8e5m2⟩
  | .hbm, ⟨13, _⟩ => ⟨S6x2x16, .f32⟩
  | .hbm, ⟨14, _⟩ => ⟨S6x2x16, .f32⟩
  | .hbm, ⟨15, _⟩ => ⟨S6x2x16, .f32⟩
  | .hbm, ⟨16, _⟩ => ⟨S2x6x192x1024, .fp8e4m3⟩
  | .hbm, ⟨17, _⟩ => ⟨S2x6x192x1024, .fp8e4m3⟩
  | .hbm, ⟨18, _⟩ => ⟨S2x6x1024x384, .fp8e4m3⟩
  | .hbm, ⟨19, _⟩ => ⟨S2x6x1024x384, .fp8e5m2⟩
  | .hbm, ⟨20, _⟩ => ⟨S6x12x2x1024, .f32⟩
  | .hbm, ⟨21, _⟩ => ⟨S2x6x192x1024, .f32⟩
  | .hbm, ⟨22, _⟩ => ⟨S2x6x192x1024, .bf16⟩
  | .hbm, ⟨23, _⟩ => ⟨S2x6x192x1024, .bf16⟩
  | .hbm, ⟨24, _⟩ => ⟨S2x6x1024x384, .bf16⟩
  | .hbm, ⟨25, _⟩ => ⟨S2x6x192x1024, .f32⟩
  | .hbm, ⟨26, _⟩ => ⟨S2x6x192x1024, .f32⟩
  | .hbm, ⟨27, _⟩ => ⟨S2x1024x6x192, .bf16⟩
  | .hbm, ⟨28, _⟩ => ⟨S2x1024x6x192, .bf16⟩
  | .hbm, ⟨29, _⟩ => ⟨S2x1024x6x384, .bf16⟩
  | .hbm, ⟨30, _⟩ => ⟨S2x1024x6x192, .f32⟩
  | .hbm, ⟨31, _⟩ => ⟨S2x1024x6x192, .f32⟩
  | .local _ .vmem, ⟨0, _⟩ => ⟨S1x1x192x1024, .fp8e4m3⟩
  | .local _ .vmem, ⟨1, _⟩ => ⟨S1x1x192x1024, .fp8e4m3⟩
  | .local _ .vmem, ⟨2, _⟩ => ⟨S1x1x192x1024, .fp8e4m3⟩
  | .local _ .vmem, ⟨3, _⟩ => ⟨S1x1x192x1024, .fp8e4m3⟩
  | .local _ .vmem, ⟨4, _⟩ => ⟨S1x1x1024x384, .fp8e4m3⟩
  | .local _ .vmem, ⟨5, _⟩ => ⟨S1x1x1024x384, .fp8e4m3⟩
  | .local _ .vmem, ⟨6, _⟩ => ⟨S1x1x1024x384, .fp8e5m2⟩
  | .local _ .vmem, ⟨7, _⟩ => ⟨S1x1x1024x384, .fp8e5m2⟩
  | .local _ .vmem, ⟨8, _⟩ => ⟨S1x12x2x1024, .f32⟩
  | .local _ .vmem, ⟨9, _⟩ => ⟨S1x12x2x1024, .f32⟩
  | .local _ .vmem, ⟨10, _⟩ => ⟨S1x1x192x1024, .f32⟩
  | .local _ .vmem, ⟨11, _⟩ => ⟨S1x1x192x1024, .f32⟩
  | .local _ .vmem, ⟨12, _⟩ => ⟨S1x1x192x1024, .bf16⟩
  | .local _ .vmem, ⟨13, _⟩ => ⟨S1x1x192x1024, .bf16⟩
  | .local _ .vmem, ⟨14, _⟩ => ⟨S1x1x192x1024, .bf16⟩
  | .local _ .vmem, ⟨15, _⟩ => ⟨S1x1x192x1024, .bf16⟩
  | .local _ .vmem, ⟨16, _⟩ => ⟨S1x1x1024x384, .bf16⟩
  | .local _ .vmem, ⟨17, _⟩ => ⟨S1x1x1024x384, .bf16⟩
  | .local _ .vmem, ⟨18, _⟩ => ⟨S1x1x192x1024, .f32⟩
  | .local _ .vmem, ⟨19, _⟩ => ⟨S1x1x192x1024, .f32⟩
  | .local _ .vmem, ⟨20, _⟩ => ⟨S1x1x192x1024, .f32⟩
  | .local _ .vmem, ⟨21, _⟩ => ⟨S1x1x192x1024, .f32⟩
  | .local _ .vmem, ⟨22, _⟩ => ⟨S768x256, .bf16⟩
  | .local _ .vmem, ⟨23, _⟩ => ⟨S768x256, .bf16⟩
  | .local _ .vmem, ⟨24, _⟩ => ⟨S8x128x768, .bf16⟩
  | .local _ .vmem, ⟨25, _⟩ => ⟨S8x384x128, .bf16⟩
  | .local _ .vmem, ⟨26, _⟩ => ⟨S8x768x128, .bf16⟩
  | .local _ .vmem, ⟨27, _⟩ => ⟨S8x192x128, .bf16⟩
  | .local _ .vmem, ⟨28, _⟩ => ⟨S8x128x128, .bf16⟩
  | .local _ .vmem, ⟨29, _⟩ => ⟨S8x128x192, .bf16⟩
  | .local _ .vmem, ⟨30, _⟩ => ⟨S192x1024, .f32⟩
  | .local _ .vmem, ⟨31, _⟩ => ⟨S192x1024, .f32⟩
  | .local _ .vmem, ⟨32, _⟩ => ⟨S192x1024, .f32⟩
  | .local _ .smem, ⟨0, _⟩ => ⟨S6x2x16, .f32⟩
  | .local _ .smem, ⟨1, _⟩ => ⟨S6x2x16, .f32⟩
  | .local _ .smem, ⟨2, _⟩ => ⟨S6x2x16, .f32⟩
  | _, _ => ⟨S2x1024x6x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![6, 2], ![false, false]⟩

def k0_off1 (i : grid0.Coords) : Fin 4 → Nat :=
  let c0 : Index := 0#32
  let c0_15 : Index := 0#32
  let arg1 : BitVec 32 := BitVec.ofNat 32 (i 1).val
  let v61 : Index := Scalar.indexCast arg1
  let c0_16 : Index := 0#32
  ![0, 0, v61.toNat, 0]
def k0_off2 (i : grid0.Coords) : Fin 3 → Nat :=
  let arg0 : BitVec 32 := BitVec.ofNat 32 (i 0).val
  let v97 : Index := Scalar.indexCast arg0
  let arg1 : BitVec 32 := BitVec.ofNat 32 (i 1).val
  let v98 : Index := Scalar.indexCast arg1
  let c0_26 : Index := 0#32
  ![v97.toNat, v98.toNat, 0]
def k0_off3 (i : grid0.Coords) : Fin 3 → Nat :=
  let arg0 : BitVec 32 := BitVec.ofNat 32 (i 0).val
  let v100 : Index := Scalar.indexCast arg0
  let arg1 : BitVec 32 := BitVec.ofNat 32 (i 1).val
  let v101 : Index := Scalar.indexCast arg1
  let c1 : Index := 1#32
  ![v100.toNat, v101.toNat, 1]
def k0_off4 (i : grid0.Coords) : Fin 3 → Nat :=
  let arg0 : BitVec 32 := BitVec.ofNat 32 (i 0).val
  let v275 : Index := Scalar.indexCast arg0
  let arg1 : BitVec 32 := BitVec.ofNat 32 (i 1).val
  let v276 : Index := Scalar.indexCast arg1
  let c2 : Index := 2#32
  ![v275.toNat, v276.toNat, 2]
def k0_off5 (i : grid0.Coords) : Fin 3 → Nat :=
  let arg0 : BitVec 32 := BitVec.ofNat 32 (i 0).val
  let v278 : Index := Scalar.indexCast arg0
  let arg1 : BitVec 32 := BitVec.ofNat 32 (i 1).val
  let v279 : Index := Scalar.indexCast arg1
  let c3 : Index := 3#32
  ![v278.toNat, v279.toNat, 3]
def k0_off6 (i : grid0.Coords) : Fin 3 → Nat :=
  let arg0 : BitVec 32 := BitVec.ofNat 32 (i 0).val
  let v465 : Index := Scalar.indexCast arg0
  let arg1 : BitVec 32 := BitVec.ofNat 32 (i 1).val
  let v466 : Index := Scalar.indexCast arg1
  let c4 : Index := 4#32
  ![v465.toNat, v466.toNat, 4]
def k0_off7 (i : grid0.Coords) : Fin 3 → Nat :=
  let arg0 : BitVec 32 := BitVec.ofNat 32 (i 0).val
  let v468 : Index := Scalar.indexCast arg0
  let arg1 : BitVec 32 := BitVec.ofNat 32 (i 1).val
  let v469 : Index := Scalar.indexCast arg1
  let c5 : Index := 5#32
  ![v468.toNat, v469.toNat, 5]
def k0_off8 (i : grid0.Coords) : Fin 3 → Nat :=
  let arg0 : BitVec 32 := BitVec.ofNat 32 (i 0).val
  let v643 : Index := Scalar.indexCast arg0
  let arg1 : BitVec 32 := BitVec.ofNat 32 (i 1).val
  let v644 : Index := Scalar.indexCast arg1
  let c6 : Index := 6#32
  ![v643.toNat, v644.toNat, 6]
def k0_off9 (i : grid0.Coords) : Fin 3 → Nat :=
  let arg0 : BitVec 32 := BitVec.ofNat 32 (i 0).val
  let v646 : Index := Scalar.indexCast arg0
  let arg1 : BitVec 32 := BitVec.ofNat 32 (i 1).val
  let v647 : Index := Scalar.indexCast arg1
  let c7 : Index := 7#32
  ![v646.toNat, v647.toNat, 7]
def k0_off10 (i : grid0.Coords) : Fin 3 → Nat :=
  let arg0 : BitVec 32 := BitVec.ofNat 32 (i 0).val
  let v833 : Index := Scalar.indexCast arg0
  let arg1 : BitVec 32 := BitVec.ofNat 32 (i 1).val
  let v834 : Index := Scalar.indexCast arg1
  let c8 : Index := 8#32
  ![v833.toNat, v834.toNat, 8]
def k0_off11 (i : grid0.Coords) : Fin 3 → Nat :=
  let arg0 : BitVec 32 := BitVec.ofNat 32 (i 0).val
  let v836 : Index := Scalar.indexCast arg0
  let arg1 : BitVec 32 := BitVec.ofNat 32 (i 1).val
  let v837 : Index := Scalar.indexCast arg1
  let c9 : Index := 9#32
  ![v836.toNat, v837.toNat, 9]
def k0_off12 (i : grid0.Coords) : Fin 3 → Nat :=
  let arg0 : BitVec 32 := BitVec.ofNat 32 (i 0).val
  let v1011 : Index := Scalar.indexCast arg0
  let arg1 : BitVec 32 := BitVec.ofNat 32 (i 1).val
  let v1012 : Index := Scalar.indexCast arg1
  let c10 : Index := 10#32
  ![v1011.toNat, v1012.toNat, 10]
def k0_off13 (i : grid0.Coords) : Fin 3 → Nat :=
  let arg0 : BitVec 32 := BitVec.ofNat 32 (i 0).val
  let v1014 : Index := Scalar.indexCast arg0
  let arg1 : BitVec 32 := BitVec.ofNat 32 (i 1).val
  let v1015 : Index := Scalar.indexCast arg1
  let c11 : Index := 11#32
  ![v1014.toNat, v1015.toNat, 11]
def k0_off14 (i : grid0.Coords) : Fin 3 → Nat :=
  let arg0 : BitVec 32 := BitVec.ofNat 32 (i 0).val
  let v1201 : Index := Scalar.indexCast arg0
  let arg1 : BitVec 32 := BitVec.ofNat 32 (i 1).val
  let v1202 : Index := Scalar.indexCast arg1
  let c12 : Index := 12#32
  ![v1201.toNat, v1202.toNat, 12]
def k0_off15 (i : grid0.Coords) : Fin 3 → Nat :=
  let arg0 : BitVec 32 := BitVec.ofNat 32 (i 0).val
  let v1204 : Index := Scalar.indexCast arg0
  let arg1 : BitVec 32 := BitVec.ofNat 32 (i 1).val
  let v1205 : Index := Scalar.indexCast arg1
  let c13 : Index := 13#32
  ![v1204.toNat, v1205.toNat, 13]
def k0_off16 (i : grid0.Coords) : Fin 3 → Nat :=
  let arg0 : BitVec 32 := BitVec.ofNat 32 (i 0).val
  let v1379 : Index := Scalar.indexCast arg0
  let arg1 : BitVec 32 := BitVec.ofNat 32 (i 1).val
  let v1380 : Index := Scalar.indexCast arg1
  let c14 : Index := 14#32
  ![v1379.toNat, v1380.toNat, 14]
def k0_off17 (i : grid0.Coords) : Fin 3 → Nat :=
  let arg0 : BitVec 32 := BitVec.ofNat 32 (i 0).val
  let v1382 : Index := Scalar.indexCast arg0
  let arg1 : BitVec 32 := BitVec.ofNat 32 (i 1).val
  let v1383 : Index := Scalar.indexCast arg1
  let c15 : Index := 15#32
  ![v1382.toNat, v1383.toNat, 15]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S6x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x192x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x192x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x384 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x12x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x192x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x192x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x192x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceWIdeal.lean ====
abbrev S2x1024x6x192 : Shape := ⟨4, ![2, 1024, 6, 192]⟩
abbrev S2x16x6 : Shape := ⟨3, ![2, 16, 6]⟩
abbrev S2x1024x6x384 : Shape := ⟨4, ![2, 1024, 6, 384]⟩
abbrev S2x1024x6x12 : Shape := ⟨4, ![2, 1024, 6, 12]⟩
abbrev S2x16x64x6x192 : Shape := ⟨5, ![2, 16, 64, 6, 192]⟩
abbrev S2x16x1x6x1 : Shape := ⟨5, ![2, 16, 1, 6, 1]⟩
abbrev S_ : Shape := ⟨0, ![]⟩
abbrev S2x16x1x6x192 : Shape := ⟨5, ![2, 16, 1, 6, 192]⟩
abbrev S2x16x6x192 : Shape := ⟨4, ![2, 16, 6, 192]⟩
abbrev S2x16x64x6x384 : Shape := ⟨5, ![2, 16, 64, 6, 384]⟩
abbrev S2x16x64x6x12x32 : Shape := ⟨6, ![2, 16, 64, 6, 12, 32]⟩
abbrev S2x16x64x6x12x1 : Shape := ⟨6, ![2, 16, 64, 6, 12, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x16x6x64x64 : Shape := ⟨5, ![2, 16, 6, 64, 64]⟩
abbrev S2x16x6x1x1 : Shape := ⟨5, ![2, 16, 6, 1, 1]⟩
abbrev S16x2x6x192 : Shape := ⟨4, ![16, 2, 6, 192]⟩
abbrev S16x2x6x192x1 : Shape := ⟨5, ![16, 2, 6, 192, 1]⟩
abbrev S16x2x6x192x384 : Shape := ⟨5, ![16, 2, 6, 192, 384]⟩
abbrev S16x2x6 : Shape := ⟨3, ![16, 2, 6]⟩
abbrev S16x2x6x1x1 : Shape := ⟨5, ![16, 2, 6, 1, 1]⟩
abbrev S1x2x6x192x384 : Shape := ⟨5, ![1, 2, 6, 192, 384]⟩
abbrev S2x16x6x192x64 : Shape := ⟨5, ![2, 16, 6, 192, 64]⟩
abbrev S2x16x6x384x64 : Shape := ⟨5, ![2, 16, 6, 384, 64]⟩

abbrev nBuf : Space → Nat
  | .hbm => 253
  | .vmem => 8
  | .smem => 0
  | _ => 0

abbrev hbmTy0_0 (i : Nat) : BufTy := match i % 128 with
  | 0 => ⟨S2x1024x6x192, .i8⟩
  | 1 => ⟨S2x1024x6x192, .i8⟩
  | 2 => ⟨S2x16x6, .f32⟩
  | 3 => ⟨S2x16x6, .f32⟩
  | 4 => ⟨S2x1024x6x384, .i8⟩
  | 5 => ⟨S2x16x6, .f32⟩
  | 6 => ⟨S2x1024x6x384, .i8⟩
  | 7 => ⟨S2x1024x6x12, .f32⟩
  | 8 => ⟨S2x1024x6x192, .f32⟩
  | 9 => ⟨S2x1024x6x192, .fp8e4m3⟩
  | 10 => ⟨S2x1024x6x192, .fp8e4m3⟩
  | 11 => ⟨S2x1024x6x384, .fp8e4m3⟩
  | 12 => ⟨S2x1024x6x384, .fp8e5m2⟩
  | 13 => ⟨S2x1024x6x192, .f32⟩
  | 14 => ⟨S2x1024x6x192, .f32⟩
  | 15 => ⟨S2x1024x6x384, .bf16⟩
  | 16 => ⟨S2x1024x6x384, .bf16⟩
  | 17 => ⟨S2x16x64x6x192, .f32⟩
  | 18 => ⟨S2x16x1x6x1, .f32⟩
  | 19 => ⟨S2x16x64x6x192, .f32⟩
  | 20 => ⟨S2x16x64x6x192, .f32⟩
  | 21 => ⟨S2x16x64x6x192, .f32⟩
  | 22 => ⟨S2x16x1x6x1, .f32⟩
  | 23 => ⟨S2x16x64x6x192, .f32⟩
  | 24 => ⟨S2x16x64x6x192, .f32⟩
  | 25 => ⟨S2x16x64x6x192, .f32⟩
  | 26 => ⟨S_, .f32⟩
  | 27 => ⟨S_, .f32⟩
  | 28 => ⟨S2x16x64x6x192, .f32⟩
  | 29 => ⟨S2x16x1x6x192, .f32⟩
  | 30 => ⟨S2x16x6x192, .f32⟩
  | 31 => ⟨S2x16x64x6x192, .f32⟩
  | 32 => ⟨S2x16x64x6x192, .f32⟩
  | 33 => ⟨S2x16x64x6x192, .f32⟩
  | 34 => ⟨S2x16x1x6x192, .f32⟩
  | 35 => ⟨S2x16x64x6x192, .f32⟩
  | 36 => ⟨S2x16x64x6x192, .f32⟩
  | 37 => ⟨S2x16x64x6x192, .f32⟩
  | 38 => ⟨S_, .f32⟩
  | 39 => ⟨S2x16x64x6x192, .f32⟩
  | 40 => ⟨S2x16x64x6x192, .f32⟩
  | 41 => ⟨S2x16x64x6x192, .f32⟩
  | 42 => ⟨S2x16x64x6x192, .bf16⟩
  | 43 => ⟨S2x16x64x6x192, .f32⟩
  | 44 => ⟨S2x16x64x6x192, .bf16⟩
  | 45 => ⟨S2x16x64x6x192, .f32⟩
  | 46 => ⟨S2x16x64x6x192, .bf16⟩
  | 47 => ⟨S2x16x64x6x384, .bf16⟩
  | 48 => ⟨S2x16x64x6x12x32, .bf16⟩
  | 49 => ⟨S2x16x64x6x12x1, .f32⟩
  | 50 => ⟨S2x16x64x6x12x1, .bf16⟩
  | 51 => ⟨S2x16x64x6x12x32, .bf16⟩
  | 52 => ⟨S2x16x64x6x12x32, .bf16⟩
  | 53 => ⟨S2x16x64x6x384, .bf16⟩
  | 54 => ⟨S64, .i32⟩
  | 55 => ⟨S64x1, .i32⟩
  | 56 => ⟨S64, .i32⟩
  | 57 => ⟨S1x64, .i32⟩
  | 58 => ⟨S64x64, .i32⟩
  | 59 => ⟨S64x64, .i32⟩
  | 60 => ⟨S64x64, .i1⟩
  | 61 => ⟨S2x16x6x64x64, .f32⟩
  | 62 => ⟨S2x16x6x1x1, .f32⟩
  | 63 => ⟨S2x16x6x64x64, .f32⟩
  | 64 => ⟨S2x16x6x64x64, .f32⟩
  | 65 => ⟨S2x16x6x64x64, .f32⟩
  | 66 => ⟨S_, .f32⟩
  | 67 => ⟨S_, .f32⟩
  | 68 => ⟨S2x16x6x64x64, .i1⟩
  | 69 => ⟨S2x16x6x64x64, .f32⟩
  | 70 => ⟨S2x16x6x64x64, .f32⟩
  | 71 => ⟨S2x16x6x64x64, .bf16⟩
  | 72 => ⟨S_, .f32⟩
  | 73 => ⟨S_, .f32⟩
  | 74 => ⟨S2x16x6x64x64, .i1⟩
  | 75 => ⟨S2x16x6x64x64, .f32⟩
  | 76 => ⟨S2x16x6x64x64, .f32⟩
  | 77 => ⟨S2x16x6x64x64, .bf16⟩
  | 78 => ⟨S2x16x6x192, .f32⟩
  | 79 => ⟨S16x2x6x192, .f32⟩
  | 80 => ⟨S16x2x6x192x1, .f32⟩
  | 81 => ⟨S16x2x6x192x384, .f32⟩
  | 82 => ⟨S16x2x6, .f32⟩
  | 83 => ⟨S16x2x6x1x1, .f32⟩
  | 84 => ⟨S16x2x6x192x384, .f32⟩
  | 85 => ⟨S16x2x6x192x384, .f32⟩
  | 86 => ⟨S16x2x6x192x384, .f32⟩
  | 87 => ⟨S16x2x6x192x384, .f32⟩
  | 88 => ⟨S_, .f32⟩
  | 89 => ⟨S1x2x6x192x384, .f32⟩
  | 90 => ⟨S1x2x6x192x384, .f32⟩
  | 91 => ⟨S1x2x6x192x384, .f32⟩
  | 92 => ⟨S1x2x6x192x384, .f32⟩
  | 93 => ⟨S1x2x6x192x384, .f32⟩
  | 94 => ⟨S1x2x6x192x384, .f32⟩
  | 95 => ⟨S1x2x6x192x384, .f32⟩
  | 96 => ⟨S1x2x6x192x384, .f32⟩
  | 97 => ⟨S1x2x6x192x384, .f32⟩
  | 98 => ⟨S1x2x6x192x384, .f32⟩
  | 99 => ⟨S1x2x6x192x384, .f32⟩
  | 100 => ⟨S1x2x6x192x384, .f32⟩
  | 101 => ⟨S1x2x6x192x384, .f32⟩
  | 102 => ⟨S1x2x6x192x384, .f32⟩
  | 103 => ⟨S1x2x6x192x384, .f32⟩
  | 104 => ⟨S1x2x6x192x384, .f32⟩
  | 105 => ⟨S1x2x6x192x384, .f32⟩
  | 106 => ⟨S1x2x6x192x384, .f32⟩
  | 107 => ⟨S1x2x6x192x384, .f32⟩
  | 108 => ⟨S1x2x6x192x384, .f32⟩
  | 109 => ⟨S1x2x6x192x384, .f32⟩
  | 110 => ⟨S1x2x6x192x384, .f32⟩
  | 111 => ⟨S1x2x6x192x384, .f32⟩
  | 112 => ⟨S1x2x6x192x384, .f32⟩
  | 113 => ⟨S1x2x6x192x384, .f32⟩
  | 114 => ⟨S1x2x6x192x384, .f32⟩
  | 115 => ⟨S1x2x6x192x384, .f32⟩
  | 116 => ⟨S1x2x6x192x384, .f32⟩
  | 117 => ⟨S1x2x6x192x384, .f32⟩
  | 118 => ⟨S1x2x6x192x384, .f32⟩
  | 119 => ⟨S1x2x6x192x384, .f32⟩
  | 120 => ⟨S1x2x6x192x384, .f32⟩
  | 121 => ⟨S1x2x6x192x384, .f32⟩
  | 122 => ⟨S1x2x6x192x384, .f32⟩
  | 123 => ⟨S1x2x6x192x384, .f32⟩
  | 124 => ⟨S1x2x6x192x384, .f32⟩
  | 125 => ⟨S1x2x6x192x384, .f32⟩
  | 126 => ⟨S1x2x6x192x384, .f32⟩
  | 127 => ⟨S1x2x6x192x384, .f32⟩
  | _ => ⟨S2x1024x6x192, .i8⟩

abbrev hbmTy0_1 (i : Nat) : BufTy := match i % 128 with
  | 0 => ⟨S1x2x6x192x384, .f32⟩
  | 1 => ⟨S1x2x6x192x384, .f32⟩
  | 2 => ⟨S1x2x6x192x384, .f32⟩
  | 3 => ⟨S1x2x6x192x384, .f32⟩
  | 4 => ⟨S1x2x6x192x384, .f32⟩
  | 5 => ⟨S1x2x6x192x384, .f32⟩
  | 6 => ⟨S1x2x6x192x384, .f32⟩
  | 7 => ⟨S1x2x6x192x384, .f32⟩
  | 8 => ⟨S1x2x6x192x384, .f32⟩
  | 9 => ⟨S1x2x6x192x384, .f32⟩
  | 10 => ⟨S1x2x6x192x384, .f32⟩
  | 11 => ⟨S1x2x6x192x384, .f32⟩
  | 12 => ⟨S1x2x6x192x384, .f32⟩
  | 13 => ⟨S1x2x6x192x384, .f32⟩
  | 14 => ⟨S1x2x6x192x384, .f32⟩
  | 15 => ⟨S1x2x6x192x384, .f32⟩
  | 16 => ⟨S1x2x6x192x384, .f32⟩
  | 17 => ⟨S1x2x6x192x384, .f32⟩
  | 18 => ⟨S1x2x6x192x384, .f32⟩
  | 19 => ⟨S1x2x6x192x384, .f32⟩
  | 20 => ⟨S1x2x6x192x384, .f32⟩
  | 21 => ⟨S1x2x6x192x384, .f32⟩
  | 22 => ⟨S16x2x6x192x384, .f32⟩
  | 23 => ⟨S_, .f32⟩
  | 24 => ⟨S1x2x6x192x384, .f32⟩
  | 25 => ⟨S1x2x6x192x384, .f32⟩
  | 26 => ⟨S1x2x6x192x384, .f32⟩
  | 27 => ⟨S1x2x6x192x384, .f32⟩
  | 28 => ⟨S1x2x6x192x384, .f32⟩
  | 29 => ⟨S1x2x6x192x384, .f32⟩
  | 30 => ⟨S1x2x6x192x384, .f32⟩
  | 31 => ⟨S1x2x6x192x384, .f32⟩
  | 32 => ⟨S1x2x6x192x384, .f32⟩
  | 33 => ⟨S1x2x6x192x384, .f32⟩
  | 34 => ⟨S1x2x6x192x384, .f32⟩
  | 35 => ⟨S1x2x6x192x384, .f32⟩
  | 36 => ⟨S1x2x6x192x384, .f32⟩
  | 37 => ⟨S1x2x6x192x384, .f32⟩
  | 38 => ⟨S1x2x6x192x384, .f32⟩
  | 39 => ⟨S1x2x6x192x384, .f32⟩
  | 40 => ⟨S1x2x6x192x384, .f32⟩
  | 41 => ⟨S1x2x6x192x384, .f32⟩
  | 42 => ⟨S1x2x6x192x384, .f32⟩
  | 43 => ⟨S1x2x6x192x384, .f32⟩
  | 44 => ⟨S1x2x6x192x384, .f32⟩
  | 45 => ⟨S1x2x6x192x384, .f32⟩
  | 46 => ⟨S1x2x6x192x384, .f32⟩
  | 47 => ⟨S1x2x6x192x384, .f32⟩
  | 48 => ⟨S1x2x6x192x384, .f32⟩
  | 49 => ⟨S1x2x6x192x384, .f32⟩
  | 50 => ⟨S1x2x6x192x384, .f32⟩
  | 51 => ⟨S1x2x6x192x384, .f32⟩
  | 52 => ⟨S1x2x6x192x384, .f32⟩
  | 53 => ⟨S1x2x6x192x384, .f32⟩
  | 54 => ⟨S1x2x6x192x384, .f32⟩
  | 55 => ⟨S1x2x6x192x384, .f32⟩
  | 56 => ⟨S1x2x6x192x384, .f32⟩
  | 57 => ⟨S1x2x6x192x384, .f32⟩
  | 58 => ⟨S1x2x6x192x384, .f32⟩
  | 59 => ⟨S1x2x6x192x384, .f32⟩
  | 60 => ⟨S1x2x6x192x384, .f32⟩
  | 61 => ⟨S1x2x6x192x384, .f32⟩
  | 62 => ⟨S1x2x6x192x384, .f32⟩
  | 63 => ⟨S1x2x6x192x384, .f32⟩
  | 64 => ⟨S1x2x6x192x384, .f32⟩
  | 65 => ⟨S1x2x6x192x384, .f32⟩
  | 66 => ⟨S1x2x6x192x384, .f32⟩
  | 67 => ⟨S1x2x6x192x384, .f32⟩
  | 68 => ⟨S1x2x6x192x384, .f32⟩
  | 69 => ⟨S1x2x6x192x384, .f32⟩
  | 70 => ⟨S1x2x6x192x384, .f32⟩
  | 71 => ⟨S1x2x6x192x384, .f32⟩
  | 72 => ⟨S1x2x6x192x384, .f32⟩
  | 73 => ⟨S1x2x6x192x384, .f32⟩
  | 74 => ⟨S1x2x6x192x384, .f32⟩
  | 75 => ⟨S1x2x6x192x384, .f32⟩
  | 76 => ⟨S1x2x6x192x384, .f32⟩
  | 77 => ⟨S1x2x6x192x384, .f32⟩
  | 78 => ⟨S1x2x6x192x384, .f32⟩
  | 79 => ⟨S1x2x6x192x384, .f32⟩
  | 80 => ⟨S1x2x6x192x384, .f32⟩
  | 81 => ⟨S1x2x6x192x384, .f32⟩
  | 82 => ⟨S1x2x6x192x384, .f32⟩
  | 83 => ⟨S1x2x6x192x384, .f32⟩
  | 84 => ⟨S1x2x6x192x384, .f32⟩
  | 85 => ⟨S16x2x6x192x384, .f32⟩
  | 86 => ⟨S16x2x6x192x384, .bf16⟩
  | 87 => ⟨S16x2x6x192x384, .bf16⟩
  | 88 => ⟨S_, .f32⟩
  | 89 => ⟨S2x16x64x6x192, .f32⟩
  | 90 => ⟨S2x16x64x6x192, .f32⟩
  | 91 => ⟨S2x16x6x192x64, .f32⟩
  | 92 => ⟨S2x16x64x6x192, .f32⟩
  | 93 => ⟨S2x16x6x192x64, .f32⟩
  | 94 => ⟨S2x16x64x6x192, .f32⟩
  | 95 => ⟨S2x16x64x6x192, .f32⟩
  | 96 => ⟨S2x16x64x6x192, .f32⟩
  | 97 => ⟨S2x16x1x6x1, .f32⟩
  | 98 => ⟨S2x16x6x192x64, .f32⟩
  | 99 => ⟨S2x16x64x6x192, .f32⟩
  | 100 => ⟨S2x16x64x6x192, .f32⟩
  | 101 => ⟨S2x16x64x6x192, .f32⟩
  | 102 => ⟨S2x16x64x6x192, .f32⟩
  | 103 => ⟨S2x16x6x192x64, .f32⟩
  | 104 => ⟨S2x16x64x6x192, .f32⟩
  | 105 => ⟨S2x16x64x6x192, .f32⟩
  | 106 => ⟨S2x16x64x6x192, .f32⟩
  | 107 => ⟨S2x16x6x384x64, .f32⟩
  | 108 => ⟨S2x16x64x6x384, .f32⟩
  | 109 => ⟨S2x16x6x384x64, .f32⟩
  | 110 => ⟨S2x16x64x6x384, .f32⟩
  | 111 => ⟨S2x16x64x6x384, .f32⟩
  | 112 => ⟨S2x16x64x6x192, .f32⟩
  | 113 => ⟨S2x16x64x6x192, .f32⟩
  | 114 => ⟨S2x16x64x6x192, .f32⟩
  | 115 => ⟨S2x1024x6x192, .f32⟩
  | 116 => ⟨S_, .f32⟩
  | 117 => ⟨S_, .f32⟩
  | 118 => ⟨S2x1024x6x192, .f32⟩
  | 119 => ⟨S2x16x64x6x192, .bf16⟩
  | 120 => ⟨S2x1024x6x192, .bf16⟩
  | 121 => ⟨S2x16x64x6x192, .bf16⟩
  | 122 => ⟨S2x1024x6x192, .bf16⟩
  | 123 => ⟨S2x16x64x6x384, .bf16⟩
  | 124 => ⟨S2x1024x6x384, .bf16⟩
  | _ => ⟨S2x1024x6x192, .i8⟩

abbrev hbmTy (i : Nat) : BufTy := match i / 128 with
  | 0 => hbmTy0_0 i
  | 1 => hbmTy0_1 i
  | _ => ⟨S2x1024x6x192, .i8⟩

abbrev bufTy : (tb : Table) → Fin (tcTables nBuf tb) → BufTy
  | .hbm, ⟨i, _⟩ => hbmTy i
  | .local _ .vmem, ⟨0, _⟩ => ⟨S2x1024x6x192, .fp8e4m3⟩
  | .local _ .vmem, ⟨1, _⟩ => ⟨S2x1024x6x192, .fp8e4m3⟩
  | .local _ .vmem, ⟨2, _⟩ => ⟨S2x1024x6x384, .fp8e4m3⟩
  | .local _ .vmem, ⟨3, _⟩ => ⟨S2x1024x6x384, .fp8e5m2⟩
  | .local _ .vmem, ⟨4, _⟩ => ⟨S2x1024x6x192, .f32⟩
  | .local _ .vmem, ⟨5, _⟩ => ⟨S2x1024x6x192, .f32⟩
  | .local _ .vmem, ⟨6, _⟩ => ⟨S2x1024x6x384, .bf16⟩
  | .local _ .vmem, ⟨7, _⟩ => ⟨S2x1024x6x384, .bf16⟩
  | _, _ => ⟨S2x1024x6x192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_0 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v51 : Ref sig .tc := ⟨.hbm, 70, rfl⟩
abbrev main_v52 : Ref sig .tc := ⟨.hbm, 71, rfl⟩
abbrev main_cst_1 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_v15 : Ref sig .tc := ⟨.hbm, 104, rfl⟩
abbrev main_call3_v16 : Ref sig .tc := ⟨.hbm, 105, rfl⟩
abbrev main_call3_v17 : Ref sig .tc := ⟨.hbm, 106, rfl⟩
abbrev main_call3_v18 : Ref sig .tc := ⟨.hbm, 107, rfl⟩
abbrev main_call3_v19 : Ref sig .tc := ⟨.hbm, 108, rfl⟩
abbrev main_call3_v20 : Ref sig .tc := ⟨.hbm, 109, rfl⟩
abbrev main_call3_v21 : Ref sig .tc := ⟨.hbm, 110, rfl⟩
abbrev main_call3_v22 : Ref sig .tc := ⟨.hbm, 111, rfl⟩
abbrev main_call3_v23 : Ref sig .tc := ⟨.hbm, 112, rfl⟩
abbrev main_call3_v24 : Ref sig .tc := ⟨.hbm, 113, rfl⟩
abbrev main_call3_v25 : Ref sig .tc := ⟨.hbm, 114, rfl⟩
abbrev main_call3_v26 : Ref sig .tc := ⟨.hbm, 115, rfl⟩
abbrev main_call3_v27 : Ref sig .tc := ⟨.hbm, 116, rfl⟩
abbrev main_call3_v28 : Ref sig .tc := ⟨.hbm, 117, rfl⟩
abbrev main_call3_v29 : Ref sig .tc := ⟨.hbm, 118, rfl⟩
abbrev main_call3_v30 : Ref sig .tc := ⟨.hbm, 119, rfl⟩
abbrev main_call3_v31 : Ref sig .tc := ⟨.hbm, 120, rfl⟩
abbrev main_call3_v32 : Ref sig .tc := ⟨.hbm, 121, rfl⟩
abbrev main_call3_v33 : Ref sig .tc := ⟨.hbm, 122, rfl⟩
abbrev main_call3_v34 : Ref sig .tc := ⟨.hbm, 123, rfl⟩
abbrev main_call3_v35 : Ref sig .tc := ⟨.hbm, 124, rfl⟩
abbrev main_call3_v36 : Ref sig .tc := ⟨.hbm, 125, rfl⟩
abbrev main_call3_v37 : Ref sig .tc := ⟨.hbm, 126, rfl⟩
abbrev main_call3_v38 : Ref sig .tc := ⟨.hbm, 127, rfl⟩
abbrev main_call3_v39 : Ref sig .tc := ⟨.hbm, 128, rfl⟩
abbrev main_call3_v40 : Ref sig .tc := ⟨.hbm, 129, rfl⟩
abbrev main_call3_v41 : Ref sig .tc := ⟨.hbm, 130, rfl⟩
abbrev main_call3_v42 : Ref sig .tc := ⟨.hbm, 131, rfl⟩
abbrev main_call3_v43 : Ref sig .tc := ⟨.hbm, 132, rfl⟩
abbrev main_call3_v44 : Ref sig .tc := ⟨.hbm, 133, rfl⟩
abbrev main_call3_v45 : Ref sig .tc := ⟨.hbm, 134, rfl⟩
abbrev main_call3_v46 : Ref sig .tc := ⟨.hbm, 135, rfl⟩
abbrev main_call3_v47 : Ref sig .tc := ⟨.hbm, 136, rfl⟩
abbrev main_call3_v48 : Ref sig .tc := ⟨.hbm, 137, rfl⟩
abbrev main_call3_v49 : Ref sig .tc := ⟨.hbm, 138, rfl⟩
abbrev main_call3_v50 : Ref sig .tc := ⟨.hbm, 139, rfl⟩
abbrev main_call3_v51 : Ref sig .tc := ⟨.hbm, 140, rfl⟩
abbrev main_call3_v52 : Ref sig .tc := ⟨.hbm, 141, rfl⟩
abbrev main_call3_v53 : Ref sig .tc := ⟨.hbm, 142, rfl⟩
abbrev main_call3_v54 : Ref sig .tc := ⟨.hbm, 143, rfl⟩
abbrev main_call3_v55 : Ref sig .tc := ⟨.hbm, 144, rfl⟩
abbrev main_call3_v56 : Ref sig .tc := ⟨.hbm, 145, rfl⟩
abbrev main_call3_v57 : Ref sig .tc := ⟨.hbm, 146, rfl⟩
abbrev main_call3_v58 : Ref sig .tc := ⟨.hbm, 147, rfl⟩
abbrev main_call3_v59 : Ref sig .tc := ⟨.hbm, 148, rfl⟩
abbrev main_call3_v60 : Ref sig .tc := ⟨.hbm, 149, rfl⟩
abbrev main_v65 : Ref sig .tc := ⟨.hbm, 150, rfl⟩
abbrev main_call4_cst : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_v15 : Ref sig .tc := ⟨.hbm, 167, rfl⟩
abbrev main_call4_v16 : Ref sig .tc := ⟨.hbm, 168, rfl⟩
abbrev main_call4_v17 : Ref sig .tc := ⟨.hbm, 169, rfl⟩
abbrev main_call4_v18 : Ref sig .tc := ⟨.hbm, 170, rfl⟩
abbrev main_call4_v19 : Ref sig .tc := ⟨.hbm, 171, rfl⟩
abbrev main_call4_v20 : Ref sig .tc := ⟨.hbm, 172, rfl⟩
abbrev main_call4_v21 : Ref sig .tc := ⟨.hbm, 173, rfl⟩
abbrev main_call4_v22 : Ref sig .tc := ⟨.hbm, 174, rfl⟩
abbrev main_call4_v23 : Ref sig .tc := ⟨.hbm, 175, rfl⟩
abbrev main_call4_v24 : Ref sig .tc := ⟨.hbm, 176, rfl⟩
abbrev main_call4_v25 : Ref sig .tc := ⟨.hbm, 177, rfl⟩
abbrev main_call4_v26 : Ref sig .tc := ⟨.hbm, 178, rfl⟩
abbrev main_call4_v27 : Ref sig .tc := ⟨.hbm, 179, rfl⟩
abbrev main_call4_v28 : Ref sig .tc := ⟨.hbm, 180, rfl⟩
abbrev main_call4_v29 : Ref sig .tc := ⟨.hbm, 181, rfl⟩
abbrev main_call4_v30 : Ref sig .tc := ⟨.hbm, 182, rfl⟩
abbrev main_call4_v31 : Ref sig .tc := ⟨.hbm, 183, rfl⟩
abbrev main_call4_v32 : Ref sig .tc := ⟨.hbm, 184, rfl⟩
abbrev main_call4_v33 : Ref sig .tc := ⟨.hbm, 185, rfl⟩
abbrev main_call4_v34 : Ref sig .tc := ⟨.hbm, 186, rfl⟩
abbrev main_call4_v35 : Ref sig .tc := ⟨.hbm, 187, rfl⟩
abbrev main_call4_v36 : Ref sig .tc := ⟨.hbm, 188, rfl⟩
abbrev main_call4_v37 : Ref sig .tc := ⟨.hbm, 189, rfl⟩
abbrev main_call4_v38 : Ref sig .tc := ⟨.hbm, 190, rfl⟩
abbrev main_call4_v39 : Ref sig .tc := ⟨.hbm, 191, rfl⟩
abbrev main_call4_v40 : Ref sig .tc := ⟨.hbm, 192, rfl⟩
abbrev main_call4_v41 : Ref sig .tc := ⟨.hbm, 193, rfl⟩
abbrev main_call4_v42 : Ref sig .tc := ⟨.hbm, 194, rfl⟩
abbrev main_call4_v43 : Ref sig .tc := ⟨.hbm, 195, rfl⟩
abbrev main_call4_v44 : Ref sig .tc := ⟨.hbm, 196, rfl⟩
abbrev main_call4_v45 : Ref sig .tc := ⟨.hbm, 197, rfl⟩
abbrev main_call4_v46 : Ref sig .tc := ⟨.hbm, 198, rfl⟩
abbrev main_call4_v47 : Ref sig .tc := ⟨.hbm, 199, rfl⟩
abbrev main_call4_v48 : Ref sig .tc := ⟨.hbm, 200, rfl⟩
abbrev main_call4_v49 : Ref sig .tc := ⟨.hbm, 201, rfl⟩
abbrev main_call4_v50 : Ref sig .tc := ⟨.hbm, 202, rfl⟩
abbrev main_call4_v51 : Ref sig .tc := ⟨.hbm, 203, rfl⟩
abbrev main_call4_v52 : Ref sig .tc := ⟨.hbm, 204, rfl⟩
abbrev main_call4_v53 : Ref sig .tc := ⟨.hbm, 205, rfl⟩
abbrev main_call4_v54 : Ref sig .tc := ⟨.hbm, 206, rfl⟩
abbrev main_call4_v55 : Ref sig .tc := ⟨.hbm, 207, rfl⟩
abbrev main_call4_v56 : Ref sig .tc := ⟨.hbm, 208, rfl⟩
abbrev main_call4_v57 : Ref sig .tc := ⟨.hbm, 209, rfl⟩
abbrev main_call4_v58 : Ref sig .tc := ⟨.hbm, 210, rfl⟩
abbrev main_call4_v59 : Ref sig .tc := ⟨.hbm, 211, rfl⟩
abbrev main_call4_v60 : Ref sig .tc := ⟨.hbm, 212, rfl⟩
abbrev main_v66 : Ref sig .tc := ⟨.hbm, 213, rfl⟩
abbrev main_v67 : Ref sig .tc := ⟨.hbm, 214, rfl⟩
abbrev main_v68 : Ref sig .tc := ⟨.hbm, 215, rfl⟩
abbrev main_cst_2 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_call5_cst : Ref sig .tc := ⟨.hbm, 244, rfl⟩
abbrev main_call5_v0 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_v99 : Ref sig .tc := ⟨.hbm, 249, rfl⟩
abbrev main_v100 : Ref sig .tc := ⟨.hbm, 250, rfl⟩
abbrev main_v101 : Ref sig .tc := ⟨.hbm, 251, rfl⟩
abbrev main_v102 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x6x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x6x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x6x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x6x384 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x6x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x6x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x6x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x6x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pair.lean ====
/- What one pair of chunks (128 tokens) of one (head, batch) block computes, as arrays: the kernel's operations, in the
   kernel's order, written once for every pair. -/
module

public import proofs.«01_k».proof.Defs
public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Work

open Cert.KernelIdeal Cert.KernelIdeal.Gen

/-- The causal mask within a pair: key `j` (row) and query `i` (column) of one chunk, `j ≤ i`. -/
def causal : IVec S128x128 1 :=
  k0_pay20 (iota .tc S128x128 32 [0] iota_S128x128_d0_w32) k0_pay15 k0_pay16 64#32 k0_pay17 k0_pay18 k0_pay19

/-- The gates' running sums within each chunk of four: the slab as three summands times the stacked triangle. -/
def sums (g : Vec Ideal S1x1x192x256 .f32) (tri : Vec Ideal S768x256 .bf16) : FVec Ideal S192x256 .f32 :=
  have x : FVec Ideal S192x256 .f32 := shapeCast S192x256 g shapeCasts_S1x1x192x256_S192x256
  have hi : FVec Ideal S192x256 .bf16 := truncf .bf16 x bitsLt_bf16_f32
  have r : FVec Ideal S192x256 .f32 := subf x (extf .f32 hi bitsLt_bf16_f32)
  have mid : FVec Ideal S192x256 .bf16 := truncf .bf16 r bitsLt_bf16_f32
  have lo : FVec Ideal S192x256 .bf16 := truncf .bf16 (subf r (extf .f32 mid bitsLt_bf16_f32)) bitsLt_bf16_f32
  matmul (φ₂ := .bf16) dot_S192x768_S768x256_S192x256_1_0_0_1_n_n none
    (concatenate S192x768 1 [⟨S192x256, hi⟩, ⟨S192x256, mid⟩, ⟨S192x256, lo⟩] concatenates_S192x256_S192x256_S192x256_S192x768_d1)
    tri (constant S192x256 .f32 0x00000000#32)

/-- What one pair reads: the running sums of its gates, its codes, the scales of its `do` rows, and the scales of
    `q`, `k`, `v` in its two chunks. -/
structure PairIn where
  bc : FVec Ideal S192x128 .f32
  q : Vec Ideal S1x1x192x128 .fp8e4m3
  k : Vec Ideal S1x1x192x128 .fp8e4m3
  v : Vec Ideal S1x1x128x384 .fp8e4m3
  o : Vec Ideal S1x1x128x384 .fp8e5m2
  ds : FVec Ideal S12x128 .f32
  qs0 : Elt Ideal .f32
  qs1 : Elt Ideal .f32
  ks0 : Elt Ideal .f32
  ks1 : Elt Ideal .f32
  vs0 : Elt Ideal .f32
  vs1 : Elt Ideal .f32

namespace PairIn

variable (x : PairIn)

/-- The gates' sum over the whole first chunk. -/
def end1 : FVec Ideal S192x1 .f32 := extractStridedSlice S192x1 ![0, 63] x.bc slices_S192x128_o0_63_S192x1
/-- The gates' sum over the whole second chunk. -/
def end2 : FVec Ideal S192x1 .f32 := extractStridedSlice S192x1 ![0, 127] x.bc slices_S192x128_o0_127_S192x1
/-- The first chunk's decay. -/
def d1 : FVec Ideal S192x1 .f32 := exp x.end1
/-- The second chunk's decay. -/
def d2 : FVec Ideal S192x1 .f32 := exp x.end2
/-- `exp bc * scale`. -/
def es : FVec Ideal S192x128 .f32 := mulf (exp x.bc) (broadcast S192x128 (Scalar.ofBits .f32 0x3D93CD3A#32))
/-- `exp (-bc)`. -/
def en : FVec Ideal S192x128 .f32 := exp (subf (broadcast S192x128 (Scalar.ofBits .f32 0x00000000#32)) x.bc)
/-- `exp (end - bc)`, `end` the chunk's own. -/
def ee : FVec Ideal S192x128 .f32 :=
  exp (subf (select (broadcastTo S192x128 (shapeCast S1x128 k0_pay14 shapeCasts_S1x128_S1x128) broadcasts_S1x128_S192x128)
    (broadcastTo S192x128 (shapeCast S192x1 x.end1 shapeCasts_S192x1_S192x1) broadcasts_S192x1_S192x128)
    (broadcastTo S192x128 (shapeCast S192x1 x.end2 shapeCasts_S192x1_S192x1) broadcasts_S192x1_S192x128)) x.bc)

/-- A row holding one scalar over the first chunk and one over the second. -/
def row (a b : Elt Ideal .f32) : FVec Ideal S1x128 .f32 := select k0_pay14 (broadcast S1x128 a) (broadcast S1x128 b)

/-- The values' scales of the two chunks, on every channel. -/
def vrow : FVec Ideal S192x128 .f32 := broadcastTo S192x128 (row x.vs0 x.vs1) broadcasts_S1x128_S192x128
/-- The queries. -/
def qf : FVec Ideal S192x128 .f32 :=
  mulf (extf .f32 (shapeCast S192x128 x.q shapeCasts_S1x1x192x128_S192x128) bitsLt_fp8e4m3_f32)
    (broadcastTo S192x128 (row x.qs0 x.qs1) broadcasts_S1x128_S192x128)
/-- The keys. -/
def kf : FVec Ideal S192x128 .f32 :=
  mulf (extf .f32 (shapeCast S192x128 x.k shapeCasts_S1x1x192x128_S192x128) bitsLt_fp8e4m3_f32)
    (broadcastTo S192x128 (row x.ks0 x.ks1) broadcasts_S1x128_S192x128)
/-- The grown queries. -/
def qg : FVec Ideal S192x128 .bf16 := truncf .bf16 (mulf x.qf x.es) bitsLt_bf16_f32
/-- The shrunk keys. -/
def kg : FVec Ideal S192x128 .bf16 := truncf .bf16 (mulf x.kf x.en) bitsLt_bf16_f32
/-- The decayed keys. -/
def kd : FVec Ideal S192x128 .f32 := mulf x.kf x.ee
/-- The decayed keys times the values' scales. -/
def kdv : FVec Ideal S192x128 .bf16 := truncf .bf16 (mulf x.kd x.vrow) bitsLt_bf16_f32
/-- The decays times the values' scales. -/
def eev : FVec Ideal S192x128 .f32 := shapeCast S192x128 (mulf x.ee x.vrow) shapeCasts_S192x128_S192x128
/-- The decayed keys, transposed. -/
def kdt : FVec Ideal S1x128x192 .bf16 :=
  shapeCast S1x128x192 (transpose S128x192 [1, 0] (truncf .bf16 x.kd bitsLt_bf16_f32) transposes_S192x128_p1_0_S128x192)
    shapeCasts_S128x192_S1x128x192

/-- The values. -/
def vf : FVec Ideal S128x384 .bf16 := extf .bf16 (shapeCast S128x384 x.v shapeCasts_S1x1x128x384_S128x384) bitsLt_fp8e4m3_bf16
/-- The values of the two chunks on the diagonal of a block matrix. -/
def v2 : FVec Ideal S128x768 .bf16 :=
  concatenate S128x768 0
    [⟨S64x768, concatenate S64x768 1
        [⟨S64x384, extractStridedSlice S64x384 ![0, 0] x.vf slices_S128x384_o0_0_S64x384⟩,
         ⟨S64x384, broadcast S64x384 (Scalar.ofBits .bf16 0x0000#16)⟩] concatenates_S64x384_S64x384_S64x768_d1⟩,
     ⟨S64x768, concatenate S64x768 1
        [⟨S64x384, broadcast S64x384 (Scalar.ofBits .bf16 0x0000#16)⟩,
         ⟨S64x384, extractStridedSlice S64x384 ![64, 0] x.vf slices_S128x384_o64_0_S64x384⟩] concatenates_S64x384_S64x384_S64x768_d1⟩]
    concatenates_S64x768_S64x768_S128x768_d0
/-- The rows of `do`, transposed and scaled. -/
def dt : FVec Ideal S384x128 .bf16 :=
  mulf (transpose S384x128 [1, 0] (extf .bf16 (shapeCast S128x384 x.o shapeCasts_S1x1x128x384_S128x384) bitsLt_fp8e5m2_bf16)
      transposes_S128x384_p1_0_S384x128)
    (shapeCast S384x128 (broadcastTo S12x32x128 (shapeCast S12x1x128 (shapeCast S12x1x128 (truncf .bf16 x.ds bitsLt_bf16_f32)
      shapeCasts_S12x128_S12x1x128) shapeCasts_S12x1x128_S12x1x128) broadcasts_S12x1x128_S12x32x128) shapeCasts_S12x32x128_S384x128)
/-- The same, the two chunks' columns in different halves of the rows. -/
def d2t : FVec Ideal S768x128 .bf16 :=
  concatenate S768x128 0
    [⟨S384x128, select (broadcastTo S384x128 (shapeCast S1x128 k0_pay14 shapeCasts_S1x128_S1x128) broadcasts_S1x128_S384x128) x.dt
        (broadcast S384x128 (Scalar.ofBits .bf16 0x0000#16))⟩,
     ⟨S384x128, select (broadcastTo S384x128 (shapeCast S1x128 k0_pay14 shapeCasts_S1x128_S1x128) broadcasts_S1x128_S384x128)
        (broadcast S384x128 (Scalar.ofBits .bf16 0x0000#16)) x.dt⟩] concatenates_S384x128_S384x128_S768x128_d0

/-- `v · do`, key by query, before scaling. -/
def at0 : FVec Ideal S128x128 .f32 :=
  matmul dot_S128x384_S384x128_S128x128_1_0_0_1_n_n none x.vf x.dt (constant S128x128 .f32 0x00000000#32)
/-- The gradient of the scores, key by query: scaled and masked. -/
def at_ : FVec Ideal S128x128 .bf16 :=
  truncf .bf16 (select causal
    (concatenate S128x128 0
      [⟨S64x128, mulf (extractStridedSlice S64x128 ![0, 0] x.at0 slices_S128x128_o0_0_S64x128) (broadcast S64x128 x.vs0)⟩,
       ⟨S64x128, mulf (extractStridedSlice S64x128 ![64, 0] x.at0 slices_S128x128_o64_0_S64x128) (broadcast S64x128 x.vs1)⟩]
      concatenates_S64x128_S64x128_S128x128_d0)
    (broadcast S128x128 (Scalar.ofBits .f32 0x00000000#32))) bitsLt_bf16_f32
/-- What the pair's own scores contribute to `dq` (first half of the columns) and `dk` (second half). -/
def intra : FVec Ideal S192x256 .f32 :=
  matmul dot_S192x256_S256x256_S192x256_1_0_0_1_n_n none
    (concatenate S192x256 1 [⟨S192x128, x.kg⟩, ⟨S192x128, x.qg⟩] concatenates_S192x128_S192x128_S192x256_d1)
    (concatenate S256x256 0
      [⟨S128x256, concatenate S128x256 1 [⟨S128x128, x.at_⟩, ⟨S128x128, broadcast S128x128 (Scalar.ofBits .bf16 0x0000#16)⟩]
          concatenates_S128x128_S128x128_S128x256_d1⟩,
       ⟨S128x256, concatenate S128x256 1 [⟨S128x128, broadcast S128x128 (Scalar.ofBits .bf16 0x0000#16)⟩,
          ⟨S128x128, transpose S128x128 [1, 0] x.at_ transposes_S128x128_p1_0_S128x128⟩] concatenates_S128x128_S128x128_S128x256_d1⟩]
      concatenates_S128x256_S128x256_S256x256_d0)
    (constant S192x256 .f32 0x00000000#32)
/-- The part of the keys' gradient from within the chunks. -/
def dki : FVec Ideal S192x128 .f32 :=
  shapeCast S192x128 (mulf x.en (extractStridedSlice S192x128 ![0, 128] x.intra slices_S192x256_o0_128_S192x128)) shapeCasts_S192x128_S192x128
/-- The scores, key by query, masked. -/
def pt : FVec Ideal S1x128x128 .bf16 :=
  shapeCast S1x128x128 (truncf .bf16 (select causal
    (matmul dot_S128x192_S192x128_S128x128_1_0_0_1_n_n none (transpose S128x192 [1, 0] x.kg transposes_S192x128_p1_0_S128x192) x.qg
      (constant S128x128 .f32 0x00000000#32))
    (broadcast S128x128 (Scalar.ofBits .f32 0x00000000#32))) bitsLt_bf16_f32) shapeCasts_S128x128_S1x128x128

/-! ### Forward: the state `s` enters the pair -/

/-- What the two chunks add to the state. -/
def u : FVec Ideal S192x768 .f32 :=
  matmul dot_S192x128_S128x768_S192x768_1_0_0_1_n_n none x.kdv x.v2 (constant S192x768 .f32 0x00000000#32)
/-- The state between the two chunks. -/
def mid (s : FVec Ideal S192x384 .f32) : FVec Ideal S192x384 .f32 :=
  addf (mulf (broadcastTo S192x384 x.d1 broadcasts_S192x1_S192x384) s)
    (extractStridedSlice S192x384 ![0, 0] x.u slices_S192x768_o0_0_S192x384)
/-- The state that leaves the pair. -/
def next (s : FVec Ideal S192x384 .f32) : FVec Ideal S192x384 .f32 :=
  addf (mulf (broadcastTo S192x384 x.d2 broadcasts_S192x1_S192x384) (x.mid s))
    (extractStridedSlice S192x384 ![0, 384] x.u slices_S192x768_o0_384_S192x384)
/-- The queries' gradient. -/
def dq (s : FVec Ideal S192x384 .f32) : FVec Ideal S192x128 .f32 :=
  mulf x.es (addf
    (matmul dot_S192x768_S768x128_S192x128_1_0_0_1_n_n none
      (concatenate S192x768 1 [⟨S192x384, truncf .bf16 s bitsLt_bf16_f32⟩, ⟨S192x384, truncf .bf16 (x.mid s) bitsLt_bf16_f32⟩]
        concatenates_S192x384_S192x384_S192x768_d1) x.d2t (constant S192x128 .f32 0x00000000#32))
    (extractStridedSlice S192x128 ![0, 0] x.intra slices_S192x256_o0_0_S192x128))
/-- The block of `dq` the pair stores. -/
def dqOut (s : FVec Ideal S192x384 .f32) : FVec Ideal S1x1x192x128 .bf16 :=
  shapeCast S1x1x192x128 (truncf .bf16 (x.dq s) bitsLt_bf16_f32) shapeCasts_S192x128_S1x1x192x128
/-- Queries times their gradient. -/
def qdq (s : FVec Ideal S192x384 .f32) : FVec Ideal S192x128 .f32 :=
  shapeCast S192x128 (mulf x.qf (x.dq s)) shapeCasts_S192x128_S192x128

/-! ### Backward: the state gradient `s` that leaves the pair -/

/-- What the two chunks add to the state gradient. -/
def w : FVec Ideal S192x768 .f32 :=
  matmul dot_S192x128_S768x128_S192x768_1_1_0_0_n_n none
    (shapeCast S192x128 (shapeCast S1x192x128 x.qg shapeCasts_S192x128_S1x192x128) shapeCasts_S1x192x128_S192x128)
    (shapeCast S768x128 (shapeCast S1x768x128 x.d2t shapeCasts_S768x128_S1x768x128) shapeCasts_S1x768x128_S768x128)
    (constant S192x768 .f32 0x00000000#32)
/-- The state gradient between the two chunks. -/
def midB (s : FVec Ideal S192x384 .f32) : FVec Ideal S192x384 .f32 :=
  addf (mulf (broadcastTo S192x384 x.d2 broadcasts_S192x1_S192x384) s)
    (extractStridedSlice S192x384 ![0, 384] x.w slices_S192x768_o0_384_S192x384)
/-- The state gradient that enters the pair. -/
def nextB (s : FVec Ideal S192x384 .f32) : FVec Ideal S192x384 .f32 :=
  addf (mulf (broadcastTo S192x384 x.d1 broadcasts_S192x1_S192x384) (x.midB s))
    (extractStridedSlice S192x384 ![0, 0] x.w slices_S192x768_o0_0_S192x384)
/-- The keys' gradient. -/
def dk (s : FVec Ideal S192x384 .f32) : FVec Ideal S192x128 .f32 :=
  addf (mulf x.eev
    (matmul dot_S192x768_S128x768_S192x128_1_1_0_0_n_n none
      (concatenate S192x768 1 [⟨S192x384, truncf .bf16 (x.midB s) bitsLt_bf16_f32⟩, ⟨S192x384, truncf .bf16 s bitsLt_bf16_f32⟩]
        concatenates_S192x384_S192x384_S192x768_d1)
      (shapeCast S128x768 (shapeCast S1x128x768 x.v2 shapeCasts_S128x768_S1x128x768) shapeCasts_S1x128x768_S128x768)
      (constant S192x128 .f32 0x00000000#32))) x.dki
/-- The block of `dk` the pair stores. -/
def dkOut (s : FVec Ideal S192x384 .f32) : FVec Ideal S1x1x192x128 .bf16 :=
  shapeCast S1x1x192x128 (truncf .bf16 (x.dk s) bitsLt_bf16_f32) shapeCasts_S192x128_S1x1x192x128
/-- The values' gradient. -/
def dv (s : FVec Ideal S192x384 .f32) : FVec Ideal S128x384 .f32 :=
  addf (concatenate S128x384 0
      [⟨S64x384, matmul dot_S64x192_S192x384_S64x384_1_0_0_1_n_n none
          (extractStridedSlice S64x192 ![0, 0] (shapeCast S128x192 x.kdt shapeCasts_S1x128x192_S128x192) slices_S128x192_o0_0_S64x192)
          (truncf .bf16 (x.midB s) bitsLt_bf16_f32) (constant S64x384 .f32 0x00000000#32)⟩,
       ⟨S64x384, matmul dot_S64x192_S192x384_S64x384_1_0_0_1_n_n none
          (extractStridedSlice S64x192 ![64, 0] (shapeCast S128x192 x.kdt shapeCasts_S1x128x192_S128x192) slices_S128x192_o64_0_S64x192)
          (truncf .bf16 s bitsLt_bf16_f32) (constant S64x384 .f32 0x00000000#32)⟩] concatenates_S64x384_S64x384_S128x384_d0)
    (matmul dot_S128x128_S384x128_S128x384_1_1_0_0_n_n none
      (shapeCast S128x128 x.pt shapeCasts_S1x128x128_S128x128)
      (shapeCast S384x128 (shapeCast S1x384x128 x.dt shapeCasts_S384x128_S1x384x128) shapeCasts_S1x384x128_S384x128)
      (constant S128x384 .f32 0x00000000#32))
/-- The block of `dv` the pair stores. -/
def dvOut (s : FVec Ideal S192x384 .f32) : FVec Ideal S1x1x128x384 .bf16 :=
  shapeCast S1x1x128x384 (truncf .bf16 (x.dv s) bitsLt_bf16_f32) shapeCasts_S128x384_S1x1x128x384
/-- The block of `db` the pair stores: `f` the forward state that enters it, `s` the state gradient that leaves it. -/
def dbOut (f s : FVec Ideal S192x384 .f32) : FVec Ideal S1x1x192x128 .f32 :=
  shapeCast S1x1x192x128 (subf (x.qdq f) (mulf x.kf (x.dk s))) shapeCasts_S192x128_S1x1x192x128

end PairIn

/-! ### The block's pairs -/

/-- What one block reads: the three tables of scales, the codes, the scales of `do`, the gates, and the stacked triangle. -/
structure BlkIn where
  i : grid0.Coords
  qs : Vec Ideal S6x2x16 .f32
  ks : Vec Ideal S6x2x16 .f32
  vs : Vec Ideal S6x2x16 .f32
  q : Vec Ideal S1x1x192x1024 .fp8e4m3
  k : Vec Ideal S1x1x192x1024 .fp8e4m3
  v : Vec Ideal S1x1x1024x384 .fp8e4m3
  o : Vec Ideal S1x1x1024x384 .fp8e5m2
  ds : Vec Ideal S1x12x2x1024 .f32
  g : Vec Ideal S1x1x192x1024 .f32
  tri : Vec Ideal S768x256 .bf16

namespace BlkIn

variable (x : BlkIn)

/-- A scale's place lies in its table. -/
theorem inb_sc (i : grid0.Coords) (n : ℕ) : ∀ a, (![(i 0).val, (i 1).val, n % 16] : Fin 3 → ℕ) a + S1x1x1.size a ≤ S6x2x16.size a
  | 0 => (i 0).isLt
  | 1 => (i 1).isLt
  | 2 => Nat.mod_lt n (by decide)

/-- The scale of chunk `n` in a table. -/
def sc (i : grid0.Coords) (tab : Vec Ideal S6x2x16 .f32) (n : ℕ) : Elt Ideal .f32 :=
  View.ld tab (Rect.unit ![(i 0).val, (i 1).val, n % 16] S1x1x1.size (inb_sc i n)) (Shape.Idx.first (Nat.one_pos : 0 < S1x1x1.numel))

/-- A load of one scalar at computed offsets is the table's entry they name. -/
theorem ld_sc {i : grid0.Coords} {off : Fin 3 → ℕ} (n : ℕ) (h : off = ![(i 0).val, (i 1).val, n % 16]) (tab : Vec Ideal S6x2x16 .f32) (inb) :
    View.ld tab (Rect.unit off (no_index S1x1x1.size) inb) = fun _ => sc i tab n := by
  subst h
  funext j
  unfold sc
  congr 1
  funext a
  apply Fin.ext
  have := (j a).isLt
  have : S1x1x1.size a = 1 := by fin_cases a <;> rfl
  show (j a).val = 0
  have h3 : (j a).val < S1x1x1.size a := (j a).isLt
  omega

/-- The same for the one number such a load returns. -/
theorem ld_sc_apply {i : grid0.Coords} {off : Fin 3 → ℕ} (n : ℕ) (h : off = ![(i 0).val, (i 1).val, n % 16])
    (tab : Vec Ideal S6x2x16 .f32) (inb) (j) :
    View.ld tab (Rect.unit (s := S6x2x16) off ![1, 1, 1] inb) j = sc i tab n := by
  subst h
  rw [ld_sc n rfl]

/-- The batch's scales lie in their block. -/
theorem inb_ds (i : grid0.Coords) : ∀ a, (![0, 0, (i 1).val, 0] : Fin 4 → ℕ) a + S1x12x1x1024.size a ≤ S1x12x2x1024.size a
  | 0 => Nat.le_refl _
  | 1 => Nat.le_refl _
  | 2 => (i 1).isLt
  | 3 => Nat.le_refl _

/-- The scales of `do` of the block's batch. -/
def dsb (i : grid0.Coords) (tab : Vec Ideal S1x12x2x1024 .f32) : Vec Ideal S1x12x1x1024 .f32 :=
  View.ld tab (Rect.unit ![0, 0, (i 1).val, 0] S1x12x1x1024.size (inb_ds i))

/-- The load of the batch's scales does not depend on how its offsets are written. -/
theorem ld_ds {i : grid0.Coords} {off : Fin 4 → ℕ} (h : off = ![0, 0, (i 1).val, 0]) (tab : Vec Ideal S1x12x2x1024 .f32) (inb) :
    View.ld tab (Rect.unit off (no_index S1x12x1x1024.size) inb) = dsb i tab := by subst h; rfl

/-- A pair's columns lie in the block. -/
theorem inb_chan (p : ℕ) : ∀ a, (![0, 0, 0, 128 * (p % 8)] : Fin 4 → ℕ) a + S1x1x192x128.size a ≤ S1x1x192x1024.size a
  | 0 => Nat.le_refl _
  | 1 => Nat.le_refl _
  | 2 => Nat.le_refl _
  | 3 => by show 128 * (p % 8) + 128 ≤ 1024; omega

/-- A pair's rows lie in the block. -/
theorem inb_tok (p : ℕ) : ∀ a, (![0, 0, 128 * (p % 8), 0] : Fin 4 → ℕ) a + S1x1x128x384.size a ≤ S1x1x1024x384.size a
  | 0 => Nat.le_refl _
  | 1 => Nat.le_refl _
  | 2 => by show 128 * (p % 8) + 128 ≤ 1024; omega
  | 3 => Nat.le_refl _

/-- A group of two pairs lies in the block. -/
theorem inb_slab (p : ℕ) : ∀ a, (![0, 0, 0, 256 * (p / 2 % 4)] : Fin 4 → ℕ) a + S1x1x192x256.size a ≤ S1x1x192x1024.size a
  | 0 => Nat.le_refl _
  | 1 => Nat.le_refl _
  | 2 => Nat.le_refl _
  | 3 => by show 256 * (p / 2 % 4) + 256 ≤ 1024; omega

/-- A pair is a half of its group. -/
theorem slices_half (p : ℕ) : S192x256.Slices ![0, 128 * (p % 2)] S192x128 :=
  ⟨rfl, fun
    | 0 => Nat.le_refl _
    | 1 => by show 128 * (p % 2) + 128 ≤ 256; omega⟩

/-- The scales of a pair are a slice of all. -/
theorem slices_ds (p : ℕ) : S12x1024.Slices ![0, 128 * (p % 8)] S12x128 :=
  ⟨rfl, fun
    | 0 => Nat.le_refl _
    | 1 => by show 128 * (p % 8) + 128 ≤ 1024; omega⟩

/-- What pair `p` of the block reads. -/
def pair (p : ℕ) : PairIn where
  bc := extractStridedSlice S192x128 ![0, 128 * (p % 2)]
    (sums (View.ld x.g (Rect.unit ![0, 0, 0, 256 * (p / 2 % 4)] S1x1x192x256.size (inb_slab p))) x.tri) (slices_half p)
  q := View.ld x.q (Rect.unit ![0, 0, 0, 128 * (p % 8)] S1x1x192x128.size (inb_chan p))
  k := View.ld x.k (Rect.unit ![0, 0, 0, 128 * (p % 8)] S1x1x192x128.size (inb_chan p))
  v := View.ld x.v (Rect.unit ![0, 0, 128 * (p % 8), 0] S1x1x128x384.size (inb_tok p))
  o := View.ld x.o (Rect.unit ![0, 0, 128 * (p % 8), 0] S1x1x128x384.size (inb_tok p))
  ds := extractStridedSlice S12x128 ![0, 128 * (p % 8)]
    (shapeCast S12x1024 (dsb x.i x.ds) shapeCasts_S1x12x1x1024_S12x1024)
    (slices_ds p)
  qs0 := sc x.i x.qs (2 * p)
  qs1 := sc x.i x.qs (2 * p + 1)
  ks0 := sc x.i x.ks (2 * p)
  ks1 := sc x.i x.ks (2 * p + 1)
  vs0 := sc x.i x.vs (2 * p)
  vs1 := sc x.i x.vs (2 * p + 1)

/-- The state that enters pair `n`. -/
def fwd : ℕ → FVec Ideal S192x384 .f32
  | 0 => broadcast S192x384 (Scalar.ofBits .f32 0x00000000#32)
  | n + 1 => (x.pair n).next (fwd n)

/-- The state gradient that leaves pair `7 - n`. -/
def bwd : ℕ → FVec Ideal S192x384 .f32
  | 0 => broadcast S192x384 (Scalar.ofBits .f32 0x00000000#32)
  | n + 1 => (x.pair (7 - n)).nextB (bwd n)

/-- The stores into `dq`'s block, last first. -/
def dqPieces : List (View.Piece (Elt Ideal) S1x1x192x1024 .bf16) :=
  [7, 6, 5, 4, 3, 2, 1, 0].map fun p => ⟨Rect.unit ![0, 0, 0, 128 * (p % 8)] S1x1x192x128.size (inb_chan p), (x.pair p).dqOut (x.fwd p)⟩
/-- The stores into `dk`'s block, last first. -/
def dkPieces : List (View.Piece (Elt Ideal) S1x1x192x1024 .bf16) :=
  [0, 1, 2, 3, 4, 5, 6, 7].map fun p => ⟨Rect.unit ![0, 0, 0, 128 * (p % 8)] S1x1x192x128.size (inb_chan p), (x.pair p).dkOut (x.bwd (7 - p))⟩
/-- The stores into `dv`'s block, last first. -/
def dvPieces : List (View.Piece (Elt Ideal) S1x1x1024x384 .bf16) :=
  [0, 1, 2, 3, 4, 5, 6, 7].map fun p => ⟨Rect.unit ![0, 0, 128 * (p % 8), 0] S1x1x128x384.size (inb_tok p), (x.pair p).dvOut (x.bwd (7 - p))⟩
/-- The stores into `db`'s block, last first. -/
def dbPieces : List (View.Piece (Elt Ideal) S1x1x192x1024 .f32) :=
  [0, 1, 2, 3, 4, 5, 6, 7].map fun p => ⟨Rect.unit ![0, 0, 0, 128 * (p % 8)] S1x1x192x128.size (inb_chan p), (x.pair p).dbOut (x.fwd p) (x.bwd (7 - p))⟩

end BlkIn

/-- The triangle within each chunk of four, `t ≤ i`. -/
def tri0 : FVec Ideal S256x256 .bf16 :=
  k0_pay6 (iota .tc S256x256 32 [0] iota_S256x256_d0_w32) (iota .tc S256x256 32 [1] iota_S256x256_d1_w32) k0_pay3 k0_pay4 k0_pay5

/-- The triangle stacked three times. -/
def triStack : Vec Ideal S768x256 .bf16 :=
  View.canon (Val := Elt Ideal) (s := S768x256) (e := .bf16)
    [⟨Rect.unit ![512, 0] S256x256.size inb_S768x256_S256x256_512_0, shapeCast S256x256 tri0 shapeCasts_S256x256_S256x256⟩,
     ⟨Rect.unit ![256, 0] S256x256.size inb_S768x256_S256x256_256_0, shapeCast S256x256 tri0 shapeCasts_S256x256_S256x256⟩,
     ⟨Rect.unit ![0, 0] S256x256.size inb_S768x256_S256x256_0_0, shapeCast S256x256 tri0 shapeCasts_S256x256_S256x256⟩]

end Cert.KernelIdeal.Work
-- ==== Proof.Read.lean ====
module

public import proofs.«01_k».proof.Defs
public import proofs.«01_k».proof.Proof.Gen.KernelIdeal.Frame
public import proofs.«01_k».proof.Proof.Pair
public import Idealize.ShloMosaic.Lib.Pipeline.ValueKit
public import Idealize.ShloMosaic.Lib.Pipeline.ReadBack
public import Idealize.ShloMosaic.Lib.Pointwise

@[expose] public section

set_option maxRecDepth 16384
set_option maxHeartbeats 0

noncomputable section

open Idealize.ShloMosaic Idealize.ShloMosaic.TcCoe Idealize.SL.Sem
open Idealize.ShloMosaic.Pipeline (Dat)

namespace Cert.KernelIdeal.Work

open Cert.KernelIdeal Cert.KernelIdeal.Gen

variable (m : (ℓ : Loc nD τ sig) → Buf (Elt Ideal) ℓ)

/-- The sign of 64. -/
theorem sign64 : Scalar.subi (Scalar.extui (Scalar.cmpi .sgt 64#32 0#32)) (Scalar.extui (Scalar.cmpi .slt 64#32 0#32)) = 1#32 := rfl

/-- A load of the whole stacked triangle, after stores into it. -/
theorem readCov_tri (v : View sig .tc .vmem S768x256 .bf16) (L : List (View.Piece (Elt Ideal) S768x256 .bf16)) (inb) :
    v.readCov L (Rect.unit ![0, 0] (no_index S768x256.size) inb).toLoadRect = View.canon L := by
  rw [View.readCov_eq_canon']
  funext j
  congr 1
  funext a
  apply Fin.ext
  match a with
  | 0 => show 0 + 1 * (j 0).val = _; omega
  | 1 => show 0 + 1 * (j 1).val = _; omega

/-- What the block at point `t` reads, the stacked triangle being `T`. -/
def blkIn (c : Dev nD) (t : Fin cfg0.N) (T : Vec Ideal S768x256 .bf16) : BlkIn where
  i := grid0.coords t
  qs := iblk m c 0 t
  ks := iblk m c 1 t
  vs := iblk m c 2 t
  q := iblk m c 3 t
  k := iblk m c 4 t
  v := iblk m c 5 t
  o := iblk m c 6 t
  ds := iblk m c 7 t
  g := iblk m c 8 t
  tri := T

/-- A point that builds the triangle writes, to each of the four results, its pieces computed with that triangle. -/
theorem outs_first (c : Dev nD) (t : Fin cfg0.N) (h0 : t.val % 12 = 0) :
    (outsAt0 m c t.val t.isLt).1 = View.canon (blkIn m c t triStack).dqPieces
    ∧ (outsAt0 m c t.val t.isLt).2.1 = View.canon (blkIn m c t triStack).dkPieces
    ∧ (outsAt0 m c t.val t.isLt).2.2.1 = View.canon (blkIn m c t triStack).dvPieces
    ∧ (outsAt0 m c t.val t.isLt).2.2.2.2.1 = View.canon (blkIn m c t triStack).dbPieces := by
  rw [outsAt0_A m c t h0]
  dsimp only [blkIn]
  generalize (iblk m c 0 t : Vec Ideal S6x2x16 .f32) = x0
  generalize (iblk m c 1 t : Vec Ideal S6x2x16 .f32) = x1
  generalize (iblk m c 2 t : Vec Ideal S6x2x16 .f32) = x2
  generalize (iblk m c 3 t : Vec Ideal S1x1x192x1024 .fp8e4m3) = x3
  generalize (iblk m c 4 t : Vec Ideal S1x1x192x1024 .fp8e4m3) = x4
  generalize (iblk m c 5 t : Vec Ideal S1x1x1024x384 .fp8e4m3) = x5
  generalize (iblk m c 6 t : Vec Ideal S1x1x1024x384 .fp8e5m2) = x6
  generalize (iblk m c 7 t : Vec Ideal S1x12x2x1024 .f32) = x7
  generalize (iblk m c 8 t : Vec Ideal S1x1x192x1024 .f32) = x8
  refine ⟨?_, ?_, ?_, ?_⟩ <;>
  ( frame_open
    simp (disch := decide) only [↓ View.readCov_skip, ↓ View.readCov_cons_toLoadRect]
    frame_out
    simp only [readCov_tri,
      BlkIn.ld_ds (k0_off1_eq _) x7, BlkIn.ld_sc_apply 0 (k0_off2_eq _) x0, BlkIn.ld_sc_apply 0 (k0_off2_eq _) x1, BlkIn.ld_sc_apply 0
      (k0_off2_eq _) x2, BlkIn.ld_sc_apply 1 (k0_off3_eq _) x0, BlkIn.ld_sc_apply 1 (k0_off3_eq _) x1, BlkIn.ld_sc_apply 1 (k0_off3_eq _)
      x2, BlkIn.ld_sc_apply 2 (k0_off4_eq _) x0, BlkIn.ld_sc_apply 2 (k0_off4_eq _) x1, BlkIn.ld_sc_apply 2 (k0_off4_eq _) x2,
      BlkIn.ld_sc_apply 3 (k0_off5_eq _) x0, BlkIn.ld_sc_apply 3 (k0_off5_eq _) x1, BlkIn.ld_sc_apply 3 (k0_off5_eq _) x2, BlkIn.ld_sc_apply
      4 (k0_off6_eq _) x0, BlkIn.ld_sc_apply 4 (k0_off6_eq _) x1, BlkIn.ld_sc_apply 4 (k0_off6_eq _) x2, BlkIn.ld_sc_apply 5 (k0_off7_eq _)
      x0, BlkIn.ld_sc_apply 5 (k0_off7_eq _) x1, BlkIn.ld_sc_apply 5 (k0_off7_eq _) x2, BlkIn.ld_sc_apply 6 (k0_off8_eq _) x0,
      BlkIn.ld_sc_apply 6 (k0_off8_eq _) x1, BlkIn.ld_sc_apply 6 (k0_off8_eq _) x2, BlkIn.ld_sc_apply 7 (k0_off9_eq _) x0, BlkIn.ld_sc_apply
      7 (k0_off9_eq _) x1, BlkIn.ld_sc_apply 7 (k0_off9_eq _) x2, BlkIn.ld_sc_apply 8 (k0_off10_eq _) x0, BlkIn.ld_sc_apply 8 (k0_off10_eq
      _) x1, BlkIn.ld_sc_apply 8 (k0_off10_eq _) x2, BlkIn.ld_sc_apply 9 (k0_off11_eq _) x0, BlkIn.ld_sc_apply 9 (k0_off11_eq _) x1,
      BlkIn.ld_sc_apply 9 (k0_off11_eq _) x2, BlkIn.ld_sc_apply 10 (k0_off12_eq _) x0, BlkIn.ld_sc_apply 10 (k0_off12_eq _) x1,
      BlkIn.ld_sc_apply 10 (k0_off12_eq _) x2, BlkIn.ld_sc_apply 11 (k0_off13_eq _) x0, BlkIn.ld_sc_apply 11 (k0_off13_eq _) x1,
      BlkIn.ld_sc_apply 11 (k0_off13_eq _) x2, BlkIn.ld_sc_apply 12 (k0_off14_eq _) x0, BlkIn.ld_sc_apply 12 (k0_off14_eq _) x1,
      BlkIn.ld_sc_apply 12 (k0_off14_eq _) x2, BlkIn.ld_sc_apply 13 (k0_off15_eq _) x0, BlkIn.ld_sc_apply 13 (k0_off15_eq _) x1,
      BlkIn.ld_sc_apply 13 (k0_off15_eq _) x2, BlkIn.ld_sc_apply 14 (k0_off16_eq _) x0, BlkIn.ld_sc_apply 14 (k0_off16_eq _) x1,
      BlkIn.ld_sc_apply 14 (k0_off16_eq _) x2, BlkIn.ld_sc_apply 15 (k0_off17_eq _) x0, BlkIn.ld_sc_apply 15 (k0_off17_eq _) x1,
      BlkIn.ld_sc_apply 15 (k0_off17_eq _) x2]
    dsimp only [
      k0_pay1, k0_pay2, k0_pay3, k0_pay4, k0_pay5, k0_pay6, k0_pay7, k0_pay8, k0_pay9, k0_pay10, k0_pay11, k0_pay12, k0_pay13, k0_pay21,
      k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437,
      PairIn.end1, PairIn.end2, PairIn.d1, PairIn.d2, PairIn.es, PairIn.en, PairIn.ee, PairIn.row, PairIn.vrow, PairIn.qf, PairIn.kf,
      PairIn.qg, PairIn.kg, PairIn.kd, PairIn.kdv, PairIn.eev, PairIn.kdt, PairIn.vf, PairIn.v2, PairIn.dt, PairIn.d2t, PairIn.at0,
      PairIn.at_, PairIn.intra, PairIn.dki, PairIn.pt, PairIn.u, PairIn.mid, PairIn.next, PairIn.dq, PairIn.dqOut, PairIn.qdq, PairIn.w,
      PairIn.midB, PairIn.nextB, PairIn.dk, PairIn.dkOut, PairIn.dv, PairIn.dvOut, PairIn.dbOut, sums, BlkIn.fwd, BlkIn.bwd, BlkIn.pair,
      blkIn, BlkIn.dqPieces, BlkIn.dkPieces, BlkIn.dvPieces, BlkIn.dbPieces, List.map, triStack, tri0, causal,
      Nat.reduceMul, Nat.reduceMod, Nat.reduceDiv, Nat.reduceAdd, Nat.reduceSub, sign64])

/-- Such a point leaves the triangle in the first scratch buffer. -/
theorem tri_first (c : Dev nD) (t : Fin cfg0.N) (h0 : t.val % 12 = 0) :
    (outsAt0 m c t.val t.isLt).2.2.2.2.2.1 = triStack := by
  rw [outsAt0_A m c t h0]
  frame_open
  frame_out
  dsimp only [triStack, tri0, k0_pay6, k0_pay3, k0_pay4, k0_pay5, sign64]
  rfl

/-- The triangle the point before `t` left. -/
def triBefore (c : Dev nD) (t : Fin cfg0.N) : Vec Ideal S768x256 .bf16 :=
  (outsAt0 m c (t.val - 1) (Nat.lt_of_le_of_lt (Nat.sub_le _ _) t.isLt)).2.2.2.2.2.1

/-- Every other point writes the same pieces, computed with the triangle it was handed. -/
theorem outs_later (c : Dev nD) (t : Fin cfg0.N) (h0 : ¬ t.val % 12 = 0) :
    (outsAt0 m c t.val t.isLt).1 = View.canon (blkIn m c t (triBefore m c t)).dqPieces
    ∧ (outsAt0 m c t.val t.isLt).2.1 = View.canon (blkIn m c t (triBefore m c t)).dkPieces
    ∧ (outsAt0 m c t.val t.isLt).2.2.1 = View.canon (blkIn m c t (triBefore m c t)).dvPieces
    ∧ (outsAt0 m c t.val t.isLt).2.2.2.2.1 = View.canon (blkIn m c t (triBefore m c t)).dbPieces := by
  rw [outsAt0_B m c t h0]
  unfold triBefore
  generalize (outsAt0 m c (t.val - 1) (Nat.lt_of_le_of_lt (Nat.sub_le _ _) t.isLt)).2.2.2.2.2.1 = T
  generalize (outsAt0 m c (t.val - 1) (Nat.lt_of_le_of_lt (Nat.sub_le _ _) t.isLt)).2.2.2.2.2.2 = T'
  dsimp only [blkIn]
  generalize (iblk m c 0 t : Vec Ideal S6x2x16 .f32) = x0
  generalize (iblk m c 1 t : Vec Ideal S6x2x16 .f32) = x1
  generalize (iblk m c 2 t : Vec Ideal S6x2x16 .f32) = x2
  generalize (iblk m c 3 t : Vec Ideal S1x1x192x1024 .fp8e4m3) = x3
  generalize (iblk m c 4 t : Vec Ideal S1x1x192x1024 .fp8e4m3) = x4
  generalize (iblk m c 5 t : Vec Ideal S1x1x1024x384 .fp8e4m3) = x5
  generalize (iblk m c 6 t : Vec Ideal S1x1x1024x384 .fp8e5m2) = x6
  generalize (iblk m c 7 t : Vec Ideal S1x12x2x1024 .f32) = x7
  generalize (iblk m c 8 t : Vec Ideal S1x1x192x1024 .f32) = x8
  refine ⟨?_, ?_, ?_, ?_⟩ <;>
  ( frame_open
    simp (disch := decide) only [↓ View.readCov_skip, ↓ View.readCov_cons_toLoadRect]
    frame_out
    simp only [read_unread_whole,
      BlkIn.ld_ds (k0_off1_eq _) x7, BlkIn.ld_sc_apply 0 (k0_off2_eq _) x0, BlkIn.ld_sc_apply 0 (k0_off2_eq _) x1, BlkIn.ld_sc_apply 0
      (k0_off2_eq _) x2, BlkIn.ld_sc_apply 1 (k0_off3_eq _) x0, BlkIn.ld_sc_apply 1 (k0_off3_eq _) x1, BlkIn.ld_sc_apply 1 (k0_off3_eq _)
      x2, BlkIn.ld_sc_apply 2 (k0_off4_eq _) x0, BlkIn.ld_sc_apply 2 (k0_off4_eq _) x1, BlkIn.ld_sc_apply 2 (k0_off4_eq _) x2,
      BlkIn.ld_sc_apply 3 (k0_off5_eq _) x0, BlkIn.ld_sc_apply 3 (k0_off5_eq _) x1, BlkIn.ld_sc_apply 3 (k0_off5_eq _) x2, BlkIn.ld_sc_apply
      4 (k0_off6_eq _) x0, BlkIn.ld_sc_apply 4 (k0_off6_eq _) x1, BlkIn.ld_sc_apply 4 (k0_off6_eq _) x2, BlkIn.ld_sc_apply 5 (k0_off7_eq _)
      x0, BlkIn.ld_sc_apply 5 (k0_off7_eq _) x1, BlkIn.ld_sc_apply 5 (k0_off7_eq _) x2, BlkIn.ld_sc_apply 6 (k0_off8_eq _) x0,
      BlkIn.ld_sc_apply 6 (k0_off8_eq _) x1, BlkIn.ld_sc_apply 6 (k0_off8_eq _) x2, BlkIn.ld_sc_apply 7 (k0_off9_eq _) x0, BlkIn.ld_sc_apply
      7 (k0_off9_eq _) x1, BlkIn.ld_sc_apply 7 (k0_off9_eq _) x2, BlkIn.ld_sc_apply 8 (k0_off10_eq _) x0, BlkIn.ld_sc_apply 8 (k0_off10_eq
      _) x1, BlkIn.ld_sc_apply 8 (k0_off10_eq _) x2, BlkIn.ld_sc_apply 9 (k0_off11_eq _) x0, BlkIn.ld_sc_apply 9 (k0_off11_eq _) x1,
      BlkIn.ld_sc_apply 9 (k0_off11_eq _) x2, BlkIn.ld_sc_apply 10 (k0_off12_eq _) x0, BlkIn.ld_sc_apply 10 (k0_off12_eq _) x1,
      BlkIn.ld_sc_apply 10 (k0_off12_eq _) x2, BlkIn.ld_sc_apply 11 (k0_off13_eq _) x0, BlkIn.ld_sc_apply 11 (k0_off13_eq _) x1,
      BlkIn.ld_sc_apply 11 (k0_off13_eq _) x2, BlkIn.ld_sc_apply 12 (k0_off14_eq _) x0, BlkIn.ld_sc_apply 12 (k0_off14_eq _) x1,
      BlkIn.ld_sc_apply 12 (k0_off14_eq _) x2, BlkIn.ld_sc_apply 13 (k0_off15_eq _) x0, BlkIn.ld_sc_apply 13 (k0_off15_eq _) x1,
      BlkIn.ld_sc_apply 13 (k0_off15_eq _) x2, BlkIn.ld_sc_apply 14 (k0_off16_eq _) x0, BlkIn.ld_sc_apply 14 (k0_off16_eq _) x1,
      BlkIn.ld_sc_apply 14 (k0_off16_eq _) x2, BlkIn.ld_sc_apply 15 (k0_off17_eq _) x0, BlkIn.ld_sc_apply 15 (k0_off17_eq _) x1,
      BlkIn.ld_sc_apply 15 (k0_off17_eq _) x2]
    dsimp only [
      k0_pay1, k0_pay2, k0_pay3, k0_pay4, k0_pay5, k0_pay6, k0_pay7, k0_pay8, k0_pay9, k0_pay10, k0_pay11, k0_pay12, k0_pay13, k0_pay21,
      k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437,
      PairIn.end1, PairIn.end2, PairIn.d1, PairIn.d2, PairIn.es, PairIn.en, PairIn.ee, PairIn.row, PairIn.vrow, PairIn.qf, PairIn.kf,
      PairIn.qg, PairIn.kg, PairIn.kd, PairIn.kdv, PairIn.eev, PairIn.kdt, PairIn.vf, PairIn.v2, PairIn.dt, PairIn.d2t, PairIn.at0,
      PairIn.at_, PairIn.intra, PairIn.dki, PairIn.pt, PairIn.u, PairIn.mid, PairIn.next, PairIn.dq, PairIn.dqOut, PairIn.qdq, PairIn.w,
      PairIn.midB, PairIn.nextB, PairIn.dk, PairIn.dkOut, PairIn.dv, PairIn.dvOut, PairIn.dbOut, sums, BlkIn.fwd, BlkIn.bwd, BlkIn.pair,
      blkIn, BlkIn.dqPieces, BlkIn.dkPieces, BlkIn.dvPieces, BlkIn.dbPieces, List.map, triStack, tri0, causal,
      Nat.reduceMul, Nat.reduceMod, Nat.reduceDiv, Nat.reduceAdd, Nat.reduceSub, sign64])

/-- Every other point leaves the triangle as it was. -/
theorem tri_later (c : Dev nD) (t : Fin cfg0.N) (h0 : ¬ t.val % 12 = 0) :
    (outsAt0 m c t.val t.isLt).2.2.2.2.2.1 = triBefore m c t := by
  rw [outsAt0_B m c t h0]
  unfold triBefore
  generalize (outsAt0 m c (t.val - 1) (Nat.lt_of_le_of_lt (Nat.sub_le _ _) t.isLt)).2.2.2.2.2.1 = T
  generalize (outsAt0 m c (t.val - 1) (Nat.lt_of_le_of_lt (Nat.sub_le _ _) t.isLt)).2.2.2.2.2.2 = T'
  rfl

/-- At every point the triangle at hand is the stacked triangle. -/
theorem tri_all (c : Dev nD) : ∀ (n : ℕ) (hn : n < cfg0.N), (outsAt0 m c n hn).2.2.2.2.2.1 = triStack
  | 0, hn => tri_first m c ⟨0, hn⟩ rfl
  | n + 1, hn => by
    by_cases h0 : (n + 1) % 12 = 0
    · exact tri_first m c ⟨n + 1, hn⟩ h0
    · exact (tri_later m c ⟨n + 1, hn⟩ h0).trans (tri_all c n (Nat.lt_of_succ_lt hn))

/-- What every point writes to the four results. -/
theorem outs_all (c : Dev nD) (t : Fin cfg0.N) :
    (outsAt0 m c t.val t.isLt).1 = View.canon (blkIn m c t triStack).dqPieces
    ∧ (outsAt0 m c t.val t.isLt).2.1 = View.canon (blkIn m c t triStack).dkPieces
    ∧ (outsAt0 m c t.val t.isLt).2.2.1 = View.canon (blkIn m c t triStack).dvPieces
    ∧ (outsAt0 m c t.val t.isLt).2.2.2.2.1 = View.canon (blkIn m c t triStack).dbPieces := by
  by_cases h0 : t.val % 12 = 0
  · exact outs_first m c t h0
  · have h := outs_later m c t h0
    have hT : triBefore m c t = triStack := tri_all m c _ _
    rw [hT] at h
    exact h

end Cert.KernelIdeal.Work
-- ==== Proof.Maths.lean ====
/- The mathematics of one (batch, head) block of the gradient, over the extended reals and chunk by chunk, and the facts
   about extended reals that the proof uses. -/
module

public import proofs.«01_k».proof.Defs
public import Idealize.ShloMosaic.Lib.Pointwise

@[expose] public section

noncomputable section

open Idealize.ShloMosaic

namespace Cert.Maths

/-- The scale of the queries, as the programs write it. -/
def scale : EReal := Ideal.ofBits FTy.f32 0x3D93CD3A#32

/-- Token `i` of chunk `n`. -/
def tok (n : ℕ) (i : Fin 64) : Fin 1024 := ⟨64 * (n % 16) + i.val, by omega⟩
/-- The chunk of a token. -/
def hi (t : Fin 1024) : ℕ := t.val / 64
/-- A token within its chunk. -/
def low (t : Fin 1024) : Fin 64 := ⟨t.val % 64, Nat.mod_lt _ (by decide)⟩

/-- The chunk of a token named by chunk and place. -/
theorem hi_tok (n : ℕ) (hn : n < 16) (i : Fin 64) : hi (tok n i) = n := by
  show (64 * (n % 16) + i.val) / 64 = n; omega
/-- The place of a token named by chunk and place. -/
theorem low_tok (n : ℕ) (i : Fin 64) : low (tok n i) = i := by
  apply Fin.ext; show (64 * (n % 16) + i.val) % 64 = i.val; omega

/-- One block: 16 chunks of 64 tokens, 192 key channels, 384 value channels. `q`, `k` are the scaled queries and keys, `g`
    the gates, `v` the value codes, `vs` the values' scale of each chunk, `d` the scaled rows of `do`. -/
structure Blk where
  q : ℕ → Fin 64 → Fin 192 → EReal
  k : ℕ → Fin 64 → Fin 192 → EReal
  g : ℕ → Fin 64 → Fin 192 → EReal
  v : ℕ → Fin 64 → Fin 384 → EReal
  d : ℕ → Fin 64 → Fin 384 → EReal
  vs : ℕ → EReal

/-- The arguments: codes of `q` and `k`, their scales, codes and scales of `v`, codes and scales of `do`, gates. -/
structure Args where
  q : (⟨4, ![2, 1024, 6, 192]⟩ : Shape).Idx → EReal
  k : (⟨4, ![2, 1024, 6, 192]⟩ : Shape).Idx → EReal
  qs : (⟨3, ![2, 16, 6]⟩ : Shape).Idx → EReal
  ks : (⟨3, ![2, 16, 6]⟩ : Shape).Idx → EReal
  v : (⟨4, ![2, 1024, 6, 384]⟩ : Shape).Idx → EReal
  vs : (⟨3, ![2, 16, 6]⟩ : Shape).Idx → EReal
  o : (⟨4, ![2, 1024, 6, 384]⟩ : Shape).Idx → EReal
  ds : (⟨4, ![2, 1024, 6, 12]⟩ : Shape).Idx → EReal
  g : (⟨4, ![2, 1024, 6, 192]⟩ : Shape).Idx → EReal

/-- Chunk `n` as an index of the tables of scales. -/
def chunk (n : ℕ) : Fin 16 := ⟨n % 16, Nat.mod_lt _ (by decide)⟩

namespace Args

variable (A : Args)

/-- What the block of batch `b` and head `h` reads. -/
def blk (b : Fin 2) (h : Fin 6) : Blk where
  q n i c := A.q (ix4 b (tok n i) h c) * A.qs (ix3 b (chunk n) h)
  k n i c := A.k (ix4 b (tok n i) h c) * A.ks (ix3 b (chunk n) h)
  g n i c := A.g (ix4 b (tok n i) h c)
  v n i e := A.v (ix4 b (tok n i) h e)
  d n i e := A.o (ix4 b (tok n i) h e) * A.ds (ix4 b (tok n i) h ⟨e.val / 32, by omega⟩)
  vs n := A.vs (ix3 b (chunk n) h)

end Args

namespace Blk

variable (M : Blk)

/-- The gates' running sum within a chunk. -/
def B (n : ℕ) (i : Fin 64) (c : Fin 192) : EReal := ∑ t : Fin 64, if t.val ≤ i.val then M.g n t c else 0
/-- The gates' sum over a chunk. -/
def E (n : ℕ) (c : Fin 192) : EReal := M.B n 63 c
/-- The query, scaled and grown by its running gate. -/
def qg (n : ℕ) (i : Fin 64) (c : Fin 192) : EReal := scale * M.q n i c * Ideal.exp (M.B n i c)
/-- The key, shrunk by its running gate. -/
def kg (n : ℕ) (i : Fin 64) (c : Fin 192) : EReal := M.k n i c * Ideal.exp (-M.B n i c)
/-- The key, decayed to the chunk's end. -/
def kd (n : ℕ) (i : Fin 64) (c : Fin 192) : EReal := M.k n i c * Ideal.exp (M.E n c - M.B n i c)
/-- The gradient of the scores, query `i` by key `j`. -/
def a (n : ℕ) (i j : Fin 64) : EReal := if j.val ≤ i.val then (∑ e : Fin 384, M.d n i e * M.v n j e) * M.vs n else 0
/-- The scores. -/
def p (n : ℕ) (i j : Fin 64) : EReal := if j.val ≤ i.val then ∑ c : Fin 192, M.qg n i c * M.kg n j c else 0
/-- What a chunk adds to the state. -/
def u (n : ℕ) (c : Fin 192) (e : Fin 384) : EReal := (∑ j : Fin 64, M.kd n j c * M.v n j e) * M.vs n
/-- What a chunk adds to the state's gradient. -/
def w (n : ℕ) (c : Fin 192) (e : Fin 384) : EReal := ∑ i : Fin 64, M.qg n i c * M.d n i e
/-- The state that enters chunk `n`. -/
def S : ℕ → Fin 192 → Fin 384 → EReal
  | 0 => fun _ _ => 0
  | n + 1 => fun c e => Ideal.exp (M.E n c) * S n c e + M.u n c e
/-- The state gradient that leaves chunk `15 - m`. -/
def R : ℕ → Fin 192 → Fin 384 → EReal
  | 0 => fun _ _ => 0
  | m + 1 => fun c e => Ideal.exp (M.E (15 - m) c) * R m c e + M.w (15 - m) c e
/-- The state gradient that leaves chunk `n`. -/
def T (n : ℕ) : Fin 192 → Fin 384 → EReal := M.R (15 - n)
/-- The gradient of the queries: what the incoming state gives and what the chunk itself gives. -/
def dq (n : ℕ) (i : Fin 64) (c : Fin 192) : EReal :=
  scale * Ideal.exp (M.B n i c) * (∑ e : Fin 384, M.d n i e * M.S n c e + ∑ j : Fin 64, M.a n i j * M.kg n j c)
/-- The gradient of the keys: what the later state gradient gives and what the chunk itself gives. -/
def dk (n : ℕ) (j : Fin 64) (c : Fin 192) : EReal :=
  Ideal.exp (M.E n c - M.B n j c) * (M.vs n * ∑ e : Fin 384, M.v n j e * M.T n c e)
    + Ideal.exp (-M.B n j c) * ∑ i : Fin 64, M.a n i j * M.qg n i c
/-- The gradient of the values. -/
def dv (n : ℕ) (j : Fin 64) (e : Fin 384) : EReal :=
  ∑ c : Fin 192, M.kd n j c * M.T n c e + ∑ i : Fin 64, M.p n i j * M.d n i e
/-- The gradient of the running sums of the gates. -/
def db (n : ℕ) (i : Fin 64) (c : Fin 192) : EReal := M.q n i c * M.dq n i c - M.k n i c * M.dk n i c

/-- The state gradient leaving a chunk, from the one leaving the next. -/
theorem T_succ (n : ℕ) (h : n < 15) (c : Fin 192) (e : Fin 384) :
    M.T n c e = Ideal.exp (M.E (n + 1) c) * M.T (n + 1) c e + M.w (n + 1) c e := by
  unfold T
  obtain ⟨m, hm⟩ : ∃ m, 15 - n = m + 1 := ⟨14 - n, by omega⟩
  have h1 : 15 - (n + 1) = m := by omega
  have h2 : 15 - m = n + 1 := by omega
  rw [hm, h1]
  simp only [R, h2]

end Blk

namespace Args

variable (A : Args)

/-- The gradient of the queries. -/
def dq : (⟨4, ![2, 1024, 6, 192]⟩ : Shape).Idx → EReal := fun y => (A.blk (y 0) (y 2)).dq (hi (y 1)) (low (y 1)) (y 3)
/-- The gradient of the keys. -/
def dk : (⟨4, ![2, 1024, 6, 192]⟩ : Shape).Idx → EReal := fun y => (A.blk (y 0) (y 2)).dk (hi (y 1)) (low (y 1)) (y 3)
/-- The gradient of the values. -/
def dv : (⟨4, ![2, 1024, 6, 384]⟩ : Shape).Idx → EReal := fun y => (A.blk (y 0) (y 2)).dv (hi (y 1)) (low (y 1)) (y 3)
/-- The gradient of the gates' sums. -/
def db : (⟨4, ![2, 1024, 6, 192]⟩ : Shape).Idx → EReal := fun y => (A.blk (y 0) (y 2)).db (hi (y 1)) (low (y 1)) (y 3)

end Args

/-- A factor that is neither negative nor `⊤` moves out of a sum. -/
theorem sum_mul_of_tame {ι : Type} (s : Finset ι) (f : ι → EReal) (y : EReal) (h0 : 0 ≤ y) (ht : y < ⊤) :
    (∑ j ∈ s, f j) * y = ∑ j ∈ s, f j * y := by
  classical
  induction s using Finset.induction_on with
  | empty => simp
  | insert a s ha ih =>
    rw [Finset.sum_insert ha, Finset.sum_insert ha, EReal.right_distrib_of_nonneg_of_ne_top h0 ht.ne, ih]

/-- The three summands a number below `⊤` is split into add up to it, masked or not. -/
theorem split3 (x t : EReal) (hx : x < ⊤) (ht : t = 0 ∨ t = 1) :
    x * t + (x - x) * t + (x - x - (x - x)) * t = x * t := by
  rcases ht with rfl | rfl
  · simp
  · simp only [mul_one]
    induction x using EReal.rec with
    | bot => rfl
    | top => exact absurd hx (lt_irrefl _)
    | coe r =>
      have h : ((r : EReal) - r) = 0 := by rw [← EReal.coe_sub, sub_self]; rfl
      rw [h]; simp

/-- A sum over 128 tokens is the sum over the first chunk's and over the second's. -/
theorem sum_halves (f : Fin 128 → EReal) :
    ∑ s, f s = ∑ i : Fin 64, f ⟨i.val, by omega⟩ + ∑ i : Fin 64, f ⟨64 + i.val, by omega⟩ :=
  Fin.sum_univ_add (a := 64) (b := 64) f

/-- A sum over 256 tokens of something that is zero outside chunk `r`. -/
theorem sum_chunk (f : Fin 256 → EReal) (r : Fin 4) (h : ∀ s : Fin 256, s.val / 64 ≠ r.val → f s = 0) :
    ∑ s, f s = ∑ i : Fin 64, f ⟨64 * r.val + i.val, by omega⟩ := by
  rw [← (finProdFinEquiv (m := 4) (n := 64)).sum_comp f, Fintype.sum_prod_type, Finset.sum_eq_single r]
  · refine Finset.sum_congr rfl fun i _ => congrArg f (Fin.ext ?_)
    simp only [finProdFinEquiv_apply_val]; omega
  · intro b _ hb
    refine Finset.sum_eq_zero fun i _ => h _ ?_
    simp only [finProdFinEquiv_apply_val]
    intro h'; apply hb; apply Fin.ext; omega
  · intro h'; exact absurd (Finset.mem_univ _) h'

end Cert.Maths
-- ==== Proof.PairAt.lean ====
/- What one pair of chunks computes, entry by entry: the block's mathematics at the pair's two chunks. -/
module

public import proofs.«01_k».proof.Defs
public import proofs.«01_k».proof.Proof.Pair
public import proofs.«01_k».proof.Proof.Maths
public import Idealize.ShloMosaic.Lib.Pointwise

@[expose] public section

set_option maxRecDepth 16384

noncomputable section

open Idealize.ShloMosaic Idealize.ShloMosaic.TcCoe Idealize.SL.Sem

namespace Cert.KernelIdeal.Work

open Cert.KernelIdeal Cert.KernelIdeal.Gen Cert.Maths

/-- A pair's token within its chunk. -/
def lo (s : Fin 128) : Fin 64 := ⟨s.val % 64, Nat.mod_lt _ (by decide)⟩

/-- The mask of the first chunk, at a column. -/
theorem first_at (s : Fin 128) : (k0_pay14 (ix2 0 s) : BitVec 1) = if s.val < 64 then 1#1 else 0#1 := by
  pointwise [k0_pay14]
  revert s
  decide +kernel

/-- A choice by the mask of the first chunk. -/
theorem select_first {α : Type} (s : Fin 128) (a b : α) :
    Scalar.select (k0_pay14 (ix2 0 s)) a b = if s.val < 64 then a else b := by
  rw [first_at]
  split <;> rfl

/-- The quotient of an index by 64, rounded down, as the programs compute it. -/
theorem floor64 : ∀ n : Fin 256, Scalar.select
    (IntOp.andi
      (IntOp.cmpi CmpIPredicate.ne
        (IntOp.subi (BitVec.setWidth 32 (IntOp.cmpi .sgt (BitVec.ofNat 32 n.val) 0#32)) (BitVec.setWidth 32 (IntOp.cmpi .slt (BitVec.ofNat 32 n.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 n.val) 64#32) 0#32))
    (IntOp.subi (IntOp.divsi ArithUnit.vector (BitVec.ofNat 32 n.val) 64#32) 1#32)
    (IntOp.divsi ArithUnit.vector (BitVec.ofNat 32 n.val) 64#32) = BitVec.ofNat 32 (n.val / 64) := by
  decide +kernel

/-- Small words read as themselves. -/
theorem toInt_small : ∀ n : Fin 256, (BitVec.ofNat 32 n.val).toInt = n.val := by decide +kernel

/-- Comparison of two small words, at most. -/
theorem le_at (s t : Fin 256) :
    IntOp.cmpi CmpIPredicate.sle (BitVec.ofNat 32 s.val) (BitVec.ofNat 32 t.val) = if s.val ≤ t.val then 1#1 else 0#1 := by
  show BitVec.ofBool (BitVec.sle _ _) = _
  unfold BitVec.sle
  rw [toInt_small, toInt_small]
  by_cases h : s.val ≤ t.val <;> simp [h]

/-- Comparison of two small words, at least. -/
theorem ge_at (s t : Fin 256) :
    IntOp.cmpi CmpIPredicate.sge (BitVec.ofNat 32 t.val) (BitVec.ofNat 32 s.val) = if s.val ≤ t.val then 1#1 else 0#1 :=
  le_at s t

/-- Comparison of two small words, equality. -/
theorem eq_at (s t : Fin 256) :
    IntOp.cmpi CmpIPredicate.eq (BitVec.ofNat 32 (s.val / 64)) (BitVec.ofNat 32 (t.val / 64))
      = if s.val / 64 = t.val / 64 then 1#1 else 0#1 := by
  have h1 := toInt_small ⟨s.val / 64, by omega⟩
  have h2 := toInt_small ⟨t.val / 64, by omega⟩
  show BitVec.ofBool (_ == _) = _
  by_cases h : s.val / 64 = t.val / 64
  · simp [h]
  · rw [if_neg h, beq_eq_false_iff_ne.mpr]; rfl
    intro h'
    rw [h'] at h1
    apply h
    have := h1.symm.trans h2
    exact_mod_cast this

/-- The mask of a pair's scores: same chunk and not later. -/
theorem causal_at (s t : Fin 128) :
    (causal (ix2 s t) : BitVec 1) = if s.val / 64 = t.val / 64 ∧ s.val ≤ t.val then 1#1 else 0#1 := by
  pointwise [causal, k0_pay20, k0_pay15, k0_pay16, k0_pay17, k0_pay18, k0_pay19]
  rw [floor64 ⟨t.val, by omega⟩, floor64 ⟨s.val, by omega⟩, eq_at ⟨t.val, by omega⟩ ⟨s.val, by omega⟩,
    ge_at ⟨s.val, by omega⟩ ⟨t.val, by omega⟩]
  by_cases h1 : s.val / 64 = t.val / 64 <;> by_cases h2 : s.val ≤ t.val <;> simp [h1, h2, Ne.symm, eq_comm] <;> rfl

/-- A choice by that mask. -/
theorem select_causal {α : Type} (s t : Fin 128) (a b : α) :
    Scalar.select (causal (ix2 s t)) a b = if s.val / 64 = t.val / 64 ∧ s.val ≤ t.val then a else b := by
  rw [causal_at]
  split <;> rfl

/-- The triangle of ones, read. -/
theorem tri_at (s t : Fin 256) :
    (tri0 (ix2 s t) : EReal) = if s.val / 64 = t.val / 64 ∧ s.val ≤ t.val then 1 else 0 := by
  pointwise [tri0, k0_pay6, k0_pay3, k0_pay4, k0_pay5]
  rw [floor64 t, floor64 s, eq_at, le_at]
  by_cases h1 : s.val / 64 = t.val / 64 <;> by_cases h2 : s.val ≤ t.val <;> simp [h1, h2] <;> rfl

/-- The pair reads the block's chunks `n` and `n + 1`. -/
structure Reads (x : PairIn) (M : Blk) (n : ℕ) : Prop where
  bc : ∀ c s, x.bc (ix2 c s) = M.B (n + s.val / 64) (lo s) c
  q : ∀ c s, x.qf (ix2 c s) = M.q (n + s.val / 64) (lo s) c
  k : ∀ c s, x.kf (ix2 c s) = M.k (n + s.val / 64) (lo s) c
  v : ∀ s e, x.v (ix4 0 0 s e) = M.v (n + s.val / 64) (lo s) e
  d : ∀ e s, x.dt (ix2 e s) = M.d (n + s.val / 64) (lo s) e
  vs0 : x.vs0 = M.vs n
  vs1 : x.vs1 = M.vs (n + 1)

namespace Reads

variable {x : PairIn} {M : Blk} {n : ℕ} (h : Reads x M n)
include h

/-- The gates' sum over the first chunk. -/
theorem end1 (c : Fin 192) : x.end1 (ix2 c 0) = M.E n c := by
  pointwise [PairIn.end1]
  exact h.bc c 63

/-- The gates' sum over the second chunk. -/
theorem end2 (c : Fin 192) : x.end2 (ix2 c 0) = M.E (n + 1) c := by
  pointwise [PairIn.end2]
  exact h.bc c 127

/-- A column belongs to the first chunk or to the second. -/
theorem half (s : Fin 128) : s.val < 64 ∧ n + s.val / 64 = n ∨ ¬ s.val < 64 ∧ n + s.val / 64 = n + 1 := by omega

/-- The inverse growth, at a column. -/
theorem en (c : Fin 192) (s : Fin 128) : x.en (ix2 c s) = Ideal.exp (-M.B (n + s.val / 64) (lo s) c) := by
  pointwise [PairIn.en]
  rw [h.bc, zero_sub]

/-- The scaled growth, at a column. -/
theorem es (c : Fin 192) (s : Fin 128) : x.es (ix2 c s) = scale * Ideal.exp (M.B (n + s.val / 64) (lo s) c) := by
  pointwise [PairIn.es]
  rw [h.bc, mul_comm]; rfl

/-- The decay to the chunk's end, at a column. -/
theorem ee (c : Fin 192) (s : Fin 128) :
    x.ee (ix2 c s) = Ideal.exp (M.E (n + s.val / 64) c - M.B (n + s.val / 64) (lo s) c) := by
  pointwise [PairIn.ee]
  rw [select_first, h.bc, h.end1, h.end2]
  rcases h.half s with ⟨h1, h2⟩ | ⟨h1, h2⟩ <;> simp only [h1, h2, if_true, if_false]

/-- The values' scale, at a column. -/
theorem vrow (c : Fin 192) (s : Fin 128) : x.vrow (ix2 c s) = M.vs (n + s.val / 64) := by
  pointwise [PairIn.vrow, PairIn.row]
  rw [select_first, h.vs0, h.vs1]
  rcases h.half s with ⟨h1, h2⟩ | ⟨h1, h2⟩ <;> simp only [h1, h2, if_true, if_false]

/-- The grown queries, at a column. -/
theorem qg (c : Fin 192) (s : Fin 128) : x.qg (ix2 c s) = M.qg (n + s.val / 64) (lo s) c := by
  pointwise [PairIn.qg]
  rw [h.q, h.es]
  unfold Blk.qg
  ac_rfl

/-- The shrunk keys, at a column. -/
theorem kg (c : Fin 192) (s : Fin 128) : x.kg (ix2 c s) = M.kg (n + s.val / 64) (lo s) c := by
  pointwise [PairIn.kg]
  rw [h.k, h.en]
  rfl

/-- The decayed keys, at a column. -/
theorem kd (c : Fin 192) (s : Fin 128) : x.kd (ix2 c s) = M.kd (n + s.val / 64) (lo s) c := by
  pointwise [PairIn.kd]
  rw [h.k, h.ee]
  rfl

/-- The decayed keys, at a row. -/
theorem kdt (c : Fin 192) (s : Fin 128) : x.kdt (ix3 0 s c) = M.kd (n + s.val / 64) (lo s) c := by
  pointwise [PairIn.kdt]
  exact h.kd c s

/-- The block-diagonal values, at the first chunk's columns. -/
theorem v2_left (s : Fin 128) (e : Fin 384) :
    x.v2 (ix2 s ⟨e.val, by omega⟩) = if s.val < 64 then M.v n (lo s) e else 0 := by
  pointwise [PairIn.v2, PairIn.vf]
  rcases h.half s with ⟨h1, h2⟩ | ⟨h1, h2⟩
  · simp only [h1, if_true, dite_true, e.isLt]
    rw [← h2]; exact h.v s e
  · simp only [h1, if_false, dite_false, e.isLt, dite_true]

/-- The block-diagonal values, at the second chunk's columns. -/
theorem v2_right (s : Fin 128) (e : Fin 384) :
    x.v2 (ix2 s ⟨384 + e.val, by omega⟩) = if s.val < 64 then 0 else M.v (n + 1) (lo s) e := by
  have he : ¬ 384 + e.val < 384 := by omega
  pointwise [PairIn.v2, PairIn.vf]
  rcases h.half s with ⟨h1, h2⟩ | ⟨h1, h2⟩
  · simp only [h1, if_true, dite_true, he, dite_false]
  · simp only [h1, if_false, dite_false, he]
    rw [← h2, ← h.v s e]
    congr 2
    apply Fin.ext; show 64 + (s.val - 64) = s.val; omega

/-- The rows of `do`, at the first chunk's rows. -/
theorem d2t_left (e : Fin 384) (s : Fin 128) :
    x.d2t (ix2 ⟨e.val, by omega⟩ s) = if s.val < 64 then M.d n (lo s) e else 0 := by
  pointwise [PairIn.d2t]
  simp only [select_first, e.isLt, dite_true]
  rcases h.half s with ⟨h1, h2⟩ | ⟨h1, h2⟩ <;> simp only [h1, if_true, if_false]
  rw [← h2]; exact h.d e s

/-- The rows of `do`, at the second chunk's rows. -/
theorem d2t_right (e : Fin 384) (s : Fin 128) :
    x.d2t (ix2 ⟨384 + e.val, by omega⟩ s) = if s.val < 64 then 0 else M.d (n + 1) (lo s) e := by
  have he : ¬ 384 + e.val < 384 := by omega
  pointwise [PairIn.d2t]
  simp only [select_first, he, dite_false]
  rcases h.half s with ⟨h1, h2⟩ | ⟨h1, h2⟩ <;> simp only [h1, if_true, if_false]
  rw [← h2, ← h.d e s]

end Reads

/-- A sum over the pair's tokens of something that is zero in the second chunk. -/
theorem sum_first (f : Fin 128 → EReal) (g : Fin 64 → EReal) (h1 : ∀ s, s.val < 64 → f s = g (lo s)) (h2 : ∀ s, ¬ s.val < 64 → f s = 0) :
    ∑ s, f s = ∑ i, g i := by
  rw [sum_halves, Finset.sum_eq_zero (f := fun i : Fin 64 => f ⟨64 + i.val, by omega⟩) fun i _ => h2 _ (by show ¬ 64 + i.val < 64; omega), add_zero]
  refine Finset.sum_congr rfl fun i _ => (h1 _ i.isLt).trans (congrArg g (Fin.ext ?_))
  show i.val % 64 = i.val; omega

/-- A sum over the pair's tokens of something that is zero in the first chunk. -/
theorem sum_second (f : Fin 128 → EReal) (g : Fin 64 → EReal) (h1 : ∀ s, ¬ s.val < 64 → f s = g (lo s)) (h2 : ∀ s, s.val < 64 → f s = 0) :
    ∑ s, f s = ∑ i, g i := by
  rw [sum_halves, Finset.sum_eq_zero (f := fun i : Fin 64 => f ⟨i.val, by omega⟩) fun i _ => h2 _ i.isLt, zero_add]
  refine Finset.sum_congr rfl fun i _ => (h1 _ (by show ¬ 64 + i.val < 64; omega)).trans (congrArg g (Fin.ext ?_))
  show (64 + i.val) % 64 = i.val; omega

/-- A sum over the pair's tokens of something that is zero outside the chunk of `t`. -/
theorem sum_same (f : Fin 128 → EReal) (t : Fin 128) (g : Fin 64 → EReal)
    (h1 : ∀ s, s.val / 64 = t.val / 64 → f s = g (lo s)) (h2 : ∀ s, s.val / 64 ≠ t.val / 64 → f s = 0) : ∑ s, f s = ∑ i, g i := by
  by_cases ht : t.val < 64
  · exact sum_first f g (fun s hs => h1 s (by omega)) (fun s hs => h2 s (by omega))
  · exact sum_second f g (fun s hs => h1 s (by omega)) (fun s hs => h2 s (by omega))

namespace Reads

variable {x : PairIn} {M : Blk} {n : ℕ} (h : Reads x M n)
include h

/-- What the first chunk adds to the state. -/
theorem u_left (ht : 0 ≤ M.vs n ∧ M.vs n < ⊤) (c : Fin 192) (e : Fin 384) : x.u (ix2 c ⟨e.val, by omega⟩) = M.u n c e := by
  pointwise [PairIn.u, PairIn.kdv]
  unfold Blk.u
  rw [sum_mul_of_tame _ _ _ ht.1 ht.2]
  refine sum_first _ _ (fun s hs => ?_) (fun s hs => ?_)
  · rw [h.v2_left, h.kd, h.vrow, if_pos hs, show n + s.val / 64 = n by omega]; ac_rfl
  · rw [h.v2_left, if_neg hs, mul_zero]

/-- What the second chunk adds to the state. -/
theorem u_right (ht : 0 ≤ M.vs (n + 1) ∧ M.vs (n + 1) < ⊤) (c : Fin 192) (e : Fin 384) :
    x.u (ix2 c ⟨384 + e.val, by omega⟩) = M.u (n + 1) c e := by
  pointwise [PairIn.u, PairIn.kdv]
  unfold Blk.u
  rw [sum_mul_of_tame _ _ _ ht.1 ht.2]
  refine sum_second _ _ (fun s hs => ?_) (fun s hs => ?_)
  · rw [h.v2_right, h.kd, h.vrow, if_neg hs, show n + s.val / 64 = n + 1 by omega]; ac_rfl
  · rw [h.v2_right, if_pos hs, mul_zero]

/-- What the first chunk adds to the state gradient. -/
theorem w_left (c : Fin 192) (e : Fin 384) : x.w (ix2 c ⟨e.val, by omega⟩) = M.w n c e := by
  pointwise [PairIn.w]
  refine sum_first _ _ (fun s hs => ?_) (fun s hs => ?_)
  · rw [h.d2t_left, h.qg, if_pos hs, show n + s.val / 64 = n by omega]
  · rw [h.d2t_left, if_neg hs, mul_zero]

/-- What the second chunk adds to the state gradient. -/
theorem w_right (c : Fin 192) (e : Fin 384) : x.w (ix2 c ⟨384 + e.val, by omega⟩) = M.w (n + 1) c e := by
  pointwise [PairIn.w]
  refine sum_second _ _ (fun s hs => ?_) (fun s hs => ?_)
  · rw [h.d2t_right, h.qg, if_neg hs, show n + s.val / 64 = n + 1 by omega]
  · rw [h.d2t_right, if_pos hs, mul_zero]

/-- The gradient of the scores, key `s` by query `t`. -/
theorem at_ (s t : Fin 128) :
    x.at_ (ix2 s t) = if s.val / 64 = t.val / 64 then M.a (n + s.val / 64) (lo t) (lo s) else 0 := by
  pointwise [PairIn.at_]
  have h0 : (∑ e, x.vf (ix2 s e) * x.dt (ix2 e t)) = ∑ e, M.d (n + t.val / 64) (lo t) e * M.v (n + s.val / 64) (lo s) e := by
    refine Finset.sum_congr rfl fun e _ => ?_
    rw [h.d, mul_comm]
    congr 1
    pointwise [PairIn.vf]
    exact h.v s e
  have h1 : (if h : s.val < 64 then x.at0 (ix2 s t) * x.vs0 else x.at0 (ix2 ⟨64 + (s.val - 64), by omega⟩ t) * x.vs1)
      = (∑ e, M.d (n + t.val / 64) (lo t) e * M.v (n + s.val / 64) (lo s) e) * M.vs (n + s.val / 64) := by
    rw [← h0]
    rcases h.half s with ⟨h1, h2⟩ | ⟨h1, h2⟩
    · rw [dif_pos h1, h2, h.vs0]; pointwise [PairIn.at0]
    · rw [dif_neg h1, h2, h.vs1, show (⟨64 + (s.val - 64), by omega⟩ : Fin 128) = s from Fin.ext (by show 64 + (s.val - 64) = s.val; omega)]
      pointwise [PairIn.at0]
  rw [select_causal, h1]
  unfold Blk.a
  by_cases hst : s.val / 64 = t.val / 64
  · have : (s.val ≤ t.val) = ((lo s).val ≤ (lo t).val) := by
      apply propext; show _ ↔ s.val % 64 ≤ t.val % 64; omega
    simp only [hst, true_and, if_true, this]
  · simp only [hst, false_and, if_false]

/-- The scores, key `s` by query `t`. -/
theorem pt (s t : Fin 128) :
    x.pt (ix3 0 s t) = if s.val / 64 = t.val / 64 then M.p (n + s.val / 64) (lo t) (lo s) else 0 := by
  pointwise [PairIn.pt]
  rw [select_causal]
  unfold Blk.p
  by_cases hst : s.val / 64 = t.val / 64
  · have : (s.val ≤ t.val) = ((lo s).val ≤ (lo t).val) := by
      apply propext; show _ ↔ s.val % 64 ≤ t.val % 64; omega
    simp only [hst, true_and, if_true, this, h.kg, h.qg]
    split
    · exact Finset.sum_congr rfl fun c _ => mul_comm _ _
    · rfl
  · simp only [hst, false_and, if_false]

/-- The scores' part of `dq`. -/
theorem intra_left (c : Fin 192) (s : Fin 128) :
    x.intra (ix2 c ⟨s.val, by omega⟩) = ∑ j : Fin 64, M.a (n + s.val / 64) (lo s) j * M.kg (n + s.val / 64) j c := by
  pointwise [PairIn.intra]
  simp only [s.isLt, dite_true, mul_zero, Finset.sum_const_zero, add_zero]
  refine sum_same _ s _ (fun t ht => ?_) (fun t ht => ?_)
  · rw [h.at_, h.kg, if_pos ht, ht, mul_comm]
  · rw [h.at_, if_neg ht, mul_zero]

/-- The scores' part of `dk`. -/
theorem intra_right (c : Fin 192) (s : Fin 128) :
    x.intra (ix2 c ⟨128 + s.val, by omega⟩) = ∑ i : Fin 64, M.a (n + s.val / 64) i (lo s) * M.qg (n + s.val / 64) i c := by
  have hs : ¬ 128 + s.val < 128 := by omega
  pointwise [PairIn.intra]
  simp only [hs, dite_false, mul_zero, Finset.sum_const_zero, zero_add]
  refine sum_same _ s _ (fun t ht => ?_) (fun t ht => ?_)
  · rw [h.at_, h.qg, if_pos ht.symm, ht, mul_comm]
  · rw [h.at_, if_neg (Ne.symm ht), mul_zero]

section Forward

variable {f : FVec Ideal S192x384 .f32} (hf : ∀ c e, f (ix2 c e) = M.S n c e)
include hf

/-- The state between the two chunks. -/
theorem mid (ht : 0 ≤ M.vs n ∧ M.vs n < ⊤) (c : Fin 192) (e : Fin 384) : x.mid f (ix2 c e) = M.S (n + 1) c e := by
  pointwise [PairIn.mid, PairIn.d1]
  rw [h.end1, hf, h.u_left ht]
  rfl

/-- The state after the two chunks. -/
theorem next (ht : 0 ≤ M.vs n ∧ M.vs n < ⊤) (ht' : 0 ≤ M.vs (n + 1) ∧ M.vs (n + 1) < ⊤) (c : Fin 192) (e : Fin 384) :
    x.next f (ix2 c e) = M.S (n + 2) c e := by
  pointwise [PairIn.next, PairIn.d2]
  rw [h.end2, h.mid hf ht, h.u_right ht']
  rfl

/-- The pair's gradient of the queries. -/
theorem dq (ht : 0 ≤ M.vs n ∧ M.vs n < ⊤) (c : Fin 192) (s : Fin 128) :
    x.dq f (ix2 c s) = M.dq (n + s.val / 64) (lo s) c := by
  pointwise [PairIn.dq]
  rw [h.es, h.intra_left]
  unfold Blk.dq
  congr 2
  simp only [h.d2t_left, h.d2t_right, hf, h.mid hf ht]
  rcases h.half s with ⟨h1, h2⟩ | ⟨h1, h2⟩
  · simp only [h1, h2, if_true, mul_zero, Finset.sum_const_zero, add_zero]
    exact Finset.sum_congr rfl fun e _ => mul_comm _ _
  · simp only [h1, h2, if_false, mul_zero, Finset.sum_const_zero, zero_add]
    exact Finset.sum_congr rfl fun e _ => mul_comm _ _

end Forward

section Backward

variable {b : FVec Ideal S192x384 .f32} (hb : ∀ c e, b (ix2 c e) = M.T (n + 1) c e) (hn : n < 15)
include hb hn

/-- The state gradient between the two chunks. -/
theorem midB (c : Fin 192) (e : Fin 384) : x.midB b (ix2 c e) = M.T n c e := by
  pointwise [PairIn.midB, PairIn.d2]
  rw [h.end2, hb, h.w_right, M.T_succ n hn]

/-- The state gradient before the two chunks. -/
theorem nextB (c : Fin 192) (e : Fin 384) :
    x.nextB b (ix2 c e) = Ideal.exp (M.E n c) * M.T n c e + M.w n c e := by
  pointwise [PairIn.nextB, PairIn.d1]
  rw [h.end1, h.midB hb hn, h.w_left]

/-- The pair's gradient of the keys. -/
theorem dk (c : Fin 192) (s : Fin 128) : x.dk b (ix2 c s) = M.dk (n + s.val / 64) (lo s) c := by
  pointwise [PairIn.dk, PairIn.eev, PairIn.dki]
  rw [h.ee, h.vrow, h.en, h.intra_right]
  unfold Blk.dk
  rw [mul_assoc]
  congr 3
  simp only [h.v2_left, h.v2_right, hb, h.midB hb hn]
  rcases h.half s with ⟨h1, h2⟩ | ⟨h1, h2⟩
  · simp only [h1, h2, if_true, mul_zero, Finset.sum_const_zero, add_zero]
    exact Finset.sum_congr rfl fun e _ => mul_comm _ _
  · simp only [h1, h2, if_false, mul_zero, Finset.sum_const_zero, zero_add]
    exact Finset.sum_congr rfl fun e _ => mul_comm _ _

/-- The pair's gradient of the values. -/
theorem dv (s : Fin 128) (e : Fin 384) : x.dv b (ix2 s e) = M.dv (n + s.val / 64) (lo s) e := by
  pointwise [PairIn.dv]
  unfold Blk.dv
  congr 1
  · rcases h.half s with ⟨h1, h2⟩ | ⟨h1, h2⟩
    · simp only [h1, dite_true, h.kdt, h.midB hb hn, h2]
    · rw [dif_neg h1]
      refine Finset.sum_congr rfl fun c _ => ?_
      rw [hb, ← h2]
      congr 1
      exact (congrArg (fun t => x.kdt (ix3 0 t c)) (Fin.ext (by show 64 + (s.val - 64) = s.val; omega))).trans (h.kdt c s)
  · refine sum_same _ s _ (fun t ht => ?_) (fun t ht => ?_)
    · rw [h.pt, h.d, if_pos ht.symm, ht]
    · rw [h.pt, if_neg (Ne.symm ht), zero_mul]

end Backward

end Reads
end Cert.KernelIdeal.Work
-- ==== Proof.BlkAt.lean ====
/- What one (head, batch) block computes, entry by entry: the block's mathematics. -/
module

public import proofs.«01_k».proof.Defs
public import proofs.«01_k».proof.Proof.PairAt
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Work

open Cert.KernelIdeal Cert.KernelIdeal.Gen Cert.Maths

namespace BlkIn

variable (x : BlkIn)

/-- The scale a block reads for a chunk, from the table. -/
theorem sc_at (i : grid0.Coords) (tab : Vec Ideal S6x2x16 .f32) (n : ℕ) :
    sc i tab n = tab (ix3 (i 0) (i 1) ⟨n % 16, Nat.mod_lt _ (by decide)⟩) := by
  pointwise [sc]

/-- The mathematics of the block. -/
def maths : Blk where
  q n i c := x.q (ix4 0 0 c (tok n i)) * sc x.i x.qs n
  k n i c := x.k (ix4 0 0 c (tok n i)) * sc x.i x.ks n
  g n i c := x.g (ix4 0 0 c (tok n i))
  v n i e := x.v (ix4 0 0 (tok n i) e)
  d n i e := x.o (ix4 0 0 (tok n i) e) * x.ds (ix4 0 ⟨e.val / 32, by omega⟩ (x.i 1) (tok n i))
  vs n := sc x.i x.vs n

/-- A sum of 768 terms is three sums of 256. -/
theorem sum_768 (f : Fin 768 → EReal) :
    ∑ s, f s = ∑ s : Fin 256, (f ⟨s.val, by omega⟩ + f ⟨256 + s.val, by omega⟩ + f ⟨512 + s.val, by omega⟩) := by
  rw [Finset.sum_add_distrib, Finset.sum_add_distrib]
  refine (Fin.sum_univ_add (a := 512) (b := 256) f).trans (congrArg₂ (· + ·) ?_ rfl)
  exact Fin.sum_univ_add (a := 256) (b := 256) fun s => f ⟨s.val, by omega⟩

/-- The triangle at a place of the stack whose row is a row of the triangle up to whole copies. -/
theorem tri_piece (o : ℕ) (ho : o % 256 = 0) (y : S256x256.Idx) (z : S768x256.Idx) (h0 : (z 0).val = o + (y 0).val)
    (h1 : (z 1).val = (y 1).val) : tri0 y = tri0 (ix2 ⟨(z 0).val % 256, Nat.mod_lt _ (by decide)⟩ (z 1)) := by
  refine congrArg tri0 (funext fun a => Fin.ext ?_)
  have hy : (y 0).val < 256 := (y 0).isLt
  match a with
  | 0 => show (y 0).val = (z 0).val % 256; omega
  | 1 => exact h1.symm

/-- The stacked triangle repeats the triangle in each third. -/
theorem triStack_at (s : Fin 768) (t : Fin 256) : triStack (ix2 s t) = tri0 (ix2 ⟨s.val % 256, Nat.mod_lt _ (by decide)⟩ t) := by
  unfold triStack
  refine View.canon_apply_of_pieces (Val := Elt Ideal) (S := S768x256) (e := .bf16)
    (fun y => tri0 (ix2 ⟨(y 0).val % 256, Nat.mod_lt _ (by decide)⟩ (y 1))) _ ?_ _ ?_
  · intro p hp y
    simp only [List.mem_cons, List.not_mem_nil, or_false] at hp
    rcases hp with rfl | rfl | rfl
    · pointwise
      exact tri_piece 512 rfl y _ (by show 512 + 1 * _ = _; omega) (by show 0 + 1 * _ = _; omega)
    · pointwise
      exact tri_piece 256 rfl y _ (by show 256 + 1 * _ = _; omega) (by show 0 + 1 * _ = _; omega)
    · pointwise
      exact tri_piece 0 rfl y _ (by show 0 + 1 * _ = _; omega) (by show 0 + 1 * _ = _; omega)
  · have h : (s.val < 256 ∨ 256 ≤ s.val ∧ s.val < 512) ∨ 512 ≤ s.val := by omega
    rcases h with (h | h) | h
    · refine ⟨_, List.mem_cons_of_mem _ (List.mem_cons_of_mem _ List.mem_cons_self), ?_⟩
      rw [Rect.mem_set_unit]
      intro a
      match a with
      | 0 => exact ⟨Nat.zero_le _, by show s.val < 0 + 256; omega⟩
      | 1 => exact ⟨Nat.zero_le _, by show t.val < 0 + 256; omega⟩
    · refine ⟨_, List.mem_cons_of_mem _ List.mem_cons_self, ?_⟩
      rw [Rect.mem_set_unit]
      intro a
      match a with
      | 0 => exact ⟨h.1, by show s.val < 256 + 256; omega⟩
      | 1 => exact ⟨Nat.zero_le _, by show t.val < 0 + 256; omega⟩
    · refine ⟨_, List.mem_cons_self, ?_⟩
      rw [Rect.mem_set_unit]
      intro a
      match a with
      | 0 => exact ⟨h, by show s.val < 512 + 256; omega⟩
      | 1 => exact ⟨Nat.zero_le _, by show t.val < 0 + 256; omega⟩

/-- The triangle read in the `k`-th third of the stack. -/
theorem triStack_third (k : ℕ) (s : Fin 256) (hk : 256 * k + s.val < 768) (t : Fin 256) :
    (triStack (ix2 ⟨256 * k + s.val, hk⟩ t) : EReal) = if s.val / 64 = t.val / 64 ∧ s.val ≤ t.val then 1 else 0 := by
  rw [triStack_at, ← tri_at]
  refine congrArg (fun r => tri0 (ix2 r t)) (Fin.ext ?_)
  show (256 * k + s.val) % 256 = s.val
  omega

/-- The kernel's running sum of the gates is the sum within the chunk. -/
theorem bc_at (htri : x.tri = triStack) (hg : ∀ y, x.g y < ⊤) (p : ℕ) (hp : p < 8) (c : Fin 192) (s : Fin 128) :
    (x.pair p).bc (ix2 c s) = x.maths.B (2 * p + s.val / 64) (lo s) c := by
  pointwise [pair, sums]
  rw [sum_768, htri]
  have hr : (128 * (p % 2) + s.val) / 64 < 4 := by omega
  refine (Finset.sum_congr rfl fun t _ => ?_).trans ((sum_chunk (fun t => x.g (ix4 0 0 c ⟨256 * (p / 2 % 4) + t.val, by omega⟩) *
      (if t.val / 64 = (128 * (p % 2) + s.val) / 64 ∧ t.val ≤ 128 * (p % 2) + s.val then 1 else 0 : EReal))
      ⟨(128 * (p % 2) + s.val) / 64, hr⟩ fun t ht => ?_).trans (Finset.sum_congr rfl fun t _ => ?_))
  · have h0 : t.val < 256 := t.isLt
    have h1 : ¬ 256 + t.val < 256 := by omega
    have h2 : 256 + t.val - 256 = t.val := by omega
    have h3 : ¬ 512 + t.val < 256 := by omega
    have h4 : ¬ 512 + t.val - 256 < 256 := by omega
    have h5 : 512 + t.val - 256 - 256 = t.val := by omega
    have e0 := triStack_third 0 t (by omega) ⟨128 * (p % 2) + s.val, by omega⟩
    have e1 := triStack_third 1 t (by omega) ⟨128 * (p % 2) + s.val, by omega⟩
    have e2 := triStack_third 2 t (by omega) ⟨128 * (p % 2) + s.val, by omega⟩
    simp only [Nat.mul_zero, Nat.zero_add, Nat.mul_one, Nat.reduceMul] at e0 e1 e2
    simp only [dif_pos h0, dif_neg h1, h2, dif_neg h3, dif_neg h4, h5, e0, e1, e2]
    exact split3 _ _ (hg _) (by split <;> simp)
  · rw [if_neg (fun h => ht h.1), mul_zero]
  · show x.g _ * _ = if t.val ≤ s.val % 64 then x.g _ else 0
    have ht : t.val < 64 := t.isLt
    have h1 : (64 * ((128 * (p % 2) + s.val) / 64) + t.val) / 64 = (128 * (p % 2) + s.val) / 64 := by omega
    have h2 : (64 * ((128 * (p % 2) + s.val) / 64) + t.val ≤ 128 * (p % 2) + s.val) = (t.val ≤ s.val % 64) := by
      apply propext; omega
    simp only [h1, h2, true_and]
    split
    · rw [mul_one]
      refine congrArg (fun r => x.g (ix4 0 0 c r)) (Fin.ext ?_)
      show 256 * (p / 2 % 4) + (64 * ((128 * (p % 2) + s.val) / 64) + t.val) = 64 * ((2 * p + s.val / 64) % 16) + t.val
      omega
    · rw [mul_zero]

/-- A column of a pair belongs to its first chunk or to its second. -/
theorem half (n : ℕ) (s : Fin 128) : s.val < 64 ∧ n + s.val / 64 = n ∨ ¬ s.val < 64 ∧ n + s.val / 64 = n + 1 := by omega

/-- The token a column of a pair stands for. -/
theorem tok_pair (p : ℕ) (hp : p < 8) (s : Fin 128) :
    (⟨128 * (p % 8) + s.val, by omega⟩ : Fin 1024) = tok (2 * p + s.val / 64) (lo s) := by
  apply Fin.ext
  show 128 * (p % 8) + s.val = 64 * ((2 * p + s.val / 64) % 16) + s.val % 64
  omega

/-- Pair `p` reads the block's chunks `2 p` and `2 p + 1`. -/
theorem reads (htri : x.tri = triStack) (hg : ∀ y, x.g y < ⊤) (p : ℕ) (hp : p < 8) : Reads (x.pair p) x.maths (2 * p) where
  bc := x.bc_at htri hg p hp
  q c s := by
    pointwise [PairIn.qf, PairIn.row, pair]
    rw [select_first, tok_pair p hp]
    rcases half (2 * p) s with ⟨h1, h2⟩ | ⟨h1, h2⟩ <;> simp only [h1, h2, if_true, if_false, maths]
  k c s := by
    pointwise [PairIn.kf, PairIn.row, pair]
    rw [select_first, tok_pair p hp]
    rcases half (2 * p) s with ⟨h1, h2⟩ | ⟨h1, h2⟩ <;> simp only [h1, h2, if_true, if_false, maths]
  v s e := by
    pointwise [pair]
    rw [tok_pair p hp]
    rfl
  d e s := by
    pointwise [PairIn.dt, pair, dsb]
    rw [tok_pair p hp]
    rfl
  vs0 := rfl
  vs1 := rfl

section Chain

variable (htri : x.tri = triStack) (hg : ∀ y, x.g y < ⊤) (hv : ∀ n, 0 ≤ x.maths.vs n ∧ x.maths.vs n < ⊤)
include htri hg

include hv in
/-- The state that enters pair `p`. -/
theorem fwd_at (p : ℕ) (hp : p ≤ 8) (c : Fin 192) (e : Fin 384) : x.fwd p (ix2 c e) = x.maths.S (2 * p) c e := by
  induction p generalizing c e with
  | zero => pointwise [fwd]; rfl
  | succ p ih => exact (x.reads htri hg p (by omega)).next (fun c e => ih (by omega) c e) (hv _) (hv _) c e

/-- The state gradient that leaves pair `7 - m`. -/
theorem bwd_at (m : ℕ) (hm : m < 8) (c : Fin 192) (e : Fin 384) : x.bwd m (ix2 c e) = x.maths.T (2 * (7 - m) + 1) c e := by
  induction m generalizing c e with
  | zero => pointwise [bwd]; rfl
  | succ m ih =>
    have h := (x.reads htri hg (7 - m) (by omega)).nextB (fun c e => ih (by omega) c e) (by omega) c e
    refine h.trans ?_
    rw [x.maths.T_succ (2 * (7 - (m + 1)) + 1) (by omega), show 2 * (7 - (m + 1)) + 1 + 1 = 2 * (7 - m) by omega]

end Chain

/-- A block assembled from one store of 128 token columns per pair. -/
theorem canon_chan {e : EltTy} (L : List ℕ) (hL : ∀ p < 8, p ∈ L) (hL' : ∀ p ∈ L, p < 8) (F : ℕ → Vec Ideal S1x1x192x128 e)
    (G : S1x1x192x1024.Idx → Elt Ideal e)
    (h : ∀ p < 8, ∀ c s, F p (ix4 0 0 c s) = G (ix4 0 0 c (tok (2 * p + s.val / 64) (lo s)))) :
    View.canon (Val := Elt Ideal) (L.map fun p => (⟨Rect.unit ![0, 0, 0, 128 * (p % 8)] S1x1x192x128.size (inb_chan p), F p⟩ : View.Piece (Elt Ideal) S1x1x192x1024 e)) = G := by
  funext y
  refine View.canon_apply_of_pieces G _ ?_ _ ?_
  · intro q hq j
    obtain ⟨p, hp, rfl⟩ := List.mem_map.mp hq
    have hj : j = ix4 0 0 (j 2) (j 3) := by
      funext a
      match a with
      | 0 => exact Subsingleton.elim (α := Fin 1) _ _
      | 1 => exact Subsingleton.elim (α := Fin 1) _ _
      | 2 => rfl
      | 3 => rfl
    refine (congrArg (F p) hj).trans ((h p (hL' p hp) (j 2) (j 3)).trans (congrArg G (funext fun a => Fin.ext ?_)))
    match a with
    | 0 => have h0 : (j 0).val < 1 := (j 0).isLt
           show 0 = 0 + 1 * (j 0).val; omega
    | 1 => have h0 : (j 1).val < 1 := (j 1).isLt
           show 0 = 0 + 1 * (j 1).val; omega
    | 2 => show (j 2).val = 0 + 1 * (j 2).val; omega
    | 3 => refine (congrArg Fin.val (tok_pair p (hL' p hp) (j 3))).symm.trans ?_
           show 128 * (p % 8) + (j 3).val = 128 * (p % 8) + 1 * (j 3).val; omega
  · have h3 : (y 3).val < 1024 := (y 3).isLt
    refine ⟨_, List.mem_map.mpr ⟨(y 3).val / 128, hL _ (by omega), rfl⟩, ?_⟩
    rw [Rect.mem_set_unit]
    intro a
    match a with
    | 0 => have h0 : (y 0).val < 1 := (y 0).isLt
           exact ⟨Nat.zero_le _, by show (y 0).val < 0 + 1; omega⟩
    | 1 => have h0 : (y 1).val < 1 := (y 1).isLt
           exact ⟨Nat.zero_le _, by show (y 1).val < 0 + 1; omega⟩
    | 2 => have h0 : (y 2).val < 192 := (y 2).isLt
           exact ⟨Nat.zero_le _, by show (y 2).val < 0 + 192; omega⟩
    | 3 => exact ⟨by show 128 * ((y 3).val / 128 % 8) ≤ (y 3).val; omega,
             by show (y 3).val < 128 * ((y 3).val / 128 % 8) + 128; omega⟩

/-- A block assembled from one store of 128 token rows per pair. -/
theorem canon_tok {e : EltTy} (L : List ℕ) (hL : ∀ p < 8, p ∈ L) (hL' : ∀ p ∈ L, p < 8) (F : ℕ → Vec Ideal S1x1x128x384 e)
    (G : S1x1x1024x384.Idx → Elt Ideal e)
    (h : ∀ p < 8, ∀ s c, F p (ix4 0 0 s c) = G (ix4 0 0 (tok (2 * p + s.val / 64) (lo s)) c)) :
    View.canon (Val := Elt Ideal) (L.map fun p => (⟨Rect.unit ![0, 0, 128 * (p % 8), 0] S1x1x128x384.size (inb_tok p), F p⟩ : View.Piece (Elt Ideal) S1x1x1024x384 e)) = G := by
  funext y
  refine View.canon_apply_of_pieces G _ ?_ _ ?_
  · intro q hq j
    obtain ⟨p, hp, rfl⟩ := List.mem_map.mp hq
    have hj : j = ix4 0 0 (j 2) (j 3) := by
      funext a
      match a with
      | 0 => exact Subsingleton.elim (α := Fin 1) _ _
      | 1 => exact Subsingleton.elim (α := Fin 1) _ _
      | 2 => rfl
      | 3 => rfl
    refine (congrArg (F p) hj).trans ((h p (hL' p hp) (j 2) (j 3)).trans (congrArg G (funext fun a => Fin.ext ?_)))
    match a with
    | 0 => have h0 : (j 0).val < 1 := (j 0).isLt
           show 0 = 0 + 1 * (j 0).val; omega
    | 1 => have h0 : (j 1).val < 1 := (j 1).isLt
           show 0 = 0 + 1 * (j 1).val; omega
    | 2 => refine (congrArg Fin.val (tok_pair p (hL' p hp) (j 2))).symm.trans ?_
           show 128 * (p % 8) + (j 2).val = 128 * (p % 8) + 1 * (j 2).val; omega
    | 3 => show (j 3).val = 0 + 1 * (j 3).val; omega
  · have h3 : (y 2).val < 1024 := (y 2).isLt
    refine ⟨_, List.mem_map.mpr ⟨(y 2).val / 128, hL _ (by omega), rfl⟩, ?_⟩
    rw [Rect.mem_set_unit]
    intro a
    match a with
    | 0 => have h0 : (y 0).val < 1 := (y 0).isLt
           exact ⟨Nat.zero_le _, by show (y 0).val < 0 + 1; omega⟩
    | 1 => have h0 : (y 1).val < 1 := (y 1).isLt
           exact ⟨Nat.zero_le _, by show (y 1).val < 0 + 1; omega⟩
    | 2 => exact ⟨by show 128 * ((y 2).val / 128 % 8) ≤ (y 2).val; omega,
             by show (y 2).val < 128 * ((y 2).val / 128 % 8) + 128; omega⟩
    | 3 => have h0 : (y 3).val < 384 := (y 3).isLt
           exact ⟨Nat.zero_le _, by show (y 3).val < 0 + 384; omega⟩

section Blocks

variable (htri : x.tri = triStack) (hg : ∀ y, x.g y < ⊤) (hv : ∀ n, 0 ≤ x.maths.vs n ∧ x.maths.vs n < ⊤)
include htri hg

include hv in
/-- The block of `dq`. -/
theorem dq_block : View.canon x.dqPieces = fun y => x.maths.dq (hi (y 3)) (low (y 3)) (y 2) := by
  unfold dqPieces
  refine canon_chan (e := .bf16) [7, 6, 5, 4, 3, 2, 1, 0] (by decide) (by decide) (fun p => (x.pair p).dqOut (x.fwd p))
    (fun y => x.maths.dq (hi (y 3)) (low (y 3)) (y 2)) fun p hp c s => ?_
  show _ = x.maths.dq (hi (tok (2 * p + s.val / 64) (lo s))) (low (tok (2 * p + s.val / 64) (lo s))) c
  rw [hi_tok _ (by omega), low_tok]
  pointwise [PairIn.dqOut]
  exact (x.reads htri hg p hp).dq (x.fwd_at htri hg hv p hp.le) (hv _) c s

/-- The state gradient that leaves pair `p`. -/
theorem bwd_pair (p : ℕ) (hp : p < 8) (c : Fin 192) (e : Fin 384) : x.bwd (7 - p) (ix2 c e) = x.maths.T (2 * p + 1) c e := by
  rw [x.bwd_at htri hg (7 - p) (by omega), show 7 - (7 - p) = p by omega]

/-- The block of `dk`. -/
theorem dk_block : View.canon x.dkPieces = fun y => x.maths.dk (hi (y 3)) (low (y 3)) (y 2) := by
  unfold dkPieces
  refine canon_chan (e := .bf16) [0, 1, 2, 3, 4, 5, 6, 7] (by decide) (by decide) (fun p => (x.pair p).dkOut (x.bwd (7 - p)))
    (fun y => x.maths.dk (hi (y 3)) (low (y 3)) (y 2)) fun p hp c s => ?_
  show _ = x.maths.dk (hi (tok (2 * p + s.val / 64) (lo s))) (low (tok (2 * p + s.val / 64) (lo s))) c
  rw [hi_tok _ (by omega), low_tok]
  pointwise [PairIn.dkOut]
  exact (x.reads htri hg p hp).dk (x.bwd_pair htri hg p hp) (by omega) c s

/-- The block of `dv`. -/
theorem dv_block : View.canon x.dvPieces = fun y => x.maths.dv (hi (y 2)) (low (y 2)) (y 3) := by
  unfold dvPieces
  refine canon_tok (e := .bf16) [0, 1, 2, 3, 4, 5, 6, 7] (by decide) (by decide) (fun p => (x.pair p).dvOut (x.bwd (7 - p)))
    (fun y => x.maths.dv (hi (y 2)) (low (y 2)) (y 3)) fun p hp s e => ?_
  show _ = x.maths.dv (hi (tok (2 * p + s.val / 64) (lo s))) (low (tok (2 * p + s.val / 64) (lo s))) e
  rw [hi_tok _ (by omega), low_tok]
  pointwise [PairIn.dvOut]
  exact (x.reads htri hg p hp).dv (x.bwd_pair htri hg p hp) (by omega) s e

include hv in
/-- The block of `db`. -/
theorem db_block : View.canon x.dbPieces = fun y => x.maths.db (hi (y 3)) (low (y 3)) (y 2) := by
  unfold dbPieces
  refine canon_chan (e := .f32) [0, 1, 2, 3, 4, 5, 6, 7] (by decide) (by decide) (fun p => (x.pair p).dbOut (x.fwd p) (x.bwd (7 - p)))
    (fun y => x.maths.db (hi (y 3)) (low (y 3)) (y 2)) fun p hp c s => ?_
  show _ = x.maths.db (hi (tok (2 * p + s.val / 64) (lo s))) (low (tok (2 * p + s.val / 64) (lo s))) c
  rw [hi_tok _ (by omega), low_tok]
  pointwise [PairIn.dbOut, PairIn.qdq]
  rw [(x.reads htri hg p hp).q, (x.reads htri hg p hp).k, (x.reads htri hg p hp).dq (x.fwd_at htri hg hv p hp.le) (hv _),
    (x.reads htri hg p hp).dk (x.bwd_pair htri hg p hp) (by omega)]
  rfl

end Blocks

end BlkIn
end Cert.KernelIdeal.Work
-- ==== Proof.KArr.lean ====
/- The kernel's arrays: every block read from the arguments, every result array assembled from its blocks. -/
module

public import proofs.«01_k».proof.Defs
public import proofs.«01_k».proof.Proof.Read
public import proofs.«01_k».proof.Proof.BlkAt
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Work

open Cert.KernelIdeal Cert.KernelIdeal.Gen Cert.Maths

variable (m : (ℓ : Loc nD τ sig) → Buf (Elt Ideal) ℓ)

/-- The arguments as launched. -/
def args (c : Dev nD) : Args where
  q := m ((c : Thread nD τ).loc main_arg0)
  k := m ((c : Thread nD τ).loc main_arg1)
  qs := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  ds := m ((c : Thread nD τ).loc main_arg7)
  g := m ((c : Thread nD τ).loc main_arg8)

/-! ## The arrays the region reads: transposes of the arguments -/

/-- The array the region reads as scales of the queries is that argument with its axes permuted. -/
theorem V_v0 (c : Dev nD) (y : S6x2x16.Idx) : V m c main_v0 y = (args m c).qs (ix3 (y 1) (y 2) (y 0)) := by
  simp only [V, V0, List.flatten_cons, List.flatten_nil, List.append_nil]
  after_reads_simp
  generalize hx : m (c, Proc.devRef .tc main_arg2) = x
  have hx' : (args m c).qs = x := hx
  rw [hx']
  idx_vars y
  pointwise

/-- The array the region reads as scales of the keys is that argument with its axes permuted. -/
theorem V_v1 (c : Dev nD) (y : S6x2x16.Idx) : V m c main_v1 y = (args m c).ks (ix3 (y 1) (y 2) (y 0)) := by
  simp only [V, V0, List.flatten_cons, List.flatten_nil, List.append_nil]
  after_reads_simp
  generalize hx : m (c, Proc.devRef .tc main_arg3) = x
  have hx' : (args m c).ks = x := hx
  rw [hx']
  idx_vars y
  pointwise

/-- The array the region reads as scales of the values is that argument with its axes permuted. -/
theorem V_v2 (c : Dev nD) (y : S6x2x16.Idx) : V m c main_v2 y = (args m c).vs (ix3 (y 1) (y 2) (y 0)) := by
  simp only [V, V0, List.flatten_cons, List.flatten_nil, List.append_nil]
  after_reads_simp
  generalize hx : m (c, Proc.devRef .tc main_arg5) = x
  have hx' : (args m c).vs = x := hx
  rw [hx']
  idx_vars y
  pointwise

/-- The array the region reads as codes of the queries is that argument with its axes permuted. -/
theorem V_v3 (c : Dev nD) (y : S2x6x192x1024.Idx) : V m c main_v3 y = (args m c).q (ix4 (y 0) (y 3) (y 1) (y 2)) := by
  simp only [V, V0, List.flatten_cons, List.flatten_nil, List.append_nil]
  after_reads_simp
  generalize hx : m (c, Proc.devRef .tc main_arg0) = x
  have hx' : (args m c).q = x := hx
  rw [hx']
  idx_vars y
  pointwise

/-- The array the region reads as codes of the keys is that argument with its axes permuted. -/
theorem V_v4 (c : Dev nD) (y : S2x6x192x1024.Idx) : V m c main_v4 y = (args m c).k (ix4 (y 0) (y 3) (y 1) (y 2)) := by
  simp only [V, V0, List.flatten_cons, List.flatten_nil, List.append_nil]
  after_reads_simp
  generalize hx : m (c, Proc.devRef .tc main_arg1) = x
  have hx' : (args m c).k = x := hx
  rw [hx']
  idx_vars y
  pointwise

/-- The array the region reads as codes of the values is that argument with its axes permuted. -/
theorem V_v5 (c : Dev nD) (y : S2x6x1024x384.Idx) : V m c main_v5 y = (args m c).v (ix4 (y 0) (y 2) (y 1) (y 3)) := by
  simp only [V, V0, List.flatten_cons, List.flatten_nil, List.append_nil]
  after_reads_simp
  generalize hx : m (c, Proc.devRef .tc main_arg4) = x
  have hx' : (args m c).v = x := hx
  rw [hx']
  idx_vars y
  pointwise

/-- The array the region reads as codes of the output gradient is that argument with its axes permuted. -/
theorem V_v6 (c : Dev nD) (y : S2x6x1024x384.Idx) : V m c main_v6 y = (args m c).o (ix4 (y 0) (y 2) (y 1) (y 3)) := by
  simp only [V, V0, List.flatten_cons, List.flatten_nil, List.append_nil]
  after_reads_simp
  generalize hx : m (c, Proc.devRef .tc main_arg6) = x
  have hx' : (args m c).o = x := hx
  rw [hx']
  idx_vars y
  pointwise

/-- The array the region reads as scales of the output gradient is that argument with its axes permuted. -/
theorem V_v7 (c : Dev nD) (y : S6x12x2x1024.Idx) : V m c main_v7 y = (args m c).ds (ix4 (y 2) (y 3) (y 0) (y 1)) := by
  simp only [V, V0, List.flatten_cons, List.flatten_nil, List.append_nil]
  after_reads_simp
  generalize hx : m (c, Proc.devRef .tc main_arg7) = x
  have hx' : (args m c).ds = x := hx
  rw [hx']
  idx_vars y
  pointwise

/-- The array the region reads as gates is that argument with its axes permuted. -/
theorem V_v8 (c : Dev nD) (y : S2x6x192x1024.Idx) : V m c main_v8 y = (args m c).g (ix4 (y 0) (y 3) (y 1) (y 2)) := by
  simp only [V, V0, List.flatten_cons, List.flatten_nil, List.append_nil]
  after_reads_simp
  generalize hx : m (c, Proc.devRef .tc main_arg8) = x
  have hx' : (args m c).g = x := hx
  rw [hx']
  idx_vars y
  pointwise

/-! ## Which block of its array each window stages -/

/-- Where the block of window 0 lies at a grid point. -/
theorem idx0 : ∀ t : Fin grid0.N, win0_0.index t = ![0, 0, 0] := by decide +kernel
/-- Where the block of window 1 lies at a grid point. -/
theorem idx1 : ∀ t : Fin grid0.N, win0_1.index t = ![0, 0, 0] := by decide +kernel
/-- Where the block of window 2 lies at a grid point. -/
theorem idx2 : ∀ t : Fin grid0.N, win0_2.index t = ![0, 0, 0] := by decide +kernel
/-- Where the block of window 3 lies at a grid point. -/
theorem idx3 : ∀ t : Fin grid0.N, win0_3.index t = ![(grid0.coords t 1).val, (grid0.coords t 0).val, 0, 0] := by decide +kernel
/-- Where the block of window 4 lies at a grid point. -/
theorem idx4 : ∀ t : Fin grid0.N, win0_4.index t = ![(grid0.coords t 1).val, (grid0.coords t 0).val, 0, 0] := by decide +kernel
/-- Where the block of window 5 lies at a grid point. -/
theorem idx5 : ∀ t : Fin grid0.N, win0_5.index t = ![(grid0.coords t 1).val, (grid0.coords t 0).val, 0, 0] := by decide +kernel
/-- Where the block of window 6 lies at a grid point. -/
theorem idx6 : ∀ t : Fin grid0.N, win0_6.index t = ![(grid0.coords t 1).val, (grid0.coords t 0).val, 0, 0] := by decide +kernel
/-- Where the block of window 7 lies at a grid point. -/
theorem idx7 : ∀ t : Fin grid0.N, win0_7.index t = ![(grid0.coords t 0).val, 0, 0, 0] := by decide +kernel
/-- Where the block of window 8 lies at a grid point. -/
theorem idx8 : ∀ t : Fin grid0.N, win0_8.index t = ![(grid0.coords t 1).val, (grid0.coords t 0).val, 0, 0] := by decide +kernel
/-- Where the block of window 9 lies at a grid point. -/
theorem idx9 : ∀ t : Fin grid0.N, win0_9.index t = ![(grid0.coords t 1).val, (grid0.coords t 0).val, 0, 0] := by decide +kernel
/-- Where the block of window 10 lies at a grid point. -/
theorem idx10 : ∀ t : Fin grid0.N, win0_10.index t = ![(grid0.coords t 1).val, (grid0.coords t 0).val, 0, 0] := by decide +kernel
/-- Where the block of window 11 lies at a grid point. -/
theorem idx11 : ∀ t : Fin grid0.N, win0_11.index t = ![(grid0.coords t 1).val, (grid0.coords t 0).val, 0, 0] := by decide +kernel
/-- Where the block of window 13 lies at a grid point. -/
theorem idx13 : ∀ t : Fin grid0.N, win0_13.index t = ![(grid0.coords t 1).val, (grid0.coords t 0).val, 0, 0] := by decide +kernel

/-! ## The input blocks -/

/-- The block of the scales of the queries at a grid point, read from the argument. -/
theorem iblk0 (c : Dev nD) (t : Fin cfg0.N) (y : S6x2x16.Idx) : iblk m c 0 t y = (args m c).qs (ix3 (y 1) (y 2) (y 0)) := by
  show V m c main_v0 ((win0_0.blk t).view.emb y) = _
  rw [V_v0]
  have e0 : (win0_0.blk t).view.emb y 0 = y 0 := Fin.ext (by blk_simp [idx0])
  have e1 : (win0_0.blk t).view.emb y 1 = y 1 := Fin.ext (by blk_simp [idx0])
  have e2 : (win0_0.blk t).view.emb y 2 = y 2 := Fin.ext (by blk_simp [idx0])
  rw [e0, e1, e2]

/-- The block of the scales of the keys at a grid point, read from the argument. -/
theorem iblk1 (c : Dev nD) (t : Fin cfg0.N) (y : S6x2x16.Idx) : iblk m c 1 t y = (args m c).ks (ix3 (y 1) (y 2) (y 0)) := by
  show V m c main_v1 ((win0_1.blk t).view.emb y) = _
  rw [V_v1]
  have e0 : (win0_1.blk t).view.emb y 0 = y 0 := Fin.ext (by blk_simp [idx1])
  have e1 : (win0_1.blk t).view.emb y 1 = y 1 := Fin.ext (by blk_simp [idx1])
  have e2 : (win0_1.blk t).view.emb y 2 = y 2 := Fin.ext (by blk_simp [idx1])
  rw [e0, e1, e2]

/-- The block of the scales of the values at a grid point, read from the argument. -/
theorem iblk2 (c : Dev nD) (t : Fin cfg0.N) (y : S6x2x16.Idx) : iblk m c 2 t y = (args m c).vs (ix3 (y 1) (y 2) (y 0)) := by
  show V m c main_v2 ((win0_2.blk t).view.emb y) = _
  rw [V_v2]
  have e0 : (win0_2.blk t).view.emb y 0 = y 0 := Fin.ext (by blk_simp [idx2])
  have e1 : (win0_2.blk t).view.emb y 1 = y 1 := Fin.ext (by blk_simp [idx2])
  have e2 : (win0_2.blk t).view.emb y 2 = y 2 := Fin.ext (by blk_simp [idx2])
  rw [e0, e1, e2]

/-- The block of the codes of the queries at a grid point, read from the argument. -/
theorem iblk3 (c : Dev nD) (t : Fin cfg0.N) (y : S1x1x192x1024.Idx) : iblk m c 3 t y = (args m c).q (ix4 (grid0.coords t 1) (y 3) (grid0.coords t 0) (y 2)) := by
  show V m c main_v3 ((win0_3.blk t).view.emb y) = _
  rw [V_v3]
  have e0 : (win0_3.blk t).view.emb y 0 = grid0.coords t 1 := Fin.ext (by blk_simp [idx3])
  have e1 : (win0_3.blk t).view.emb y 1 = grid0.coords t 0 := Fin.ext (by blk_simp [idx3])
  have e2 : (win0_3.blk t).view.emb y 2 = y 2 := Fin.ext (by blk_simp [idx3])
  have e3 : (win0_3.blk t).view.emb y 3 = y 3 := Fin.ext (by blk_simp [idx3])
  rw [e0, e1, e2, e3]

/-- The block of the codes of the keys at a grid point, read from the argument. -/
theorem iblk4 (c : Dev nD) (t : Fin cfg0.N) (y : S1x1x192x1024.Idx) : iblk m c 4 t y = (args m c).k (ix4 (grid0.coords t 1) (y 3) (grid0.coords t 0) (y 2)) := by
  show V m c main_v4 ((win0_4.blk t).view.emb y) = _
  rw [V_v4]
  have e0 : (win0_4.blk t).view.emb y 0 = grid0.coords t 1 := Fin.ext (by blk_simp [idx4])
  have e1 : (win0_4.blk t).view.emb y 1 = grid0.coords t 0 := Fin.ext (by blk_simp [idx4])
  have e2 : (win0_4.blk t).view.emb y 2 = y 2 := Fin.ext (by blk_simp [idx4])
  have e3 : (win0_4.blk t).view.emb y 3 = y 3 := Fin.ext (by blk_simp [idx4])
  rw [e0, e1, e2, e3]

/-- The block of the codes of the values at a grid point, read from the argument. -/
theorem iblk5 (c : Dev nD) (t : Fin cfg0.N) (y : S1x1x1024x384.Idx) : iblk m c 5 t y = (args m c).v (ix4 (grid0.coords t 1) (y 2) (grid0.coords t 0) (y 3)) := by
  show V m c main_v5 ((win0_5.blk t).view.emb y) = _
  rw [V_v5]
  have e0 : (win0_5.blk t).view.emb y 0 = grid0.coords t 1 := Fin.ext (by blk_simp [idx5])
  have e1 : (win0_5.blk t).view.emb y 1 = grid0.coords t 0 := Fin.ext (by blk_simp [idx5])
  have e2 : (win0_5.blk t).view.emb y 2 = y 2 := Fin.ext (by blk_simp [idx5])
  have e3 : (win0_5.blk t).view.emb y 3 = y 3 := Fin.ext (by blk_simp [idx5])
  rw [e0, e1, e2, e3]

/-- The block of the codes of the output gradient at a grid point, read from the argument. -/
theorem iblk6 (c : Dev nD) (t : Fin cfg0.N) (y : S1x1x1024x384.Idx) : iblk m c 6 t y = (args m c).o (ix4 (grid0.coords t 1) (y 2) (grid0.coords t 0) (y 3)) := by
  show V m c main_v6 ((win0_6.blk t).view.emb y) = _
  rw [V_v6]
  have e0 : (win0_6.blk t).view.emb y 0 = grid0.coords t 1 := Fin.ext (by blk_simp [idx6])
  have e1 : (win0_6.blk t).view.emb y 1 = grid0.coords t 0 := Fin.ext (by blk_simp [idx6])
  have e2 : (win0_6.blk t).view.emb y 2 = y 2 := Fin.ext (by blk_simp [idx6])
  have e3 : (win0_6.blk t).view.emb y 3 = y 3 := Fin.ext (by blk_simp [idx6])
  rw [e0, e1, e2, e3]

/-- The block of the scales of the output gradient at a grid point, read from the argument. -/
theorem iblk7 (c : Dev nD) (t : Fin cfg0.N) (y : S1x12x2x1024.Idx) : iblk m c 7 t y = (args m c).ds (ix4 (y 2) (y 3) (grid0.coords t 0) (y 1)) := by
  show V m c main_v7 ((win0_7.blk t).view.emb y) = _
  rw [V_v7]
  have e0 : (win0_7.blk t).view.emb y 0 = grid0.coords t 0 := Fin.ext (by blk_simp [idx7])
  have e1 : (win0_7.blk t).view.emb y 1 = y 1 := Fin.ext (by blk_simp [idx7])
  have e2 : (win0_7.blk t).view.emb y 2 = y 2 := Fin.ext (by blk_simp [idx7])
  have e3 : (win0_7.blk t).view.emb y 3 = y 3 := Fin.ext (by blk_simp [idx7])
  rw [e0, e1, e2, e3]

/-- The block of the gates at a grid point, read from the argument. -/
theorem iblk8 (c : Dev nD) (t : Fin cfg0.N) (y : S1x1x192x1024.Idx) : iblk m c 8 t y = (args m c).g (ix4 (grid0.coords t 1) (y 3) (grid0.coords t 0) (y 2)) := by
  show V m c main_v8 ((win0_8.blk t).view.emb y) = _
  rw [V_v8]
  have e0 : (win0_8.blk t).view.emb y 0 = grid0.coords t 1 := Fin.ext (by blk_simp [idx8])
  have e1 : (win0_8.blk t).view.emb y 1 = grid0.coords t 0 := Fin.ext (by blk_simp [idx8])
  have e2 : (win0_8.blk t).view.emb y 2 = y 2 := Fin.ext (by blk_simp [idx8])
  have e3 : (win0_8.blk t).view.emb y 3 = y 3 := Fin.ext (by blk_simp [idx8])
  rw [e0, e1, e2, e3]

/-- What the body reads at a grid point is the arguments' block of the point's batch and head. -/
theorem maths_eq (c : Dev nD) (t : Fin cfg0.N) (T : FVec Ideal S768x256 .bf16) :
    (blkIn m c t T).maths = (args m c).blk (grid0.coords t 1) (grid0.coords t 0) := by
  unfold BlkIn.maths Args.blk
  simp only [BlkIn.sc_at, blkIn, iblk0, iblk1, iblk2, iblk3, iblk4, iblk5, iblk6, iblk7, iblk8]
  rfl

/-! ## The result arrays -/

section Results

variable (hg : ∀ (c : Dev nD) y, (args m c).g y < ⊤) (hv : ∀ (c : Dev nD) y, 0 ≤ (args m c).vs y ∧ (args m c).vs y < ⊤)

include hg in
/-- No gate of a block is plus infinity when none of the argument is. -/
theorem gates_tame (c : Dev nD) (t : Fin cfg0.N) (T : FVec Ideal S768x256 .bf16) (y : S1x1x192x1024.Idx) :
    (blkIn m c t T).g y < ⊤ := by
  exact lt_of_eq_of_lt (iblk8 m c t y) (hg c _)

include hv in
/-- The scales of the values of a block are nonnegative and finite when those of the argument are. -/
theorem scales_tame (c : Dev nD) (t : Fin cfg0.N) (T : FVec Ideal S768x256 .bf16) (n : ℕ) :
    0 ≤ (blkIn m c t T).maths.vs n ∧ (blkIn m c t T).maths.vs n < ⊤ := by
  rw [maths_eq]
  exact hv c _

include hg hv in
/-- Result array 9: every block of `dq`. -/
theorem arr9 (c : Dev nD) :
    (dats m 0 c).arrAt 9 cfg0.N
      = fun y : S2x6x192x1024.Idx => ((args m c).blk (y 0) (y 1)).dq (hi (y 3)) (low (y 3)) (y 2) := by
  refine (dats m 0 c).arrAt_eq_of_covers 9 _ (by decide +kernel) fun t hf y => ?_
  blk_simp
  rw [after0_9, (outs_all m c t).1, BlkIn.dq_block (blkIn m c t triStack) rfl (gates_tame m hg c t triStack) (scales_tame m hv c t triStack), maths_eq]
  have e0 : (win0_9.blk t).view.emb y 0 = grid0.coords t 1 := Fin.ext (by blk_simp [idx9])
  have e1 : (win0_9.blk t).view.emb y 1 = grid0.coords t 0 := Fin.ext (by blk_simp [idx9])
  have e2 : (win0_9.blk t).view.emb y 2 = y 2 := Fin.ext (by blk_simp [idx9])
  have e3 : (win0_9.blk t).view.emb y 3 = y 3 := Fin.ext (by blk_simp [idx9])
  rw [e0, e1, e2, e3]

include hg in
/-- Result array 10: every block of `dk`. -/
theorem arr10 (c : Dev nD) :
    (dats m 0 c).arrAt 10 cfg0.N
      = fun y : S2x6x192x1024.Idx => ((args m c).blk (y 0) (y 1)).dk (hi (y 3)) (low (y 3)) (y 2) := by
  refine (dats m 0 c).arrAt_eq_of_covers 10 _ (by decide +kernel) fun t hf y => ?_
  blk_simp
  rw [after0_10, (outs_all m c t).2.1, BlkIn.dk_block (blkIn m c t triStack) rfl (gates_tame m hg c t triStack), maths_eq]
  have e0 : (win0_10.blk t).view.emb y 0 = grid0.coords t 1 := Fin.ext (by blk_simp [idx10])
  have e1 : (win0_10.blk t).view.emb y 1 = grid0.coords t 0 := Fin.ext (by blk_simp [idx10])
  have e2 : (win0_10.blk t).view.emb y 2 = y 2 := Fin.ext (by blk_simp [idx10])
  have e3 : (win0_10.blk t).view.emb y 3 = y 3 := Fin.ext (by blk_simp [idx10])
  rw [e0, e1, e2, e3]

include hg in
/-- Result array 11: every block of `dv`. -/
theorem arr11 (c : Dev nD) :
    (dats m 0 c).arrAt 11 cfg0.N
      = fun y : S2x6x1024x384.Idx => ((args m c).blk (y 0) (y 1)).dv (hi (y 2)) (low (y 2)) (y 3) := by
  refine (dats m 0 c).arrAt_eq_of_covers 11 _ (by decide +kernel) fun t hf y => ?_
  blk_simp
  rw [after0_11, (outs_all m c t).2.2.1, BlkIn.dv_block (blkIn m c t triStack) rfl (gates_tame m hg c t triStack), maths_eq]
  have e0 : (win0_11.blk t).view.emb y 0 = grid0.coords t 1 := Fin.ext (by blk_simp [idx11])
  have e1 : (win0_11.blk t).view.emb y 1 = grid0.coords t 0 := Fin.ext (by blk_simp [idx11])
  have e2 : (win0_11.blk t).view.emb y 2 = y 2 := Fin.ext (by blk_simp [idx11])
  have e3 : (win0_11.blk t).view.emb y 3 = y 3 := Fin.ext (by blk_simp [idx11])
  rw [e0, e1, e2, e3]

include hg hv in
/-- Result array 13: every block of `db`. -/
theorem arr13 (c : Dev nD) :
    (dats m 0 c).arrAt 13 cfg0.N
      = fun y : S2x6x192x1024.Idx => ((args m c).blk (y 0) (y 1)).db (hi (y 3)) (low (y 3)) (y 2) := by
  refine (dats m 0 c).arrAt_eq_of_covers 13 _ (by decide +kernel) fun t hf y => ?_
  blk_simp
  rw [after0_13, (outs_all m c t).2.2.2, BlkIn.db_block (blkIn m c t triStack) rfl (gates_tame m hg c t triStack) (scales_tame m hv c t triStack), maths_eq]
  have e0 : (win0_13.blk t).view.emb y 0 = grid0.coords t 1 := Fin.ext (by blk_simp [idx13])
  have e1 : (win0_13.blk t).view.emb y 1 = grid0.coords t 0 := Fin.ext (by blk_simp [idx13])
  have e2 : (win0_13.blk t).view.emb y 2 = y 2 := Fin.ext (by blk_simp [idx13])
  have e3 : (win0_13.blk t).view.emb y 3 = y 3 := Fin.ext (by blk_simp [idx13])
  rw [e0, e1, e2, e3]

end Results

end Cert.KernelIdeal.Work
-- ==== Proof.KRun.lean ====
/- The kernel's run: its results, but the fourth, are the gradients of `Maths`. -/
module

public import proofs.«01_k».proof.Proof.KArr

@[expose] public section

set_option maxRecDepth 16384

noncomputable section

open Idealize.ShloMosaic Idealize.ShloMosaic.TcCoe Idealize.SL.Sem
open Idealize.ShloMosaic.Pipeline (Dat)

namespace Cert.KernelIdeal.Work

open Cert.KernelIdeal Cert.KernelIdeal.Gen Cert.Maths

variable (m : (ℓ : Loc nD τ sig) → Buf (Elt Ideal) ℓ)
variable (hg : ∀ (c : Dev nD) y, (args m c).g y < ⊤) (hv : ∀ (c : Dev nD) y, 0 ≤ (args m c).vs y ∧ (args m c).vs y < ⊤)

/-- Different windows stage different arrays. -/
theorem arrRef_injective : Function.Injective (Pipeline.arrRef (cfgs 0).spec) := by decide

include hg hv in
/-- After the run the first result is the gradient of the queries. -/
theorem tail_v10 (c : Dev nD) :
    Pipeline.afterTail₀ cfgs (dats m) 0 (V0 m) [hostOps1] c main_v10 = (args m c).dq := by
  unfold Pipeline.afterTail₀
  simp only [List.flatten_cons, List.flatten_nil, List.append_nil]
  have e := Pipeline.withArrays_arr (cfgs 0).spec arrRef_injective c (V0 m c) (fun w => (dats m 0 c).arrAt w (cfgs 0).N) 9
  generalize Pipeline.withArrays (cfgs 0).spec c (V0 m c) (fun w => (dats m 0 c).arrAt w (cfgs 0).N) = W at e ⊢
  after_reads_simp
  have e' : W (Proc.devRef .tc main_v9_0) = _ := e.trans (arr9 m hg hv c)
  rw [e']
  funext y
  idx_vars y
  pointwise
  rfl

include hg in
/-- After the run the second result is the gradient of the keys. -/
theorem tail_v11 (c : Dev nD) :
    Pipeline.afterTail₀ cfgs (dats m) 0 (V0 m) [hostOps1] c main_v11 = (args m c).dk := by
  unfold Pipeline.afterTail₀
  simp only [List.flatten_cons, List.flatten_nil, List.append_nil]
  have e := Pipeline.withArrays_arr (cfgs 0).spec arrRef_injective c (V0 m c) (fun w => (dats m 0 c).arrAt w (cfgs 0).N) 10
  generalize Pipeline.withArrays (cfgs 0).spec c (V0 m c) (fun w => (dats m 0 c).arrAt w (cfgs 0).N) = W at e ⊢
  after_reads_simp
  have e' : W (Proc.devRef .tc main_v9_1) = _ := e.trans (arr10 m hg c)
  rw [e']
  funext y
  idx_vars y
  pointwise
  rfl

include hg in
/-- After the run the third result is the gradient of the values. -/
theorem tail_v12 (c : Dev nD) :
    Pipeline.afterTail₀ cfgs (dats m) 0 (V0 m) [hostOps1] c main_v12 = (args m c).dv := by
  unfold Pipeline.afterTail₀
  simp only [List.flatten_cons, List.flatten_nil, List.append_nil]
  have e := Pipeline.withArrays_arr (cfgs 0).spec arrRef_injective c (V0 m c) (fun w => (dats m 0 c).arrAt w (cfgs 0).N) 11
  generalize Pipeline.withArrays (cfgs 0).spec c (V0 m c) (fun w => (dats m 0 c).arrAt w (cfgs 0).N) = W at e ⊢
  after_reads_simp
  have e' : W (Proc.devRef .tc main_v9_2) = _ := e.trans (arr11 m hg c)
  rw [e']
  funext y
  idx_vars y
  pointwise
  rfl

include hg hv in
/-- After the run the fifth result is the gradient of the sums of the gates. -/
theorem tail_v14 (c : Dev nD) :
    Pipeline.afterTail₀ cfgs (dats m) 0 (V0 m) [hostOps1] c main_v14 = (args m c).db := by
  unfold Pipeline.afterTail₀
  simp only [List.flatten_cons, List.flatten_nil, List.append_nil]
  have e := Pipeline.withArrays_arr (cfgs 0).spec arrRef_injective c (V0 m c) (fun w => (dats m 0 c).arrAt w (cfgs 0).N) 13
  generalize Pipeline.withArrays (cfgs 0).spec c (V0 m c) (fun w => (dats m 0 c).arrAt w (cfgs 0).N) = W at e ⊢
  after_reads_simp
  have e' : W (Proc.devRef .tc main_v9_4) = _ := e.trans (arr13 m hg hv c)
  rw [e']
  funext y
  idx_vars y
  pointwise
  rfl

include hg hv in
/-- The kernel runs, leaves its arguments as they were, and its results, but the fourth, are the gradients. -/
theorem run (ρ : Dev nD → PrngReg) : θ_run defs (onTc (τ := τ) main) ⟨m, fun _ => 0, ρ⟩ fun r => ∀ c : Dev nD,
    (r.2.mem ((c.tc : Thread nD τ).loc main_v10) = (args m c).dq
      ∧ r.2.mem ((c.tc : Thread nD τ).loc main_v11) = (args m c).dk
      ∧ r.2.mem ((c.tc : Thread nD τ).loc main_v12) = (args m c).dv
      ∧ r.2.mem ((c.tc : Thread nD τ).loc main_v14) = (args m c).db)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨
      ((h c).2 main_v10 (Pipeline.mem_restRefs_of main_v10 (by decide) (by decide))).trans (tail_v10 m hg hv c),
      ((h c).2 main_v11 (Pipeline.mem_restRefs_of main_v11 (by decide) (by decide))).trans (tail_v11 m hg c),
      ((h c).2 main_v12 (Pipeline.mem_restRefs_of main_v12 (by decide) (by decide))).trans (tail_v12 m hg c),
      ((h c).2 main_v14 (Pipeline.mem_restRefs_of main_v14 (by decide) (by decide))).trans (tail_v14 m hg hv c)⟩,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Work
-- ==== Proof.CumSum.lean ====
/- The reference's running sum of the gates inside a chunk, as a sum. -/
module

public import proofs.«01_k».proof.Proof.Gen.ReferenceIdeal.Frame
public import Idealize.ShloMosaic.Lib.Pointwise

@[expose] public section

noncomputable section

open Idealize.ShloMosaic

namespace Cert.ReferenceIdeal.Work

open Cert.ReferenceIdeal Cert.ReferenceIdeal.Gen

/-- A left fold of additions is the start plus the sum. -/
theorem foldl_add {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- The window of the running sum: 64 positions along the third axis. -/
abbrev Win : Shape := ⟨5, ![1, 1, 64, 1, 1]⟩

/-- A position of the window is its third coordinate. -/
def winEquiv : Win.Idx ≃ Fin 64 where
  toFun w := w 2
  invFun t := ix5 0 0 t 0 0
  left_inv w := by
    funext a
    match a with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  right_inv t := rfl

/-- A window of 64 that ends at `i`, padded below, holds the positions up to `i`. -/
theorem sum_window (f : Fin 64 → EReal) (i : Fin 64) :
    (∑ t : Fin 64, if h : 63 ≤ i.val + t.val then f ⟨i.val + t.val - 63, by omega⟩ else 0)
      = ∑ s : Fin 64, if s.val ≤ i.val then f s else 0 := by
  have e : ∀ t : Fin 64, (if h : 63 ≤ i.val + t.val then f ⟨i.val + t.val - 63, by omega⟩ else 0)
      = if 63 ≤ i.val + t.val then f ⟨(i.val + t.val - 63) % 64, by omega⟩ else 0 := fun t => by
    split
    · exact congrArg f (Fin.ext (by show i.val + t.val - 63 = (i.val + t.val - 63) % 64; omega))
    · rfl
  rw [Finset.sum_congr rfl fun t _ => e t, ← Finset.sum_filter, ← Finset.sum_filter]
  refine Finset.sum_bij' (fun t _ => ⟨(i.val + t.val - 63) % 64, by omega⟩) (fun s _ => ⟨(s.val + 63 - i.val) % 64, by omega⟩) ?_ ?_ ?_ ?_ ?_
  · intro t ht
    rw [Finset.mem_filter] at ht ⊢
    exact ⟨Finset.mem_univ _, by show (i.val + t.val - 63) % 64 ≤ i.val; omega⟩
  · intro s hs
    rw [Finset.mem_filter] at hs ⊢
    exact ⟨Finset.mem_univ _, by show 63 ≤ i.val + (s.val + 63 - i.val) % 64; omega⟩
  · intro t ht
    rw [Finset.mem_filter] at ht
    exact Fin.ext (by show ((i.val + t.val - 63) % 64 + 63 - i.val) % 64 = t.val; omega)
  · intro s hs
    rw [Finset.mem_filter] at hs
    exact Fin.ext (by show (i.val + (s.val + 63 - i.val) % 64 - 63) % 64 = s.val; omega)
  · intro t ht; rfl

/-- The running sum along the tokens of a chunk, read at an index: the sum of the gates up to the token. -/
theorem cumsum_at (x : FVec Ideal S2x16x64x6x192 .f32) (v : FVec Ideal S_ .f32) (hv : v (Shape.Idx.first h_S_) = 0)
    (b : Fin 2) (n : Fin 16) (i : Fin 64) (h : Fin 6) (c : Fin 192) :
    Host.reduceWindowAdd ![1, 1, 64, 1, 1] ![1, 1, 1, 1, 1] ![0, 0, 63, 0, 0] ![0, 0, 0, 0, 0] x v
        reduceWindows_S2x16x64x6x192_S2x16x64x6x192_w1s1p0_0_w1s1p0_0_w64s1p63_0_w1s1p0_0_w1s1p0_0 h_S_ (ix5 b n i h c)
      = ∑ t : Fin 64, if t.val ≤ i.val then x (ix5 b n t h c) else 0 := by
  unfold Host.reduceWindowAdd
  rw [Ideal.hostReduceWindowAdd_def, hv]
  unfold Ideal.hostReduceWindowAdd Host.reduceWindow
  dsimp only
  rw [foldl_add, zero_add, ← Fin.sum_univ_def]
  rw [← sum_window (fun t => x (ix5 b n t h c))]
  refine Fintype.sum_equiv (Win.rowMajor.symm.trans winEquiv) _ _ fun n' => ?_
  have w0 : (Win.rowMajor.symm n' 0).val = 0 := by have := (Win.rowMajor.symm n' 0).isLt; exact Nat.lt_one_iff.1 this
  have w1 : (Win.rowMajor.symm n' 1).val = 0 := by have := (Win.rowMajor.symm n' 1).isLt; exact Nat.lt_one_iff.1 this
  have w3 : (Win.rowMajor.symm n' 3).val = 0 := by have := (Win.rowMajor.symm n' 3).isLt; exact Nat.lt_one_iff.1 this
  have w4 : (Win.rowMajor.symm n' 4).val = 0 := by have := (Win.rowMajor.symm n' 4).isLt; exact Nat.lt_one_iff.1 this
  have w2 : (Win.rowMajor.symm n' 2).val < 64 := (Win.rowMajor.symm n' 2).isLt
  have e2 : (Win.rowMajor.symm.trans winEquiv) n' = Win.rowMajor.symm n' 2 := rfl
  split
  · next hin =>
    have h2 : 63 ≤ i.val * 1 + (Win.rowMajor.symm n' 2).val := (hin 2).1
    rw [dif_pos (by rw [e2]; omega)]
    refine congrArg x (funext fun a => Fin.ext ?_)
    match a with
    | 0 => show b.val * 1 + (Win.rowMajor.symm n' 0).val - 0 = b.val; omega
    | 1 => show n.val * 1 + (Win.rowMajor.symm n' 1).val - 0 = n.val; omega
    | 2 => show i.val * 1 + (Win.rowMajor.symm n' 2).val - 63 = i.val + (Win.rowMajor.symm n' 2).val - 63; omega
    | 3 => show h.val * 1 + (Win.rowMajor.symm n' 3).val - 0 = h.val; omega
    | 4 => show c.val * 1 + (Win.rowMajor.symm n' 4).val - 0 = c.val; omega
  · next hin =>
    rw [dif_neg]
    rw [e2]
    refine fun hle => hin fun a => ?_
    match a with
    | 0 => show 0 ≤ b.val * 1 + (Win.rowMajor.symm n' 0).val ∧ b.val * 1 + (Win.rowMajor.symm n' 0).val - 0 < 2; omega
    | 1 => show 0 ≤ n.val * 1 + (Win.rowMajor.symm n' 1).val ∧ n.val * 1 + (Win.rowMajor.symm n' 1).val - 0 < 16; omega
    | 2 => show 63 ≤ i.val * 1 + (Win.rowMajor.symm n' 2).val ∧ i.val * 1 + (Win.rowMajor.symm n' 2).val - 63 < 64; omega
    | 3 => show 0 ≤ h.val * 1 + (Win.rowMajor.symm n' 3).val ∧ h.val * 1 + (Win.rowMajor.symm n' 3).val - 0 < 6; omega
    | 4 => show 0 ≤ c.val * 1 + (Win.rowMajor.symm n' 4).val ∧ c.val * 1 + (Win.rowMajor.symm n' 4).val - 0 < 192; omega

end Cert.ReferenceIdeal.Work
-- ==== Proof.RefStage.lean ====
/- The reference's host lines, stage by stage: what each buffer holds, read at an index, in the words of `Maths`. -/
module

public import proofs.«01_k».proof.Proof.CumSum
public import proofs.«01_k».proof.Proof.Maths
public import Idealize.ShloMosaic.Lib.StableHlo.RunRead

@[expose] public section

set_option maxRecDepth 16384

noncomputable section

open Idealize.ShloMosaic Idealize.ShloMosaic.TcCoe Idealize.SL.Sem
open Idealize.ShloMosaic.StableHlo (after)

namespace Cert.ReferenceIdeal.Work

open Cert.ReferenceIdeal Cert.ReferenceIdeal.Gen Cert.Maths

/-- Buffers of a device. -/
local notation "Bufs" => Valuation τ sig (Elt Ideal)

/-- An array of tokens and channels holds `f`, chunk by chunk. -/
def OnTok (A : Args) (x : S2x16x64x6x192.Idx → EReal) (f : Blk → ℕ → Fin 64 → Fin 192 → EReal) : Prop :=
  ∀ (b : Fin 2) (n : Fin 16) (i : Fin 64) (h : Fin 6) (c : Fin 192), x (ix5 b n i h c) = f (A.blk b h) n.val i c

/-- An array of tokens and value columns holds `f`. -/
def OnVal (A : Args) (x : S2x16x64x6x384.Idx → EReal) (f : Blk → ℕ → Fin 64 → Fin 384 → EReal) : Prop :=
  ∀ (b : Fin 2) (n : Fin 16) (i : Fin 64) (h : Fin 6) (e : Fin 384), x (ix5 b n i h e) = f (A.blk b h) n.val i e

/-- An array of pairs of tokens of a chunk holds `f`. -/
def OnPair (A : Args) (x : S2x16x6x64x64.Idx → EReal) (f : Blk → ℕ → Fin 64 → Fin 64 → EReal) : Prop :=
  ∀ (b : Fin 2) (n : Fin 16) (h : Fin 6) (i j : Fin 64), x (ix5 b n h i j) = f (A.blk b h) n.val i j

/-- An array of states, a chunk first, holds `f`. -/
def OnState (A : Args) (x : S16x2x6x192x384.Idx → EReal) (f : Blk → ℕ → Fin 192 → Fin 384 → EReal) : Prop :=
  ∀ (b : Fin 2) (n : Fin 16) (h : Fin 6) (c : Fin 192) (e : Fin 384), x (ix5 n b h c e) = f (A.blk b h) n.val c e

/-- Such an array of channels, at an index. -/
theorem OnTok.at {A : Args} {x f} (H : OnTok A x f) (b n i h c) : x (ix5 b n i h c) = f (A.blk b h) n.val i c := H b n i h c
/-- Such an array of values, at an index. -/
theorem OnVal.at {A : Args} {x f} (H : OnVal A x f) (b n i h e) : x (ix5 b n i h e) = f (A.blk b h) n.val i e := H b n i h e
/-- Such an array of token pairs, at an index. -/
theorem OnPair.at {A : Args} {x f} (H : OnPair A x f) (b n h i j) : x (ix5 b n h i j) = f (A.blk b h) n.val i j := H b n h i j
/-- Such an array of states, at an index. -/
theorem OnState.at {A : Args} {x f} (H : OnState A x f) (b n h c e) : x (ix5 n b h c e) = f (A.blk b h) n.val c e := H b n h c e

/-- A token by its chunk and place. -/
theorem tok_eq (n : Fin 16) (i : Fin 64) (h : n.val * 64 + i.val < 1024) : (⟨n.val * 64 + i.val, h⟩ : Fin 1024) = tok n.val i :=
  Fin.ext (by show n.val * 64 + i.val = 64 * (n.val % 16) + i.val; omega)

/-- A chunk by its number. -/
theorem chunk_eq (n : Fin 16) : chunk n.val = n := Fin.ext (Nat.mod_eq_of_lt n.isLt)

/-- A value channel by its group of 32 and its place there. -/
theorem block32_eq (e : Fin 384) (h : e.val / 32 * 32 + e.val % 32 < 384) : (⟨e.val / 32 * 32 + e.val % 32, h⟩ : Fin 384) = e :=
  Fin.ext (by show e.val / 32 * 32 + e.val % 32 = e.val; omega)

/-- The values' scale of a chunk. -/
theorem vs_eq (A : Args) (b : Fin 2) (n : Fin 16) (h : Fin 6) : A.vs (ix3 b n h) = (A.blk b h).vs n.val := by
  unfold Args.blk
  simp only [chunk_eq]

/-- The causal comparison of two places. -/
theorem sge_at : ∀ i j : Fin 64, IntOp.cmpi .sge (BitVec.ofNat 32 i.val) (BitVec.ofNat 32 j.val) = if j.val ≤ i.val then 1#1 else 0#1 := by
  decide +kernel

/-- The causal mask of a chunk chooses by the order of the tokens. -/
theorem select_sge {α : Type} (i j : Fin 64) (a b : α) :
    Scalar.select (IntOp.cmpi .sge (BitVec.ofNat 32 i.val) (BitVec.ofNat 32 j.val)) a b = if j.val ≤ i.val then a else b := by
  rw [sge_at]
  split <;> rfl

/-- Before the first line: the widened codes and the other arguments. -/
structure Stage0 (A : Args) (W : Bufs) : Prop where
  q : W (Proc.devRef .tc main_v0_0) = A.q
  k : W (Proc.devRef .tc main_v0_1) = A.k
  v : W (Proc.devRef .tc main_v0_2) = A.v
  o : W (Proc.devRef .tc main_v0_3) = A.o
  qs : W (Proc.devRef .tc main_arg2) = A.qs
  ks : W (Proc.devRef .tc main_arg3) = A.ks
  vs : W (Proc.devRef .tc main_arg5) = A.vs
  ds : W (Proc.devRef .tc main_arg7) = A.ds
  g : W (Proc.devRef .tc main_arg8) = A.g

/-- After the running sums: the scaled queries and keys, the sums of the gates, and what is still to be read. -/
structure Stage1 (A : Args) (W : Bufs) : Prop where
  v : W (Proc.devRef .tc main_v0_2) = A.v
  o : W (Proc.devRef .tc main_v0_3) = A.o
  vs : W (Proc.devRef .tc main_arg5) = A.vs
  ds : W (Proc.devRef .tc main_arg7) = A.ds
  q : OnTok A (W (Proc.devRef .tc main_v4)) Blk.q
  k : OnTok A (W (Proc.devRef .tc main_v8)) Blk.k
  B : OnTok A (W (Proc.devRef .tc main_v10)) Blk.B

/-- The first lines: scaling, and the running sums. -/
theorem stage1 (A : Args) (W : Bufs) (S : Stage0 A W) : Stage1 A (after (hostOps1 ++ hostOps1_1) W) where
  v := by after_reads_simp; exact S.v
  o := by after_reads_simp; exact S.o
  vs := by after_reads_simp; exact S.vs
  ds := by after_reads_simp; exact S.ds
  q b n i h c := by
    after_reads_simp
    rw [S.q, S.qs]
    pointwise
    rw [tok_eq]
    unfold Args.blk
    simp only [chunk_eq]
  k b n i h c := by
    after_reads_simp
    rw [S.k, S.ks]
    pointwise
    rw [tok_eq]
    unfold Args.blk
    simp only [chunk_eq]
  B b n i h c := by
    after_reads_simp
    rw [S.g]
    simp -implicitDefEqProofs only [StableHlo.TRef.toBuf, StableHlo.TRef.ofBuf, cast_cast, cast_eq, id_eq]
    refine (cumsum_at _ _ (by pointwise) b n i h c).trans ?_
    unfold Blk.B Args.blk
    refine Finset.sum_congr rfl fun t _ => ?_
    pointwise
    simp only [tok_eq]

/-- Before the states are run through: everything a chunk computes by itself. -/
structure Stage2 (A : Args) (W : Bufs) : Prop where
  vs : W (Proc.devRef .tc main_arg5) = A.vs
  q : OnTok A (W (Proc.devRef .tc main_v4)) Blk.q
  k : OnTok A (W (Proc.devRef .tc main_v8)) Blk.k
  pos : OnTok A (W (Proc.devRef .tc main_v13)) fun M n i c => Ideal.exp (M.B n i c)
  neg : OnTok A (W (Proc.devRef .tc main_v15)) fun M n i c => Ideal.exp (-M.B n i c)
  fin : OnTok A (W (Proc.devRef .tc main_v19)) fun M n i c => Ideal.exp (M.E n c - M.B n i c)
  qg : OnTok A (W (Proc.devRef .tc main_v23)) Blk.qg
  kg : OnTok A (W (Proc.devRef .tc main_v25)) Blk.kg
  kd : OnTok A (W (Proc.devRef .tc main_v27)) Blk.kd
  v : OnVal A (W (Proc.devRef .tc main_v28)) Blk.v
  d : OnVal A (W (Proc.devRef .tc main_v34)) Blk.d
  a : OnPair A (W (Proc.devRef .tc main_v48)) Blk.a
  p : OnPair A (W (Proc.devRef .tc main_v50)) Blk.p
  u : OnState A (W (Proc.devRef .tc main_v58)) Blk.u
  w : OnState A (W (Proc.devRef .tc main_v59)) Blk.w
  decay : OnState A (W (Proc.devRef .tc main_v60)) fun M n c _ => Ideal.exp (M.E n c)

/-- The lines between the running sums and the states. -/
abbrev lines2 : List (HloOp τ sig (Elt Ideal)) := hostOps1_2 ++ hostOps1_3 ++ hostOps1_4 ++ hostOps1_5 ++ hostOps1_6

/-- The growth. -/
theorem pos2 (A : Args) (W : Bufs) (S : Stage1 A W) :
    OnTok A (after lines2 W (Proc.devRef .tc main_v13)) fun M n i c => Ideal.exp (M.B n i c) := fun b n i h c => by
  after_reads_simp
  pointwise
  rw [S.B.at]

/-- The inverse growth. -/
theorem neg2 (A : Args) (W : Bufs) (S : Stage1 A W) :
    OnTok A (after lines2 W (Proc.devRef .tc main_v15)) fun M n i c => Ideal.exp (-M.B n i c) := fun b n i h c => by
  after_reads_simp
  pointwise
  rw [S.B.at]

/-- The decay to the chunk's end. -/
theorem fin2 (A : Args) (W : Bufs) (S : Stage1 A W) :
    OnTok A (after lines2 W (Proc.devRef .tc main_v19)) fun M n i c => Ideal.exp (M.E n c - M.B n i c) := fun b n i h c => by
  after_reads_simp
  pointwise
  rw [S.B.at, S.B.at]
  rfl

/-- The grown queries. -/
theorem qg2 (A : Args) (W : Bufs) (S : Stage1 A W) : OnTok A (after lines2 W (Proc.devRef .tc main_v23)) Blk.qg := fun b n i h c => by
  after_reads_simp
  pointwise
  rw [S.B.at, S.q.at]
  rfl

/-- The shrunk keys. -/
theorem kg2 (A : Args) (W : Bufs) (S : Stage1 A W) : OnTok A (after lines2 W (Proc.devRef .tc main_v25)) Blk.kg := fun b n i h c => by
  after_reads_simp
  pointwise
  rw [S.B.at, S.k.at]
  rfl

/-- The decayed keys. -/
theorem kd2 (A : Args) (W : Bufs) (S : Stage1 A W) : OnTok A (after lines2 W (Proc.devRef .tc main_v27)) Blk.kd := fun b n i h c => by
  after_reads_simp
  pointwise
  rw [S.B.at, S.B.at, S.k.at]
  rfl

/-- The values, by chunks. -/
theorem v2 (A : Args) (W : Bufs) (S : Stage1 A W) : OnVal A (after lines2 W (Proc.devRef .tc main_v28)) Blk.v := fun b n i h e => by
  after_reads_simp
  rw [S.v]
  pointwise
  rw [tok_eq]
  rfl

/-- The scaled output gradient, by chunks. -/
theorem d2 (A : Args) (W : Bufs) (S : Stage1 A W) : OnVal A (after lines2 W (Proc.devRef .tc main_v34)) Blk.d := fun b n i h e => by
  after_reads_simp
  rw [S.o, S.ds]
  pointwise
  simp only [tok_eq, block32_eq]
  rfl

/-- The scores of output gradient and values, causal. -/
theorem a2 (A : Args) (W : Bufs) (S : Stage1 A W) : OnPair A (after lines2 W (Proc.devRef .tc main_v48)) Blk.a := fun b n h i j => by
  after_reads_simp
  simp -implicitDefEqProofs only [StableHlo.TRef.toBuf, StableHlo.TRef.ofBuf, cast_cast, cast_eq, id_eq]
  rw [S.o, S.ds, S.v, S.vs]
  pointwise
  simp only [tok_eq, block32_eq, select_sge, vs_eq]
  rfl

/-- The scores of queries and keys, causal. -/
theorem p2 (A : Args) (W : Bufs) (S : Stage1 A W) : OnPair A (after lines2 W (Proc.devRef .tc main_v50)) Blk.p := fun b n h i j => by
  after_reads_simp
  simp -implicitDefEqProofs only [StableHlo.TRef.toBuf, StableHlo.TRef.ofBuf, cast_cast, cast_eq, id_eq]
  pointwise
  simp only [select_sge, S.q.at, S.k.at, S.B.at]
  rfl

/-- What each chunk adds to the state. -/
theorem u2 (A : Args) (W : Bufs) (S : Stage1 A W) : OnState A (after lines2 W (Proc.devRef .tc main_v58)) Blk.u := fun b n h c e => by
  after_reads_simp
  rw [S.v, S.vs]
  pointwise
  simp only [tok_eq, vs_eq, S.k.at, S.B.at]
  rfl

/-- What each chunk adds to the state gradient. -/
theorem w2 (A : Args) (W : Bufs) (S : Stage1 A W) : OnState A (after lines2 W (Proc.devRef .tc main_v59)) Blk.w := fun b n h c e => by
  after_reads_simp
  rw [S.o, S.ds]
  pointwise
  simp only [tok_eq, block32_eq, S.q.at, S.B.at]
  rfl

/-- Each chunk's decay, on every value channel. -/
theorem decay2 (A : Args) (W : Bufs) (S : Stage1 A W) :
    OnState A (after lines2 W (Proc.devRef .tc main_v60)) fun M n c _ => Ideal.exp (M.E n c) := fun b n h c e => by
  after_reads_simp
  pointwise
  rw [S.B.at]
  rfl

/-- The lines up to the states, together. -/
theorem stage2 (A : Args) (W : Bufs) (S : Stage1 A W) : Stage2 A (after lines2 W) where
  vs := by after_reads_simp; exact S.vs
  q := fun b n i h c => by after_reads_simp; exact S.q b n i h c
  k := fun b n i h c => by after_reads_simp; exact S.k b n i h c
  pos := pos2 A W S
  neg := neg2 A W S
  fin := fin2 A W S
  qg := qg2 A W S
  kg := kg2 A W S
  kd := kd2 A W S
  v := v2 A W S
  d := d2 A W S
  a := a2 A W S
  p := p2 A W S
  u := u2 A W S
  w := w2 A W S
  decay := decay2 A W S

end Cert.ReferenceIdeal.Work
-- ==== Proof.RefStates.lean ====
/- The reference's states: the two recurrences over the chunks, written out chunk by chunk and joined. -/
module

public import proofs.«01_k».proof.Proof.RefStage

@[expose] public section

set_option maxRecDepth 16384

noncomputable section

open Idealize.ShloMosaic Idealize.ShloMosaic.TcCoe Idealize.SL.Sem
open Idealize.ShloMosaic.StableHlo (after)

namespace Cert.ReferenceIdeal.Work

open Cert.ReferenceIdeal Cert.ReferenceIdeal.Gen Cert.Maths

/-- Buffers of a device. -/
local notation "Bufs" => Valuation τ sig (Elt Ideal)

/-- Sixteen states joined, read at an index: the state of the chunk. -/
theorem concat_at (x0 x1 x2 x3 x4 x5 x6 x7 x8 x9 x10 x11 x12 x13 x14 x15 : FVec Ideal S1x2x6x192x384 .f32) (f : ℕ → EReal) (b : Fin 2) (h : Fin 6) (c : Fin 192) (e : Fin 384)
    (h0 : x0 (ix5 0 b h c e) = f 0) (h1 : x1 (ix5 0 b h c e) = f 1) (h2 : x2 (ix5 0 b h c e) = f 2) (h3 : x3 (ix5 0 b h c e) = f 3) (h4 : x4 (ix5 0 b h c e) = f 4) (h5 : x5 (ix5 0 b h c e) = f 5) (h6 : x6 (ix5 0 b h c e) = f 6) (h7 : x7 (ix5 0 b h c e) = f 7) (h8 : x8 (ix5 0 b h c e) = f 8) (h9 : x9 (ix5 0 b h c e) = f 9) (h10 : x10 (ix5 0 b h c e) = f 10) (h11 : x11 (ix5 0 b h c e) = f 11) (h12 : x12 (ix5 0 b h c e) = f 12) (h13 : x13 (ix5 0 b h c e) = f 13) (h14 : x14 (ix5 0 b h c e) = f 14) (h15 : x15 (ix5 0 b h c e) = f 15) (n : Fin 16) :
    (concatenate S16x2x6x192x384 0 [⟨S1x2x6x192x384, x0⟩, ⟨S1x2x6x192x384, x1⟩, ⟨S1x2x6x192x384, x2⟩, ⟨S1x2x6x192x384, x3⟩, ⟨S1x2x6x192x384, x4⟩, ⟨S1x2x6x192x384, x5⟩, ⟨S1x2x6x192x384, x6⟩, ⟨S1x2x6x192x384, x7⟩, ⟨S1x2x6x192x384, x8⟩, ⟨S1x2x6x192x384, x9⟩, ⟨S1x2x6x192x384, x10⟩, ⟨S1x2x6x192x384, x11⟩, ⟨S1x2x6x192x384, x12⟩, ⟨S1x2x6x192x384, x13⟩, ⟨S1x2x6x192x384, x14⟩, ⟨S1x2x6x192x384, x15⟩]
      concatenates_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S16x2x6x192x384_d0 : FVec Ideal S16x2x6x192x384 .f32) (ix5 n b h c e) = f n.val := by
  fin_cases n <;> (pointwise; assumption)

set_option maxHeartbeats 4000000 in
/-- The states on entry to the chunks, walked forwards from zero. -/
theorem states_in (A : Args) (W : Bufs) (S : Stage2 A W) : OnState A (after hostOps1_7 W (Proc.devRef .tc main_v61)) Blk.S := fun b n h c e => by
  after_reads_simp
  simp -implicitDefEqProofs only [StableHlo.TRef.toBuf, cast_cast, cast_eq]
  refine (concat_at _ _ _ _ _ _ _ _ _ _ _ _ _ _ _ _ (fun k => (A.blk b h).S k c e) b h c e ?_ ?_ ?_ ?_ ?_ ?_ ?_ ?_ ?_ ?_ ?_ ?_ ?_ ?_ ?_ ?_ n)
  all_goals
    dsimp only [Matrix.cons_val]
    after_reads_simp
    simp -implicitDefEqProofs only [StableHlo.TRef.toBuf, StableHlo.TRef.ofBuf, cast_cast, cast_eq, id_eq]
    pointwise
    try simp only [S.decay.at, S.u.at]
    rfl

set_option maxHeartbeats 4000000 in
/-- The state gradients on leaving the chunks, walked backwards from zero. -/
theorem states_out (A : Args) (W : Bufs) (S : Stage2 A W) : OnState A (after hostOps1_8 W (Proc.devRef .tc main_v62)) Blk.T := fun b n h c e => by
  after_reads_simp
  simp -implicitDefEqProofs only [StableHlo.TRef.toBuf, cast_cast, cast_eq]
  refine (concat_at _ _ _ _ _ _ _ _ _ _ _ _ _ _ _ _ (fun k => (A.blk b h).T k c e) b h c e ?_ ?_ ?_ ?_ ?_ ?_ ?_ ?_ ?_ ?_ ?_ ?_ ?_ ?_ ?_ ?_ n)
  all_goals
    dsimp only [Matrix.cons_val]
    after_reads_simp
    simp -implicitDefEqProofs only [StableHlo.TRef.toBuf, StableHlo.TRef.ofBuf, cast_cast, cast_eq, id_eq]
    pointwise
    try simp only [S.decay.at, S.w.at]
    rfl

/-- After the recurrences: the states beside what the last lines still read. -/
structure Stage3 (A : Args) (W : Bufs) : Prop where
  vs : W (Proc.devRef .tc main_arg5) = A.vs
  q : OnTok A (W (Proc.devRef .tc main_v4)) Blk.q
  k : OnTok A (W (Proc.devRef .tc main_v8)) Blk.k
  pos : OnTok A (W (Proc.devRef .tc main_v13)) fun M n i c => Ideal.exp (M.B n i c)
  neg : OnTok A (W (Proc.devRef .tc main_v15)) fun M n i c => Ideal.exp (-M.B n i c)
  fin : OnTok A (W (Proc.devRef .tc main_v19)) fun M n i c => Ideal.exp (M.E n c - M.B n i c)
  qg : OnTok A (W (Proc.devRef .tc main_v23)) Blk.qg
  kg : OnTok A (W (Proc.devRef .tc main_v25)) Blk.kg
  kd : OnTok A (W (Proc.devRef .tc main_v27)) Blk.kd
  v : OnVal A (W (Proc.devRef .tc main_v28)) Blk.v
  d : OnVal A (W (Proc.devRef .tc main_v34)) Blk.d
  a : OnPair A (W (Proc.devRef .tc main_v48)) Blk.a
  p : OnPair A (W (Proc.devRef .tc main_v50)) Blk.p
  s : OnState A (W (Proc.devRef .tc main_v61)) Blk.S
  t : OnState A (W (Proc.devRef .tc main_v62)) Blk.T

/-- The two recurrences. -/
abbrev lines3 : List (HloOp τ sig (Elt Ideal)) := hostOps1_7 ++ hostOps1_8

/-- A list of lines after another. -/
theorem after_append (l₁ l₂ : List (HloOp τ sig (Elt Ideal))) (W : Bufs) : after (l₁ ++ l₂) W = after l₂ (after l₁ W) := by
  induction l₁ generalizing W with
  | nil => rfl
  | cons op l ih => exact ih _

/-- The forward recurrence writes none of the arrays it reads. -/
theorem stage2_kept (A : Args) (W : Bufs) (S : Stage2 A W) : Stage2 A (after hostOps1_7 W) where
  vs := by after_reads_simp; exact S.vs
  q := by after_reads_simp; exact S.q
  k := by after_reads_simp; exact S.k
  pos := by after_reads_simp; exact S.pos
  neg := by after_reads_simp; exact S.neg
  fin := by after_reads_simp; exact S.fin
  qg := by after_reads_simp; exact S.qg
  kg := by after_reads_simp; exact S.kg
  kd := by after_reads_simp; exact S.kd
  v := by after_reads_simp; exact S.v
  d := by after_reads_simp; exact S.d
  a := by after_reads_simp; exact S.a
  p := by after_reads_simp; exact S.p
  u := by after_reads_simp; exact S.u
  w := by after_reads_simp; exact S.w
  decay := by after_reads_simp; exact S.decay

/-- The recurrences, together. -/
theorem stage3 (A : Args) (W : Bufs) (S : Stage2 A W) : Stage3 A (after lines3 W) where
  vs := by after_reads_simp; exact S.vs
  q := by after_reads_simp; exact S.q
  k := by after_reads_simp; exact S.k
  pos := by after_reads_simp; exact S.pos
  neg := by after_reads_simp; exact S.neg
  fin := by after_reads_simp; exact S.fin
  qg := by after_reads_simp; exact S.qg
  kg := by after_reads_simp; exact S.kg
  kd := by after_reads_simp; exact S.kd
  v := by after_reads_simp; exact S.v
  d := by after_reads_simp; exact S.d
  a := by after_reads_simp; exact S.a
  p := by after_reads_simp; exact S.p
  s := by
    refine (congrArg (fun x => OnState A x Blk.S) ?_).mp (states_in A W S)
    rw [after_append]
    generalize after hostOps1_7 W = X
    after_reads_simp
  t := by rw [after_append]; exact states_out A _ (stage2_kept A W S)

end Cert.ReferenceIdeal.Work
-- ==== Proof.RefGrads.lean ====
/- The reference's last lines: the gradients from the states. -/
module

public import proofs.«01_k».proof.Proof.RefStates

@[expose] public section

set_option maxRecDepth 16384

noncomputable section

open Idealize.ShloMosaic Idealize.ShloMosaic.TcCoe Idealize.SL.Sem
open Idealize.ShloMosaic.StableHlo (after)

namespace Cert.ReferenceIdeal.Work

open Cert.ReferenceIdeal Cert.ReferenceIdeal.Gen Cert.Maths

/-- Buffers of a device. -/
local notation "Bufs" => Valuation τ sig (Elt Ideal)

/-- The gradient of the queries with its products turned round. -/
theorem dq_turned (M : Blk) (n : ℕ) (i : Fin 64) (c : Fin 192) :
    scale * Ideal.exp (M.B n i c) * (∑ e : Fin 384, M.S n c e * M.d n i e + ∑ j : Fin 64, M.kg n j c * M.a n i j) = M.dq n i c := by
  unfold Blk.dq
  simp only [mul_comm (M.S _ _ _), mul_comm (M.kg _ _ _)]

/-- The gradient of the keys with its products turned round. -/
theorem dk_turned (M : Blk) (n : ℕ) (j : Fin 64) (c : Fin 192) :
    Ideal.exp (M.E n c - M.B n j c) * (M.vs n * ∑ e : Fin 384, M.T n c e * M.v n j e)
      + Ideal.exp (-M.B n j c) * ∑ i : Fin 64, M.qg n i c * M.a n i j = M.dk n j c := by
  unfold Blk.dk
  simp only [mul_comm (M.T _ _ _), mul_comm (M.qg _ _ _)]

/-- The gradient of the values with its products turned round. -/
theorem dv_turned (M : Blk) (n : ℕ) (j : Fin 64) (e : Fin 384) :
    ∑ c : Fin 192, M.T n c e * M.kd n j c + ∑ i : Fin 64, M.d n i e * M.p n i j = M.dv n j e := by
  unfold Blk.dv
  simp only [mul_comm (M.T _ _ _), mul_comm (M.d _ _ _)]

/-- The gradient of the queries, chunk by chunk. -/
theorem dq4 (A : Args) (W : Bufs) (S : Stage3 A W) : OnTok A (after hostOps1_9 W (Proc.devRef .tc main_v72)) Blk.dq := fun b n i h c => by
  after_reads_simp
  pointwise
  simp only [S.s.at, S.d.at, S.kg.at, S.a.at, S.pos.at]
  exact dq_turned _ _ _ _

/-- The gradient of the keys, chunk by chunk. -/
theorem dk4 (A : Args) (W : Bufs) (S : Stage3 A W) : OnTok A (after hostOps1_9 W (Proc.devRef .tc main_v82)) Blk.dk := fun b n i h c => by
  after_reads_simp
  rw [S.vs]
  pointwise
  simp only [S.t.at, S.v.at, S.qg.at, S.a.at, S.neg.at, S.fin.at, vs_eq]
  exact dk_turned _ _ _ _

/-- The gradient of the values, chunk by chunk. -/
theorem dv4 (A : Args) (W : Bufs) (S : Stage3 A W) : OnVal A (after hostOps1_9 W (Proc.devRef .tc main_v87)) Blk.dv := fun b n i h e => by
  after_reads_simp
  pointwise
  simp only [S.t.at, S.kd.at, S.p.at, S.d.at]
  exact dv_turned _ _ _ _

/-- The gradient of the running sums, token by token. -/
theorem db4 (A : Args) (W : Bufs) (S : Stage3 A W) : after hostOps1_9 W (Proc.devRef .tc main_v91) = A.db := by
  after_reads_simp
  rw [S.vs]
  funext y; idx_vars y
  pointwise
  simp only [S.s.at, S.d.at, S.kg.at, S.a.at, S.pos.at, S.t.at, S.v.at, S.qg.at, S.neg.at, S.fin.at, S.q.at, S.k.at, vs_eq]
  exact congrArg₂ (fun x z => _ * x - _ * z) (dq_turned _ _ _ _) (dk_turned _ _ _ _)

/-- After the gradients: those of queries, keys and values chunk by chunk, that of the sums token by token. -/
structure Stage4 (A : Args) (W : Bufs) : Prop where
  dq : OnTok A (W (Proc.devRef .tc main_v72)) Blk.dq
  dk : OnTok A (W (Proc.devRef .tc main_v82)) Blk.dk
  dv : OnVal A (W (Proc.devRef .tc main_v87)) Blk.dv
  db : W (Proc.devRef .tc main_v91) = A.db

/-- The lines of the gradients, together. -/
theorem stage4 (A : Args) (W : Bufs) (S : Stage3 A W) : Stage4 A (after hostOps1_9 W) := ⟨dq4 A W S, dk4 A W S, dv4 A W S, db4 A W S⟩

/-- The reversed sums of the fourth result and the results' last casts. -/
abbrev lines5 : List (HloOp τ sig (Elt Ideal)) := hostOps1_10 ++ hostOps1_11

/-- The first result, token by token. -/
theorem dq5 (A : Args) (W : Bufs) (S : Stage4 A W) : after lines5 W (Proc.devRef .tc main_v94) = A.dq := by
  after_reads_simp
  funext y; idx_vars y
  pointwise
  rw [S.dq.at]
  rfl

/-- The second result, token by token. -/
theorem dk5 (A : Args) (W : Bufs) (S : Stage4 A W) : after lines5 W (Proc.devRef .tc main_v96) = A.dk := by
  after_reads_simp
  funext y; idx_vars y
  pointwise
  rw [S.dk.at]
  rfl

/-- The third result, token by token. -/
theorem dv5 (A : Args) (W : Bufs) (S : Stage4 A W) : after lines5 W (Proc.devRef .tc main_v98) = A.dv := by
  after_reads_simp
  funext y; idx_vars y
  pointwise
  rw [S.dv.at]
  rfl

/-- The results, but the fourth. -/
structure Results (A : Args) (W : Bufs) : Prop where
  dq : W (Proc.devRef .tc main_v94) = A.dq
  dk : W (Proc.devRef .tc main_v96) = A.dk
  dv : W (Proc.devRef .tc main_v98) = A.dv
  db : W (Proc.devRef .tc main_v91) = A.db

/-- The last lines, together. -/
theorem stage5 (A : Args) (W : Bufs) (S : Stage4 A W) : Results A (after lines5 W) :=
  ⟨dq5 A W S, dk5 A W S, dv5 A W S, by after_reads_simp; exact S.db⟩

/-- All of the reference's host lines, from the widened codes to the results. -/
theorem results (A : Args) (W : Bufs) (S : Stage0 A W) :
    Results A (after ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten W) := by
  have e : ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten
      = (((((hostOps1 ++ hostOps1_1) ++ lines2) ++ lines3) ++ hostOps1_9) ++ lines5) := by
    simp only [List.flatten_cons, List.flatten_nil, List.append_nil, List.append_assoc]
  rw [e, after_append, after_append, after_append, after_append]
  exact stage5 A _ (stage4 A _ (stage3 A _ (stage2 A _ (stage1 A W S))))

end Cert.ReferenceIdeal.Work
-- ==== Proof.RefRun.lean ====
/- The reference's run: its results, but the fourth, are the gradients of `Maths`. -/
module

public import proofs.«01_k».proof.Proof.RefGrads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.StableHlo (after)

namespace Cert.ReferenceIdeal.Work

open Cert.ReferenceIdeal Cert.ReferenceIdeal.Gen Cert.Maths

variable (m : (ℓ : Loc nD τ sig) → Buf (Elt Ideal) ℓ)

/-- The arguments as launched. -/
def args (c : Dev nD) : Args where
  q := m ((c : Thread nD τ).loc main_arg0)
  k := m ((c : Thread nD τ).loc main_arg1)
  qs := m ((c : Thread nD τ).loc main_arg2)
  ks := m ((c : Thread nD τ).loc main_arg3)
  v := m ((c : Thread nD τ).loc main_arg4)
  vs := m ((c : Thread nD τ).loc main_arg5)
  o := m ((c : Thread nD τ).loc main_arg6)
  ds := m ((c : Thread nD τ).loc main_arg7)
  g := m ((c : Thread nD τ).loc main_arg8)

/-- The widened codes of the queries. -/
theorem arr4 (c : Dev nD) : (dats m 0 c).arrAt 4 cfg0.N = (args m c).q := by
  refine (dats m 0 c).arrAt_eq_of_covers 4 _ (by decide +kernel) fun t hf y => ?_
  rw [after0_4]
  unfold out0_4
  rw [View.canon_unit_zero (by decide), View.ld_unit_zero (by decide)]
  refine congrArg (args m c).q (funext fun a => Fin.ext ?_)
  match a with
  | 0 | 1 | 2 | 3 => rfl

/-- The widened codes of the keys. -/
theorem arr5 (c : Dev nD) : (dats m 0 c).arrAt 5 cfg0.N = (args m c).k := by
  refine (dats m 0 c).arrAt_eq_of_covers 5 _ (by decide +kernel) fun t hf y => ?_
  rw [after0_5]
  unfold out0_5
  rw [View.canon_unit_zero (by decide), View.ld_unit_zero (by decide)]
  refine congrArg (args m c).k (funext fun a => Fin.ext ?_)
  match a with
  | 0 | 1 | 2 | 3 => rfl

/-- The widened codes of the values. -/
theorem arr6 (c : Dev nD) : (dats m 0 c).arrAt 6 cfg0.N = (args m c).v := by
  refine (dats m 0 c).arrAt_eq_of_covers 6 _ (by decide +kernel) fun t hf y => ?_
  rw [after0_6]
  unfold out0_6
  rw [View.canon_unit_zero (by decide), View.ld_unit_zero (by decide)]
  refine congrArg (args m c).v (funext fun a => Fin.ext ?_)
  match a with
  | 0 | 1 | 2 | 3 => rfl

/-- The widened codes of the output gradients. -/
theorem arr7 (c : Dev nD) : (dats m 0 c).arrAt 7 cfg0.N = (args m c).o := by
  refine (dats m 0 c).arrAt_eq_of_covers 7 _ (by decide +kernel) fun t hf y => ?_
  rw [after0_7]
  unfold out0_7
  rw [View.canon_unit_zero (by decide), View.ld_unit_zero (by decide)]
  refine congrArg (args m c).o (funext fun a => Fin.ext ?_)
  match a with
  | 0 | 1 | 2 | 3 => rfl

/-- Different windows stage different arrays. -/
theorem arrRef_injective : Function.Injective (Pipeline.arrRef (cfgs 0).spec) := by decide

/-- What the host lines start from: the widened codes beside the arguments. -/
theorem stage0 (c : Dev nD) :
    Stage0 (args m c) (Pipeline.withArrays (cfgs 0).spec c (V0 m c) fun w => (dats m 0 c).arrAt w (cfgs 0).N) where
  q := (Pipeline.withArrays_arr (cfgs 0).spec arrRef_injective c (V0 m c) _ 4).trans (arr4 m c)
  k := (Pipeline.withArrays_arr (cfgs 0).spec arrRef_injective c (V0 m c) _ 5).trans (arr5 m c)
  v := (Pipeline.withArrays_arr (cfgs 0).spec arrRef_injective c (V0 m c) _ 6).trans (arr6 m c)
  o := (Pipeline.withArrays_arr (cfgs 0).spec arrRef_injective c (V0 m c) _ 7).trans (arr7 m c)
  qs := Pipeline.withArrays_of_ne (cfgs 0).spec c (V0 m c) _ main_arg2 (by exact (by decide : ∀ w, Pipeline.arrRef spec0 w ≠ main_arg2))
  ks := Pipeline.withArrays_of_ne (cfgs 0).spec c (V0 m c) _ main_arg3 (by exact (by decide : ∀ w, Pipeline.arrRef spec0 w ≠ main_arg3))
  vs := Pipeline.withArrays_of_ne (cfgs 0).spec c (V0 m c) _ main_arg5 (by exact (by decide : ∀ w, Pipeline.arrRef spec0 w ≠ main_arg5))
  ds := Pipeline.withArrays_of_ne (cfgs 0).spec c (V0 m c) _ main_arg7 (by exact (by decide : ∀ w, Pipeline.arrRef spec0 w ≠ main_arg7))
  g := Pipeline.withArrays_of_ne (cfgs 0).spec c (V0 m c) _ main_arg8 (by exact (by decide : ∀ w, Pipeline.arrRef spec0 w ≠ main_arg8))

/-- The results after the run. -/
theorem tail (c : Dev nD) : Results (args m c) fun b =>
    after ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten
      (Pipeline.withArrays (cfgs 0).spec c (V0 m c) fun w => (dats m 0 c).arrAt w (cfgs 0).N) b := results _ _ (stage0 m c)

/-- The reference runs, leaves its arguments unchanged, and its results but the fourth are the gradients. -/
theorem run (ρ : Dev nD → PrngReg) : θ_run defs (onTc (τ := τ) main) ⟨m, fun _ => 0, ρ⟩ fun r => ∀ c : Dev nD,
    (r.2.mem ((c.tc : Thread nD τ).loc main_v94) = (args m c).dq
      ∧ r.2.mem ((c.tc : Thread nD τ).loc main_v96) = (args m c).dk
      ∧ r.2.mem ((c.tc : Thread nD τ).loc main_v98) = (args m c).dv
      ∧ r.2.mem ((c.tc : Thread nD τ).loc main_v91) = (args m c).db)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨
      ((h c).2 main_v94 (Pipeline.mem_restRefs_of main_v94 (by decide) (by decide))).trans (tail m c).dq,
      ((h c).2 main_v96 (Pipeline.mem_restRefs_of main_v96 (by decide) (by decide))).trans (tail m c).dk,
      ((h c).2 main_v98 (Pipeline.mem_restRefs_of main_v98 (by decide) (by decide))).trans (tail m c).dv,
      ((h c).2 main_v91 (Pipeline.mem_restRefs_of main_v91 (by decide) (by decide))).trans (tail m c).db⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.ReferenceIdeal.Work
-- ==== Proof.Conditions.lean ====
/- The precondition of the value claim, read: what it says of the arguments; and that both programs have the same arguments. -/
module

public import proofs.«01_k».proof.Proof.KRun
public import proofs.«01_k».proof.Proof.RefRun

@[expose] public section

noncomputable section

open Idealize.ShloMosaic Idealize.ShloMosaic.TcCoe Idealize.SL.Sem
open Cert.Maths

namespace Cert.Work

/-- The shape relations of the precondition. -/
theorem pre_facts : Cert.Pre_gates_and_scales_tame.Facts := ⟨by decide, by decide⟩
/-- The shape relations of the selection of results. -/
theorem on_facts : Cert.On_all_but_dg.Facts := ⟨by decide, by decide⟩

/-- The word the precondition compares with is plus infinity. -/
theorem inf_word : Ideal.ofBits FTy.f32 0x7F800000#32 = ⊤ := by
  norm_num [Ideal.ofBits, Ideal.ieee]
  rw [if_pos (by decide), if_neg (by decide)]

/-- A comparison that came out true. -/
theorem lt_of_bit {a b : EReal} (h : Ideal.cmp .olt a b = 1#1) : a < b := by
  by_contra hn
  simp [Ideal.cmp, hn] at h

/-- The other comparison that came out true. -/
theorem le_of_bit {a b : EReal} (h : Ideal.cmp .oge a b = 1#1) : b ≤ a := by
  by_contra hn
  simp [Ideal.cmp, hn] at h

section Pre

variable (m : (ℓ : Loc Cert.KernelIdeal.nD Cert.KernelIdeal.τ Cert.KernelIdeal.sig) → Buf (Elt Ideal) ℓ)
variable (H : Cert.Pre_KernelIdeal_gates_and_scales_tame (hPre_gates_and_scales_tame := pre_facts) m)

include H in
/-- Under the precondition no gate is plus infinity. -/
theorem gates (c : Dev Cert.KernelIdeal.nD) (y) : (Cert.KernelIdeal.Work.args m c).g y < ⊤ :=
  inf_word ▸ lt_of_bit (congrFun (H c).1 y)

include H in
/-- Under the precondition every scale of the values is nonnegative and finite. -/
theorem scales (c : Dev Cert.KernelIdeal.nD) (y) :
    0 ≤ (Cert.KernelIdeal.Work.args m c).vs y ∧ (Cert.KernelIdeal.Work.args m c).vs y < ⊤ :=
  ⟨by have h := le_of_bit (congrFun (H c).2.1 y)
      refine le_of_eq_of_le ?_ h
      pointwise,
   inf_word ▸ lt_of_bit (congrFun (H c).2.2 y)⟩

end Pre

end Cert.Work
-- ==== Proof.Words.Pair.lean ====
/- What one pair of chunks (128 tokens) of one (head, batch) block computes, as arrays: the kernel's operations, in the
   kernel's order, written once for every pair. -/
module

public import proofs.«01_k».proof.Defs
public import proofs.«01_k».proof.Proof.Gen.KernelWIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelWIdeal.Work

open Cert.KernelWIdeal Cert.KernelWIdeal.Gen

/-- The causal mask within a pair: key `j` (row) and query `i` (column) of one chunk, `j ≤ i`. -/
def causal : IVec S128x128 1 :=
  k0_pay20 (iota .tc S128x128 32 [0] iota_S128x128_d0_w32) k0_pay15 k0_pay16 64#32 k0_pay17 k0_pay18 k0_pay19

/-- The gates' running sums within each chunk of four: the slab as three summands times the stacked triangle. -/
def sums (g : Vec Ideal S1x1x192x256 .f32) (tri : Vec Ideal S768x256 .bf16) : FVec Ideal S192x256 .f32 :=
  have x : FVec Ideal S192x256 .f32 := shapeCast S192x256 g shapeCasts_S1x1x192x256_S192x256
  have hi : FVec Ideal S192x256 .bf16 := truncf .bf16 x bitsLt_bf16_f32
  have r : FVec Ideal S192x256 .f32 := subf x (extf .f32 hi bitsLt_bf16_f32)
  have mid : FVec Ideal S192x256 .bf16 := truncf .bf16 r bitsLt_bf16_f32
  have lo : FVec Ideal S192x256 .bf16 := truncf .bf16 (subf r (extf .f32 mid bitsLt_bf16_f32)) bitsLt_bf16_f32
  matmul (φ₂ := .bf16) dot_S192x768_S768x256_S192x256_1_0_0_1_n_n none
    (concatenate S192x768 1 [⟨S192x256, hi⟩, ⟨S192x256, mid⟩, ⟨S192x256, lo⟩] concatenates_S192x256_S192x256_S192x256_S192x768_d1)
    tri (constant S192x256 .f32 0x00000000#32)

/-- What one pair reads: the running sums of its gates, its codes, the scales of its `do` rows, and the scales of
    `q`, `k`, `v` in its two chunks. -/
structure PairIn where
  bc : FVec Ideal S192x128 .f32
  q : Vec Ideal S1x1x192x128 .fp8e4m3
  k : Vec Ideal S1x1x192x128 .fp8e4m3
  v : Vec Ideal S1x1x128x384 .fp8e4m3
  o : Vec Ideal S1x1x128x384 .fp8e5m2
  ds : FVec Ideal S12x128 .f32
  qs0 : Elt Ideal .f32
  qs1 : Elt Ideal .f32
  ks0 : Elt Ideal .f32
  ks1 : Elt Ideal .f32
  vs0 : Elt Ideal .f32
  vs1 : Elt Ideal .f32

namespace PairIn

variable (x : PairIn)

/-- The gates' sum over the whole first chunk. -/
def end1 : FVec Ideal S192x1 .f32 := extractStridedSlice S192x1 ![0, 63] x.bc slices_S192x128_o0_63_S192x1
/-- The gates' sum over the whole second chunk. -/
def end2 : FVec Ideal S192x1 .f32 := extractStridedSlice S192x1 ![0, 127] x.bc slices_S192x128_o0_127_S192x1
/-- The first chunk's decay. -/
def d1 : FVec Ideal S192x1 .f32 := exp x.end1
/-- The second chunk's decay. -/
def d2 : FVec Ideal S192x1 .f32 := exp x.end2
/-- `exp bc * scale`. -/
def es : FVec Ideal S192x128 .f32 := mulf (exp x.bc) (broadcast S192x128 (Scalar.ofBits .f32 0x3D93CD3A#32))
/-- `exp (-bc)`. -/
def en : FVec Ideal S192x128 .f32 := exp (subf (broadcast S192x128 (Scalar.ofBits .f32 0x00000000#32)) x.bc)
/-- `exp (end - bc)`, `end` the chunk's own. -/
def ee : FVec Ideal S192x128 .f32 :=
  exp (subf (select (broadcastTo S192x128 (shapeCast S1x128 k0_pay14 shapeCasts_S1x128_S1x128) broadcasts_S1x128_S192x128)
    (broadcastTo S192x128 (shapeCast S192x1 x.end1 shapeCasts_S192x1_S192x1) broadcasts_S192x1_S192x128)
    (broadcastTo S192x128 (shapeCast S192x1 x.end2 shapeCasts_S192x1_S192x1) broadcasts_S192x1_S192x128)) x.bc)

/-- A row holding one scalar over the first chunk and one over the second. -/
def row (a b : Elt Ideal .f32) : FVec Ideal S1x128 .f32 := select k0_pay14 (broadcast S1x128 a) (broadcast S1x128 b)

/-- The values' scales of the two chunks, on every channel. -/
def vrow : FVec Ideal S192x128 .f32 := broadcastTo S192x128 (row x.vs0 x.vs1) broadcasts_S1x128_S192x128
/-- The queries. -/
def qf : FVec Ideal S192x128 .f32 :=
  mulf (extf .f32 (shapeCast S192x128 x.q shapeCasts_S1x1x192x128_S192x128) bitsLt_fp8e4m3_f32)
    (broadcastTo S192x128 (row x.qs0 x.qs1) broadcasts_S1x128_S192x128)
/-- The keys. -/
def kf : FVec Ideal S192x128 .f32 :=
  mulf (extf .f32 (shapeCast S192x128 x.k shapeCasts_S1x1x192x128_S192x128) bitsLt_fp8e4m3_f32)
    (broadcastTo S192x128 (row x.ks0 x.ks1) broadcasts_S1x128_S192x128)
/-- The grown queries. -/
def qg : FVec Ideal S192x128 .bf16 := truncf .bf16 (mulf x.qf x.es) bitsLt_bf16_f32
/-- The shrunk keys. -/
def kg : FVec Ideal S192x128 .bf16 := truncf .bf16 (mulf x.kf x.en) bitsLt_bf16_f32
/-- The decayed keys. -/
def kd : FVec Ideal S192x128 .f32 := mulf x.kf x.ee
/-- The decayed keys times the values' scales. -/
def kdv : FVec Ideal S192x128 .bf16 := truncf .bf16 (mulf x.kd x.vrow) bitsLt_bf16_f32
/-- The decays times the values' scales. -/
def eev : FVec Ideal S192x128 .f32 := shapeCast S192x128 (mulf x.ee x.vrow) shapeCasts_S192x128_S192x128
/-- The decayed keys, transposed. -/
def kdt : FVec Ideal S1x128x192 .bf16 :=
  shapeCast S1x128x192 (transpose S128x192 [1, 0] (truncf .bf16 x.kd bitsLt_bf16_f32) transposes_S192x128_p1_0_S128x192)
    shapeCasts_S128x192_S1x128x192

/-- The values. -/
def vf : FVec Ideal S128x384 .bf16 := extf .bf16 (shapeCast S128x384 x.v shapeCasts_S1x1x128x384_S128x384) bitsLt_fp8e4m3_bf16
/-- The values of the two chunks on the diagonal of a block matrix. -/
def v2 : FVec Ideal S128x768 .bf16 :=
  concatenate S128x768 0
    [⟨S64x768, concatenate S64x768 1
        [⟨S64x384, extractStridedSlice S64x384 ![0, 0] x.vf slices_S128x384_o0_0_S64x384⟩,
         ⟨S64x384, broadcast S64x384 (Scalar.ofBits .bf16 0x0000#16)⟩] concatenates_S64x384_S64x384_S64x768_d1⟩,
     ⟨S64x768, concatenate S64x768 1
        [⟨S64x384, broadcast S64x384 (Scalar.ofBits .bf16 0x0000#16)⟩,
         ⟨S64x384, extractStridedSlice S64x384 ![64, 0] x.vf slices_S128x384_o64_0_S64x384⟩] concatenates_S64x384_S64x384_S64x768_d1⟩]
    concatenates_S64x768_S64x768_S128x768_d0
/-- The rows of `do`, transposed and scaled. -/
def dt : FVec Ideal S384x128 .bf16 :=
  mulf (transpose S384x128 [1, 0] (extf .bf16 (shapeCast S128x384 x.o shapeCasts_S1x1x128x384_S128x384) bitsLt_fp8e5m2_bf16)
      transposes_S128x384_p1_0_S384x128)
    (shapeCast S384x128 (broadcastTo S12x32x128 (shapeCast S12x1x128 (shapeCast S12x1x128 (truncf .bf16 x.ds bitsLt_bf16_f32)
      shapeCasts_S12x128_S12x1x128) shapeCasts_S12x1x128_S12x1x128) broadcasts_S12x1x128_S12x32x128) shapeCasts_S12x32x128_S384x128)
/-- The same, the two chunks' columns in different halves of the rows. -/
def d2t : FVec Ideal S768x128 .bf16 :=
  concatenate S768x128 0
    [⟨S384x128, select (broadcastTo S384x128 (shapeCast S1x128 k0_pay14 shapeCasts_S1x128_S1x128) broadcasts_S1x128_S384x128) x.dt
        (broadcast S384x128 (Scalar.ofBits .bf16 0x0000#16))⟩,
     ⟨S384x128, select (broadcastTo S384x128 (shapeCast S1x128 k0_pay14 shapeCasts_S1x128_S1x128) broadcasts_S1x128_S384x128)
        (broadcast S384x128 (Scalar.ofBits .bf16 0x0000#16)) x.dt⟩] concatenates_S384x128_S384x128_S768x128_d0

/-- `v · do`, key by query, before scaling. -/
def at0 : FVec Ideal S128x128 .f32 :=
  matmul dot_S128x384_S384x128_S128x128_1_0_0_1_n_n none x.vf x.dt (constant S128x128 .f32 0x00000000#32)
/-- The gradient of the scores, key by query: scaled and masked. -/
def at_ : FVec Ideal S128x128 .bf16 :=
  truncf .bf16 (select causal
    (concatenate S128x128 0
      [⟨S64x128, mulf (extractStridedSlice S64x128 ![0, 0] x.at0 slices_S128x128_o0_0_S64x128) (broadcast S64x128 x.vs0)⟩,
       ⟨S64x128, mulf (extractStridedSlice S64x128 ![64, 0] x.at0 slices_S128x128_o64_0_S64x128) (broadcast S64x128 x.vs1)⟩]
      concatenates_S64x128_S64x128_S128x128_d0)
    (broadcast S128x128 (Scalar.ofBits .f32 0x00000000#32))) bitsLt_bf16_f32
/-- What the pair's own scores contribute to `dq` (first half of the columns) and `dk` (second half). -/
def intra : FVec Ideal S192x256 .f32 :=
  matmul dot_S192x256_S256x256_S192x256_1_0_0_1_n_n none
    (concatenate S192x256 1 [⟨S192x128, x.kg⟩, ⟨S192x128, x.qg⟩] concatenates_S192x128_S192x128_S192x256_d1)
    (concatenate S256x256 0
      [⟨S128x256, concatenate S128x256 1 [⟨S128x128, x.at_⟩, ⟨S128x128, broadcast S128x128 (Scalar.ofBits .bf16 0x0000#16)⟩]
          concatenates_S128x128_S128x128_S128x256_d1⟩,
       ⟨S128x256, concatenate S128x256 1 [⟨S128x128, broadcast S128x128 (Scalar.ofBits .bf16 0x0000#16)⟩,
          ⟨S128x128, transpose S128x128 [1, 0] x.at_ transposes_S128x128_p1_0_S128x128⟩] concatenates_S128x128_S128x128_S128x256_d1⟩]
      concatenates_S128x256_S128x256_S256x256_d0)
    (constant S192x256 .f32 0x00000000#32)
/-- The part of the keys' gradient from within the chunks. -/
def dki : FVec Ideal S192x128 .f32 :=
  shapeCast S192x128 (mulf x.en (extractStridedSlice S192x128 ![0, 128] x.intra slices_S192x256_o0_128_S192x128)) shapeCasts_S192x128_S192x128
/-- The scores, key by query, masked. -/
def pt : FVec Ideal S1x128x128 .bf16 :=
  shapeCast S1x128x128 (truncf .bf16 (select causal
    (matmul dot_S128x192_S192x128_S128x128_1_0_0_1_n_n none (transpose S128x192 [1, 0] x.kg transposes_S192x128_p1_0_S128x192) x.qg
      (constant S128x128 .f32 0x00000000#32))
    (broadcast S128x128 (Scalar.ofBits .f32 0x00000000#32))) bitsLt_bf16_f32) shapeCasts_S128x128_S1x128x128

/-! ### Forward: the state `s` enters the pair -/

/-- What the two chunks add to the state. -/
def u : FVec Ideal S192x768 .f32 :=
  matmul dot_S192x128_S128x768_S192x768_1_0_0_1_n_n none x.kdv x.v2 (constant S192x768 .f32 0x00000000#32)
/-- The state between the two chunks. -/
def mid (s : FVec Ideal S192x384 .f32) : FVec Ideal S192x384 .f32 :=
  addf (mulf (broadcastTo S192x384 x.d1 broadcasts_S192x1_S192x384) s)
    (extractStridedSlice S192x384 ![0, 0] x.u slices_S192x768_o0_0_S192x384)
/-- The state that leaves the pair. -/
def next (s : FVec Ideal S192x384 .f32) : FVec Ideal S192x384 .f32 :=
  addf (mulf (broadcastTo S192x384 x.d2 broadcasts_S192x1_S192x384) (x.mid s))
    (extractStridedSlice S192x384 ![0, 384] x.u slices_S192x768_o0_384_S192x384)
/-- The queries' gradient. -/
def dq (s : FVec Ideal S192x384 .f32) : FVec Ideal S192x128 .f32 :=
  mulf x.es (addf
    (matmul dot_S192x768_S768x128_S192x128_1_0_0_1_n_n none
      (concatenate S192x768 1 [⟨S192x384, truncf .bf16 s bitsLt_bf16_f32⟩, ⟨S192x384, truncf .bf16 (x.mid s) bitsLt_bf16_f32⟩]
        concatenates_S192x384_S192x384_S192x768_d1) x.d2t (constant S192x128 .f32 0x00000000#32))
    (extractStridedSlice S192x128 ![0, 0] x.intra slices_S192x256_o0_0_S192x128))
/-- The block of `dq` the pair stores. -/
def dqOut (s : FVec Ideal S192x384 .f32) : FVec Ideal S1x1x192x128 .bf16 :=
  shapeCast S1x1x192x128 (truncf .bf16 (x.dq s) bitsLt_bf16_f32) shapeCasts_S192x128_S1x1x192x128
/-- Queries times their gradient. -/
def qdq (s : FVec Ideal S192x384 .f32) : FVec Ideal S192x128 .f32 :=
  shapeCast S192x128 (mulf x.qf (x.dq s)) shapeCasts_S192x128_S192x128

/-! ### Backward: the state gradient `s` that leaves the pair -/

/-- What the two chunks add to the state gradient. -/
def w : FVec Ideal S192x768 .f32 :=
  matmul dot_S192x128_S768x128_S192x768_1_1_0_0_n_n none
    (shapeCast S192x128 (shapeCast S1x192x128 x.qg shapeCasts_S192x128_S1x192x128) shapeCasts_S1x192x128_S192x128)
    (shapeCast S768x128 (shapeCast S1x768x128 x.d2t shapeCasts_S768x128_S1x768x128) shapeCasts_S1x768x128_S768x128)
    (constant S192x768 .f32 0x00000000#32)
/-- The state gradient between the two chunks. -/
def midB (s : FVec Ideal S192x384 .f32) : FVec Ideal S192x384 .f32 :=
  addf (mulf (broadcastTo S192x384 x.d2 broadcasts_S192x1_S192x384) s)
    (extractStridedSlice S192x384 ![0, 384] x.w slices_S192x768_o0_384_S192x384)
/-- The state gradient that enters the pair. -/
def nextB (s : FVec Ideal S192x384 .f32) : FVec Ideal S192x384 .f32 :=
  addf (mulf (broadcastTo S192x384 x.d1 broadcasts_S192x1_S192x384) (x.midB s))
    (extractStridedSlice S192x384 ![0, 0] x.w slices_S192x768_o0_0_S192x384)
/-- The keys' gradient. -/
def dk (s : FVec Ideal S192x384 .f32) : FVec Ideal S192x128 .f32 :=
  addf (mulf x.eev
    (matmul dot_S192x768_S128x768_S192x128_1_1_0_0_n_n none
      (concatenate S192x768 1 [⟨S192x384, truncf .bf16 (x.midB s) bitsLt_bf16_f32⟩, ⟨S192x384, truncf .bf16 s bitsLt_bf16_f32⟩]
        concatenates_S192x384_S192x384_S192x768_d1)
      (shapeCast S128x768 (shapeCast S1x128x768 x.v2 shapeCasts_S128x768_S1x128x768) shapeCasts_S1x128x768_S128x768)
      (constant S192x128 .f32 0x00000000#32))) x.dki
/-- The block of `dk` the pair stores. -/
def dkOut (s : FVec Ideal S192x384 .f32) : FVec Ideal S1x1x192x128 .bf16 :=
  shapeCast S1x1x192x128 (truncf .bf16 (x.dk s) bitsLt_bf16_f32) shapeCasts_S192x128_S1x1x192x128
/-- The values' gradient. -/
def dv (s : FVec Ideal S192x384 .f32) : FVec Ideal S128x384 .f32 :=
  addf (concatenate S128x384 0
      [⟨S64x384, matmul dot_S64x192_S192x384_S64x384_1_0_0_1_n_n none
          (extractStridedSlice S64x192 ![0, 0] (shapeCast S128x192 x.kdt shapeCasts_S1x128x192_S128x192) slices_S128x192_o0_0_S64x192)
          (truncf .bf16 (x.midB s) bitsLt_bf16_f32) (constant S64x384 .f32 0x00000000#32)⟩,
       ⟨S64x384, matmul dot_S64x192_S192x384_S64x384_1_0_0_1_n_n none
          (extractStridedSlice S64x192 ![64, 0] (shapeCast S128x192 x.kdt shapeCasts_S1x128x192_S128x192) slices_S128x192_o64_0_S64x192)
          (truncf .bf16 s bitsLt_bf16_f32) (constant S64x384 .f32 0x00000000#32)⟩] concatenates_S64x384_S64x384_S128x384_d0)
    (matmul dot_S128x128_S384x128_S128x384_1_1_0_0_n_n none
      (shapeCast S128x128 x.pt shapeCasts_S1x128x128_S128x128)
      (shapeCast S384x128 (shapeCast S1x384x128 x.dt shapeCasts_S384x128_S1x384x128) shapeCasts_S1x384x128_S384x128)
      (constant S128x384 .f32 0x00000000#32))
/-- The block of `dv` the pair stores. -/
def dvOut (s : FVec Ideal S192x384 .f32) : FVec Ideal S1x1x128x384 .bf16 :=
  shapeCast S1x1x128x384 (truncf .bf16 (x.dv s) bitsLt_bf16_f32) shapeCasts_S128x384_S1x1x128x384
/-- The block of `db` the pair stores: `f` the forward state that enters it, `s` the state gradient that leaves it. -/
def dbOut (f s : FVec Ideal S192x384 .f32) : FVec Ideal S1x1x192x128 .f32 :=
  shapeCast S1x1x192x128 (subf (x.qdq f) (mulf x.kf (x.dk s))) shapeCasts_S192x128_S1x1x192x128

end PairIn

/-! ### The block's pairs -/

/-- What one block reads: the three tables of scales, the codes, the scales of `do`, the gates, and the stacked triangles of the
    forward and of the reversed sums. -/
structure BlkIn where
  i : grid0.Coords
  qs : Vec Ideal S6x2x16 .f32
  ks : Vec Ideal S6x2x16 .f32
  vs : Vec Ideal S6x2x16 .f32
  q : Vec Ideal S1x1x192x1024 .fp8e4m3
  k : Vec Ideal S1x1x192x1024 .fp8e4m3
  v : Vec Ideal S1x1x1024x384 .fp8e4m3
  o : Vec Ideal S1x1x1024x384 .fp8e5m2
  ds : Vec Ideal S1x12x2x1024 .f32
  g : Vec Ideal S1x1x192x1024 .f32
  tri : Vec Ideal S768x256 .bf16
  suf : Vec Ideal S768x256 .bf16

namespace BlkIn

variable (x : BlkIn)

/-- A scale's place lies in its table. -/
theorem inb_sc (i : grid0.Coords) (n : ℕ) : ∀ a, (![(i 0).val, (i 1).val, n % 16] : Fin 3 → ℕ) a + S1x1x1.size a ≤ S6x2x16.size a
  | 0 => (i 0).isLt
  | 1 => (i 1).isLt
  | 2 => Nat.mod_lt n (by decide)

/-- The scale of chunk `n` in a table. -/
def sc (i : grid0.Coords) (tab : Vec Ideal S6x2x16 .f32) (n : ℕ) : Elt Ideal .f32 :=
  View.ld tab (Rect.unit ![(i 0).val, (i 1).val, n % 16] S1x1x1.size (inb_sc i n)) (Shape.Idx.first (Nat.one_pos : 0 < S1x1x1.numel))

/-- A load of one scalar at computed offsets is the table's entry they name. -/
theorem ld_sc {i : grid0.Coords} {off : Fin 3 → ℕ} (n : ℕ) (h : off = ![(i 0).val, (i 1).val, n % 16]) (tab : Vec Ideal S6x2x16 .f32) (inb) :
    View.ld tab (Rect.unit off (no_index S1x1x1.size) inb) = fun _ => sc i tab n := by
  subst h
  funext j
  unfold sc
  congr 1
  funext a
  apply Fin.ext
  have := (j a).isLt
  have : S1x1x1.size a = 1 := by fin_cases a <;> rfl
  show (j a).val = 0
  have h3 : (j a).val < S1x1x1.size a := (j a).isLt
  omega

/-- The same for the one number such a load returns. -/
theorem ld_sc_apply {i : grid0.Coords} {off : Fin 3 → ℕ} (n : ℕ) (h : off = ![(i 0).val, (i 1).val, n % 16])
    (tab : Vec Ideal S6x2x16 .f32) (inb) (j) :
    View.ld tab (Rect.unit (s := S6x2x16) off ![1, 1, 1] inb) j = sc i tab n := by
  subst h
  rw [ld_sc n rfl]

/-- The batch's scales lie in their block. -/
theorem inb_ds (i : grid0.Coords) : ∀ a, (![0, 0, (i 1).val, 0] : Fin 4 → ℕ) a + S1x12x1x1024.size a ≤ S1x12x2x1024.size a
  | 0 => Nat.le_refl _
  | 1 => Nat.le_refl _
  | 2 => (i 1).isLt
  | 3 => Nat.le_refl _

/-- The scales of `do` of the block's batch. -/
def dsb (i : grid0.Coords) (tab : Vec Ideal S1x12x2x1024 .f32) : Vec Ideal S1x12x1x1024 .f32 :=
  View.ld tab (Rect.unit ![0, 0, (i 1).val, 0] S1x12x1x1024.size (inb_ds i))

/-- The load of the batch's scales does not depend on how its offsets are written. -/
theorem ld_ds {i : grid0.Coords} {off : Fin 4 → ℕ} (h : off = ![0, 0, (i 1).val, 0]) (tab : Vec Ideal S1x12x2x1024 .f32) (inb) :
    View.ld tab (Rect.unit off (no_index S1x12x1x1024.size) inb) = dsb i tab := by subst h; rfl

/-- A pair's columns lie in the block. -/
theorem inb_chan (p : ℕ) : ∀ a, (![0, 0, 0, 128 * (p % 8)] : Fin 4 → ℕ) a + S1x1x192x128.size a ≤ S1x1x192x1024.size a
  | 0 => Nat.le_refl _
  | 1 => Nat.le_refl _
  | 2 => Nat.le_refl _
  | 3 => by show 128 * (p % 8) + 128 ≤ 1024; omega

/-- A pair's rows lie in the block. -/
theorem inb_tok (p : ℕ) : ∀ a, (![0, 0, 128 * (p % 8), 0] : Fin 4 → ℕ) a + S1x1x128x384.size a ≤ S1x1x1024x384.size a
  | 0 => Nat.le_refl _
  | 1 => Nat.le_refl _
  | 2 => by show 128 * (p % 8) + 128 ≤ 1024; omega
  | 3 => Nat.le_refl _

/-- A group of two pairs lies in the block. -/
theorem inb_slab (p : ℕ) : ∀ a, (![0, 0, 0, 256 * (p / 2 % 4)] : Fin 4 → ℕ) a + S1x1x192x256.size a ≤ S1x1x192x1024.size a
  | 0 => Nat.le_refl _
  | 1 => Nat.le_refl _
  | 2 => Nat.le_refl _
  | 3 => by show 256 * (p / 2 % 4) + 256 ≤ 1024; omega

/-- A pair is a half of its group. -/
theorem slices_half (p : ℕ) : S192x256.Slices ![0, 128 * (p % 2)] S192x128 :=
  ⟨rfl, fun
    | 0 => Nat.le_refl _
    | 1 => by show 128 * (p % 2) + 128 ≤ 256; omega⟩

/-- The scales of a pair are a slice of all. -/
theorem slices_ds (p : ℕ) : S12x1024.Slices ![0, 128 * (p % 8)] S12x128 :=
  ⟨rfl, fun
    | 0 => Nat.le_refl _
    | 1 => by show 128 * (p % 8) + 128 ≤ 1024; omega⟩

/-- What pair `p` of the block reads. -/
def pair (p : ℕ) : PairIn where
  bc := extractStridedSlice S192x128 ![0, 128 * (p % 2)]
    (sums (View.ld x.g (Rect.unit ![0, 0, 0, 256 * (p / 2 % 4)] S1x1x192x256.size (inb_slab p))) x.tri) (slices_half p)
  q := View.ld x.q (Rect.unit ![0, 0, 0, 128 * (p % 8)] S1x1x192x128.size (inb_chan p))
  k := View.ld x.k (Rect.unit ![0, 0, 0, 128 * (p % 8)] S1x1x192x128.size (inb_chan p))
  v := View.ld x.v (Rect.unit ![0, 0, 128 * (p % 8), 0] S1x1x128x384.size (inb_tok p))
  o := View.ld x.o (Rect.unit ![0, 0, 128 * (p % 8), 0] S1x1x128x384.size (inb_tok p))
  ds := extractStridedSlice S12x128 ![0, 128 * (p % 8)]
    (shapeCast S12x1024 (dsb x.i x.ds) shapeCasts_S1x12x1x1024_S12x1024)
    (slices_ds p)
  qs0 := sc x.i x.qs (2 * p)
  qs1 := sc x.i x.qs (2 * p + 1)
  ks0 := sc x.i x.ks (2 * p)
  ks1 := sc x.i x.ks (2 * p + 1)
  vs0 := sc x.i x.vs (2 * p)
  vs1 := sc x.i x.vs (2 * p + 1)

/-- The state that enters pair `n`. -/
def fwd : ℕ → FVec Ideal S192x384 .f32
  | 0 => broadcast S192x384 (Scalar.ofBits .f32 0x00000000#32)
  | n + 1 => (x.pair n).next (fwd n)

/-- The state gradient that leaves pair `7 - n`. -/
def bwd : ℕ → FVec Ideal S192x384 .f32
  | 0 => broadcast S192x384 (Scalar.ofBits .f32 0x00000000#32)
  | n + 1 => (x.pair (7 - n)).nextB (bwd n)

/-- The stores into `db`'s block of the pairs `L`. -/
def dbSome (L : List ℕ) : List (View.Piece (Elt Ideal) S1x1x192x1024 .f32) :=
  L.map fun p => ⟨Rect.unit ![0, 0, 0, 128 * (p % 8)] S1x1x192x128.size (inb_chan p), (x.pair p).dbOut (x.fwd p) (x.bwd (7 - p))⟩
/-- The reversed sums of `db` over the group of pair `p`, the pairs `L` being stored, plus what the later groups sum to. -/
def dgSum (p : ℕ) (L : List ℕ) (carry : FVec Ideal S192x1 .f32) : FVec Ideal S192x256 .f32 :=
  addf (sums (View.ld (View.canon (x.dbSome L)) (Rect.unit ![0, 0, 0, 256 * (p / 2 % 4)] S1x1x192x256.size (inb_slab p))) x.suf)
    (broadcastTo S192x256 carry broadcasts_S192x1_S192x256)
/-- What a group hands to the one before it: its first column. -/
def head (v : FVec Ideal S192x256 .f32) : FVec Ideal S192x1 .f32 := extractStridedSlice S192x1 ![0, 0] v slices_S192x256_o0_0_S192x1
/-- The reversed sums over the last group. -/
def dg3 : FVec Ideal S192x256 .f32 := x.dgSum 6 [6, 7] (broadcast S192x1 (Scalar.ofBits .f32 0x00000000#32))
/-- The reversed sums over the third group. -/
def dg2 : FVec Ideal S192x256 .f32 := x.dgSum 4 [4, 5, 6, 7] (head x.dg3)
/-- The reversed sums over the second group. -/
def dg1 : FVec Ideal S192x256 .f32 := x.dgSum 2 [2, 3, 4, 5, 6, 7] (head x.dg2)
/-- The reversed sums over the first group. -/
def dg0 : FVec Ideal S192x256 .f32 := x.dgSum 0 [0, 1, 2, 3, 4, 5, 6, 7] (head x.dg1)
/-- The stores into `dg`'s block, last first. -/
def dgPieces : List (View.Piece (Elt Ideal) S1x1x192x1024 .f32) :=
  [⟨Rect.unit ![0, 0, 0, 256 * (0 / 2 % 4)] S1x1x192x256.size (inb_slab 0), shapeCast S1x1x192x256 x.dg0 shapeCasts_S192x256_S1x1x192x256⟩,
   ⟨Rect.unit ![0, 0, 0, 256 * (2 / 2 % 4)] S1x1x192x256.size (inb_slab 2), shapeCast S1x1x192x256 x.dg1 shapeCasts_S192x256_S1x1x192x256⟩,
   ⟨Rect.unit ![0, 0, 0, 256 * (4 / 2 % 4)] S1x1x192x256.size (inb_slab 4), shapeCast S1x1x192x256 x.dg2 shapeCasts_S192x256_S1x1x192x256⟩,
   ⟨Rect.unit ![0, 0, 0, 256 * (6 / 2 % 4)] S1x1x192x256.size (inb_slab 6), shapeCast S1x1x192x256 x.dg3 shapeCasts_S192x256_S1x1x192x256⟩]

end BlkIn

/-- The triangle within each chunk of four, `t ≤ i`. -/
def tri0 : FVec Ideal S256x256 .bf16 :=
  k0_pay6 (iota .tc S256x256 32 [0] iota_S256x256_d0_w32) (iota .tc S256x256 32 [1] iota_S256x256_d1_w32) k0_pay3 k0_pay4 k0_pay5

/-- The whole triangle, `t ≥ i`. -/
def suf0 : FVec Ideal S256x256 .bf16 :=
  k0_pay7 (iota .tc S256x256 32 [0] iota_S256x256_d0_w32) (iota .tc S256x256 32 [1] iota_S256x256_d1_w32)

/-- The triangle stacked three times. -/
def triStack : Vec Ideal S768x256 .bf16 :=
  View.canon (Val := Elt Ideal) (s := S768x256) (e := .bf16)
    [⟨Rect.unit ![512, 0] S256x256.size inb_S768x256_S256x256_512_0, shapeCast S256x256 tri0 shapeCasts_S256x256_S256x256⟩,
     ⟨Rect.unit ![256, 0] S256x256.size inb_S768x256_S256x256_256_0, shapeCast S256x256 tri0 shapeCasts_S256x256_S256x256⟩,
     ⟨Rect.unit ![0, 0] S256x256.size inb_S768x256_S256x256_0_0, shapeCast S256x256 tri0 shapeCasts_S256x256_S256x256⟩]

/-- The whole triangle stacked three times. -/
def sufStack : Vec Ideal S768x256 .bf16 :=
  View.canon (Val := Elt Ideal) (s := S768x256) (e := .bf16)
    [⟨Rect.unit ![512, 0] S256x256.size inb_S768x256_S256x256_512_0, shapeCast S256x256 suf0 shapeCasts_S256x256_S256x256⟩,
     ⟨Rect.unit ![256, 0] S256x256.size inb_S768x256_S256x256_256_0, shapeCast S256x256 suf0 shapeCasts_S256x256_S256x256⟩,
     ⟨Rect.unit ![0, 0] S256x256.size inb_S768x256_S256x256_0_0, shapeCast S256x256 suf0 shapeCasts_S256x256_S256x256⟩]

end Cert.KernelWIdeal.Work
-- ==== Proof.Words.Read.lean ====
module

public import proofs.«01_k».proof.Defs
public import proofs.«01_k».proof.Proof.Gen.KernelWIdeal.Frame
public import proofs.«01_k».proof.Proof.Words.Pair
public import Idealize.ShloMosaic.Lib.Pipeline.ValueKit
public import Idealize.ShloMosaic.Lib.Pipeline.ReadBack
public import Idealize.ShloMosaic.Lib.Pointwise

@[expose] public section

set_option maxRecDepth 16384
set_option maxHeartbeats 0

noncomputable section

open Idealize.ShloMosaic Idealize.ShloMosaic.TcCoe Idealize.SL.Sem
open Idealize.ShloMosaic.Pipeline (Dat)

namespace Cert.KernelWIdeal.Work

open Cert.KernelWIdeal Cert.KernelWIdeal.Gen

variable (m : (ℓ : Loc nD τ sig) → Buf (Elt Ideal) ℓ)

/-- The sign of 64. -/
theorem sign64 : Scalar.subi (Scalar.extui (Scalar.cmpi .sgt 64#32 0#32)) (Scalar.extui (Scalar.cmpi .slt 64#32 0#32)) = 1#32 := rfl

/-- A load of the whole stacked triangle, after stores into it. -/
theorem readCov_tri (v : View sig .tc .vmem S768x256 .bf16) (L : List (View.Piece (Elt Ideal) S768x256 .bf16)) (inb) :
    v.readCov L (Rect.unit ![0, 0] (no_index S768x256.size) inb).toLoadRect = View.canon L := by
  rw [View.readCov_eq_canon']
  funext j
  congr 1
  funext a
  apply Fin.ext
  match a with
  | 0 => show 0 + 1 * (j 0).val = _; omega
  | 1 => show 0 + 1 * (j 1).val = _; omega

/-- A load of a group's columns, after stores of pairs. -/
theorem readCov_slab (v : View sig .tc .vmem S1x1x192x1024 .f32) (L : List (View.Piece (Elt Ideal) S1x1x192x1024 .f32)) {off : Fin 4 → ℕ} (inb) :
    v.readCov L (Rect.unit (s := S1x1x192x1024) off (no_index S1x1x192x256.size) inb).toLoadRect =
      View.ld (View.canon L) (Rect.unit (s := S1x1x192x1024) off S1x1x192x256.size inb) := by
  rw [View.readCov_eq_canon']

/-- What the block at point `t` reads, the stacked triangles being `T` and `T'`. -/
def blkIn (c : Dev nD) (t : Fin cfg0.N) (T T' : Vec Ideal S768x256 .bf16) : BlkIn where
  i := grid0.coords t
  qs := iblk m c 0 t
  ks := iblk m c 1 t
  vs := iblk m c 2 t
  q := iblk m c 3 t
  k := iblk m c 4 t
  v := iblk m c 5 t
  o := iblk m c 6 t
  ds := iblk m c 7 t
  g := iblk m c 8 t
  tri := T
  suf := T'

/-- A point that builds the triangle writes, to `dg`, its pieces computed with the triangles it builds. -/
theorem outs_first (c : Dev nD) (t : Fin cfg0.N) (h0 : t.val % 12 = 0) :
    (outsAt0 m c t.val t.isLt).2.2.2.1 = View.canon (blkIn m c t triStack sufStack).dgPieces := by
  rw [outsAt0_A m c t h0]
  dsimp only [blkIn]
  generalize (iblk m c 0 t : Vec Ideal S6x2x16 .f32) = x0
  generalize (iblk m c 1 t : Vec Ideal S6x2x16 .f32) = x1
  generalize (iblk m c 2 t : Vec Ideal S6x2x16 .f32) = x2
  generalize (iblk m c 3 t : Vec Ideal S1x1x192x1024 .fp8e4m3) = x3
  generalize (iblk m c 4 t : Vec Ideal S1x1x192x1024 .fp8e4m3) = x4
  generalize (iblk m c 5 t : Vec Ideal S1x1x1024x384 .fp8e4m3) = x5
  generalize (iblk m c 6 t : Vec Ideal S1x1x1024x384 .fp8e5m2) = x6
  generalize (iblk m c 7 t : Vec Ideal S1x12x2x1024 .f32) = x7
  generalize (iblk m c 8 t : Vec Ideal S1x1x192x1024 .f32) = x8
  frame_open
  ( simp (disch := decide) only [↓ View.readCov_skip, ↓ View.readCov_cons_toLoadRect]
    frame_out
    simp only [readCov_tri, readCov_slab,
      BlkIn.ld_ds (k0_off1_eq _) x7, BlkIn.ld_sc_apply 0 (k0_off2_eq _) x0, BlkIn.ld_sc_apply 0 (k0_off2_eq _) x1, BlkIn.ld_sc_apply 0
      (k0_off2_eq _) x2, BlkIn.ld_sc_apply 1 (k0_off3_eq _) x0, BlkIn.ld_sc_apply 1 (k0_off3_eq _) x1, BlkIn.ld_sc_apply 1 (k0_off3_eq _)
      x2, BlkIn.ld_sc_apply 2 (k0_off4_eq _) x0, BlkIn.ld_sc_apply 2 (k0_off4_eq _) x1, BlkIn.ld_sc_apply 2 (k0_off4_eq _) x2,
      BlkIn.ld_sc_apply 3 (k0_off5_eq _) x0, BlkIn.ld_sc_apply 3 (k0_off5_eq _) x1, BlkIn.ld_sc_apply 3 (k0_off5_eq _) x2, BlkIn.ld_sc_apply
      4 (k0_off6_eq _) x0, BlkIn.ld_sc_apply 4 (k0_off6_eq _) x1, BlkIn.ld_sc_apply 4 (k0_off6_eq _) x2, BlkIn.ld_sc_apply 5 (k0_off7_eq _)
      x0, BlkIn.ld_sc_apply 5 (k0_off7_eq _) x1, BlkIn.ld_sc_apply 5 (k0_off7_eq _) x2, BlkIn.ld_sc_apply 6 (k0_off8_eq _) x0,
      BlkIn.ld_sc_apply 6 (k0_off8_eq _) x1, BlkIn.ld_sc_apply 6 (k0_off8_eq _) x2, BlkIn.ld_sc_apply 7 (k0_off9_eq _) x0, BlkIn.ld_sc_apply
      7 (k0_off9_eq _) x1, BlkIn.ld_sc_apply 7 (k0_off9_eq _) x2, BlkIn.ld_sc_apply 8 (k0_off10_eq _) x0, BlkIn.ld_sc_apply 8 (k0_off10_eq
      _) x1, BlkIn.ld_sc_apply 8 (k0_off10_eq _) x2, BlkIn.ld_sc_apply 9 (k0_off11_eq _) x0, BlkIn.ld_sc_apply 9 (k0_off11_eq _) x1,
      BlkIn.ld_sc_apply 9 (k0_off11_eq _) x2, BlkIn.ld_sc_apply 10 (k0_off12_eq _) x0, BlkIn.ld_sc_apply 10 (k0_off12_eq _) x1,
      BlkIn.ld_sc_apply 10 (k0_off12_eq _) x2, BlkIn.ld_sc_apply 11 (k0_off13_eq _) x0, BlkIn.ld_sc_apply 11 (k0_off13_eq _) x1,
      BlkIn.ld_sc_apply 11 (k0_off13_eq _) x2, BlkIn.ld_sc_apply 12 (k0_off14_eq _) x0, BlkIn.ld_sc_apply 12 (k0_off14_eq _) x1,
      BlkIn.ld_sc_apply 12 (k0_off14_eq _) x2, BlkIn.ld_sc_apply 13 (k0_off15_eq _) x0, BlkIn.ld_sc_apply 13 (k0_off15_eq _) x1,
      BlkIn.ld_sc_apply 13 (k0_off15_eq _) x2, BlkIn.ld_sc_apply 14 (k0_off16_eq _) x0, BlkIn.ld_sc_apply 14 (k0_off16_eq _) x1,
      BlkIn.ld_sc_apply 14 (k0_off16_eq _) x2, BlkIn.ld_sc_apply 15 (k0_off17_eq _) x0, BlkIn.ld_sc_apply 15 (k0_off17_eq _) x1,
      BlkIn.ld_sc_apply 15 (k0_off17_eq _) x2]
    dsimp only [
      k0_pay1, k0_pay2, k0_pay3, k0_pay4, k0_pay5, k0_pay6, k0_pay7, k0_pay8, k0_pay9, k0_pay10, k0_pay11, k0_pay12, k0_pay13, k0_pay21,
      k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437,
      PairIn.end1, PairIn.end2, PairIn.d1, PairIn.d2, PairIn.es, PairIn.en, PairIn.ee, PairIn.row, PairIn.vrow, PairIn.qf, PairIn.kf,
      PairIn.qg, PairIn.kg, PairIn.kd, PairIn.kdv, PairIn.eev, PairIn.kdt, PairIn.vf, PairIn.v2, PairIn.dt, PairIn.d2t, PairIn.at0,
      PairIn.at_, PairIn.intra, PairIn.dki, PairIn.pt, PairIn.u, PairIn.mid, PairIn.next, PairIn.dq, PairIn.dqOut, PairIn.qdq, PairIn.w,
      PairIn.midB, PairIn.nextB, PairIn.dk, PairIn.dkOut, PairIn.dv, PairIn.dvOut, PairIn.dbOut, sums, BlkIn.fwd, BlkIn.bwd, BlkIn.pair,
      blkIn, BlkIn.dgPieces, BlkIn.dg0, BlkIn.dg1, BlkIn.dg2, BlkIn.dg3, BlkIn.head, BlkIn.dgSum, BlkIn.dbSome,
      List.map, triStack, tri0, sufStack, suf0, causal,
      Nat.reduceMul, Nat.reduceMod, Nat.reduceDiv, Nat.reduceAdd, Nat.reduceSub, sign64])

/-- Such a point leaves the triangle in the first scratch buffer. -/
theorem tri_first (c : Dev nD) (t : Fin cfg0.N) (h0 : t.val % 12 = 0) :
    (outsAt0 m c t.val t.isLt).2.2.2.2.2.1 = triStack := by
  rw [outsAt0_A m c t h0]
  frame_open
  frame_out
  dsimp only [triStack, tri0, k0_pay6, k0_pay3, k0_pay4, k0_pay5, sign64]
  rfl

/-- The triangle the point before `t` left. -/
def triBefore (c : Dev nD) (t : Fin cfg0.N) : Vec Ideal S768x256 .bf16 :=
  (outsAt0 m c (t.val - 1) (Nat.lt_of_le_of_lt (Nat.sub_le _ _) t.isLt)).2.2.2.2.2.1

/-- Such a point leaves the whole triangle in the second. -/
theorem suf_first (c : Dev nD) (t : Fin cfg0.N) (h0 : t.val % 12 = 0) :
    (outsAt0 m c t.val t.isLt).2.2.2.2.2.2 = sufStack := by
  rw [outsAt0_A m c t h0]
  frame_open
  frame_out
  dsimp only [sufStack, suf0, k0_pay7]
  rfl

/-- The whole triangle the point before `t` left. -/
def sufBefore (c : Dev nD) (t : Fin cfg0.N) : Vec Ideal S768x256 .bf16 :=
  (outsAt0 m c (t.val - 1) (Nat.lt_of_le_of_lt (Nat.sub_le _ _) t.isLt)).2.2.2.2.2.2

/-- Every other point writes the same pieces, computed with the triangles it was handed. -/
theorem outs_later (c : Dev nD) (t : Fin cfg0.N) (h0 : ¬ t.val % 12 = 0) :
    (outsAt0 m c t.val t.isLt).2.2.2.1 = View.canon (blkIn m c t (triBefore m c t) (sufBefore m c t)).dgPieces := by
  rw [outsAt0_B m c t h0]
  unfold triBefore sufBefore
  generalize (outsAt0 m c (t.val - 1) (Nat.lt_of_le_of_lt (Nat.sub_le _ _) t.isLt)).2.2.2.2.2.1 = T
  generalize (outsAt0 m c (t.val - 1) (Nat.lt_of_le_of_lt (Nat.sub_le _ _) t.isLt)).2.2.2.2.2.2 = T'
  dsimp only [blkIn]
  generalize (iblk m c 0 t : Vec Ideal S6x2x16 .f32) = x0
  generalize (iblk m c 1 t : Vec Ideal S6x2x16 .f32) = x1
  generalize (iblk m c 2 t : Vec Ideal S6x2x16 .f32) = x2
  generalize (iblk m c 3 t : Vec Ideal S1x1x192x1024 .fp8e4m3) = x3
  generalize (iblk m c 4 t : Vec Ideal S1x1x192x1024 .fp8e4m3) = x4
  generalize (iblk m c 5 t : Vec Ideal S1x1x1024x384 .fp8e4m3) = x5
  generalize (iblk m c 6 t : Vec Ideal S1x1x1024x384 .fp8e5m2) = x6
  generalize (iblk m c 7 t : Vec Ideal S1x12x2x1024 .f32) = x7
  generalize (iblk m c 8 t : Vec Ideal S1x1x192x1024 .f32) = x8
  frame_open
  ( simp (disch := decide) only [↓ View.readCov_skip, ↓ View.readCov_cons_toLoadRect]
    frame_out
    simp only [read_unread_whole, readCov_slab,
      BlkIn.ld_ds (k0_off1_eq _) x7, BlkIn.ld_sc_apply 0 (k0_off2_eq _) x0, BlkIn.ld_sc_apply 0 (k0_off2_eq _) x1, BlkIn.ld_sc_apply 0
      (k0_off2_eq _) x2, BlkIn.ld_sc_apply 1 (k0_off3_eq _) x0, BlkIn.ld_sc_apply 1 (k0_off3_eq _) x1, BlkIn.ld_sc_apply 1 (k0_off3_eq _)
      x2, BlkIn.ld_sc_apply 2 (k0_off4_eq _) x0, BlkIn.ld_sc_apply 2 (k0_off4_eq _) x1, BlkIn.ld_sc_apply 2 (k0_off4_eq _) x2,
      BlkIn.ld_sc_apply 3 (k0_off5_eq _) x0, BlkIn.ld_sc_apply 3 (k0_off5_eq _) x1, BlkIn.ld_sc_apply 3 (k0_off5_eq _) x2, BlkIn.ld_sc_apply
      4 (k0_off6_eq _) x0, BlkIn.ld_sc_apply 4 (k0_off6_eq _) x1, BlkIn.ld_sc_apply 4 (k0_off6_eq _) x2, BlkIn.ld_sc_apply 5 (k0_off7_eq _)
      x0, BlkIn.ld_sc_apply 5 (k0_off7_eq _) x1, BlkIn.ld_sc_apply 5 (k0_off7_eq _) x2, BlkIn.ld_sc_apply 6 (k0_off8_eq _) x0,
      BlkIn.ld_sc_apply 6 (k0_off8_eq _) x1, BlkIn.ld_sc_apply 6 (k0_off8_eq _) x2, BlkIn.ld_sc_apply 7 (k0_off9_eq _) x0, BlkIn.ld_sc_apply
      7 (k0_off9_eq _) x1, BlkIn.ld_sc_apply 7 (k0_off9_eq _) x2, BlkIn.ld_sc_apply 8 (k0_off10_eq _) x0, BlkIn.ld_sc_apply 8 (k0_off10_eq
      _) x1, BlkIn.ld_sc_apply 8 (k0_off10_eq _) x2, BlkIn.ld_sc_apply 9 (k0_off11_eq _) x0, BlkIn.ld_sc_apply 9 (k0_off11_eq _) x1,
      BlkIn.ld_sc_apply 9 (k0_off11_eq _) x2, BlkIn.ld_sc_apply 10 (k0_off12_eq _) x0, BlkIn.ld_sc_apply 10 (k0_off12_eq _) x1,
      BlkIn.ld_sc_apply 10 (k0_off12_eq _) x2, BlkIn.ld_sc_apply 11 (k0_off13_eq _) x0, BlkIn.ld_sc_apply 11 (k0_off13_eq _) x1,
      BlkIn.ld_sc_apply 11 (k0_off13_eq _) x2, BlkIn.ld_sc_apply 12 (k0_off14_eq _) x0, BlkIn.ld_sc_apply 12 (k0_off14_eq _) x1,
      BlkIn.ld_sc_apply 12 (k0_off14_eq _) x2, BlkIn.ld_sc_apply 13 (k0_off15_eq _) x0, BlkIn.ld_sc_apply 13 (k0_off15_eq _) x1,
      BlkIn.ld_sc_apply 13 (k0_off15_eq _) x2, BlkIn.ld_sc_apply 14 (k0_off16_eq _) x0, BlkIn.ld_sc_apply 14 (k0_off16_eq _) x1,
      BlkIn.ld_sc_apply 14 (k0_off16_eq _) x2, BlkIn.ld_sc_apply 15 (k0_off17_eq _) x0, BlkIn.ld_sc_apply 15 (k0_off17_eq _) x1,
      BlkIn.ld_sc_apply 15 (k0_off17_eq _) x2]
    dsimp only [
      k0_pay1, k0_pay2, k0_pay3, k0_pay4, k0_pay5, k0_pay6, k0_pay7, k0_pay8, k0_pay9, k0_pay10, k0_pay11, k0_pay12, k0_pay13, k0_pay21,
      k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437,
      PairIn.end1, PairIn.end2, PairIn.d1, PairIn.d2, PairIn.es, PairIn.en, PairIn.ee, PairIn.row, PairIn.vrow, PairIn.qf, PairIn.kf,
      PairIn.qg, PairIn.kg, PairIn.kd, PairIn.kdv, PairIn.eev, PairIn.kdt, PairIn.vf, PairIn.v2, PairIn.dt, PairIn.d2t, PairIn.at0,
      PairIn.at_, PairIn.intra, PairIn.dki, PairIn.pt, PairIn.u, PairIn.mid, PairIn.next, PairIn.dq, PairIn.dqOut, PairIn.qdq, PairIn.w,
      PairIn.midB, PairIn.nextB, PairIn.dk, PairIn.dkOut, PairIn.dv, PairIn.dvOut, PairIn.dbOut, sums, BlkIn.fwd, BlkIn.bwd, BlkIn.pair,
      blkIn, BlkIn.dgPieces, BlkIn.dg0, BlkIn.dg1, BlkIn.dg2, BlkIn.dg3, BlkIn.head, BlkIn.dgSum, BlkIn.dbSome,
      List.map, triStack, tri0, sufStack, suf0, causal,
      Nat.reduceMul, Nat.reduceMod, Nat.reduceDiv, Nat.reduceAdd, Nat.reduceSub, sign64])

/-- Every other point leaves the triangle as it was. -/
theorem tri_later (c : Dev nD) (t : Fin cfg0.N) (h0 : ¬ t.val % 12 = 0) :
    (outsAt0 m c t.val t.isLt).2.2.2.2.2.1 = triBefore m c t := by
  rw [outsAt0_B m c t h0]
  unfold triBefore
  generalize (outsAt0 m c (t.val - 1) (Nat.lt_of_le_of_lt (Nat.sub_le _ _) t.isLt)).2.2.2.2.2.1 = T
  generalize (outsAt0 m c (t.val - 1) (Nat.lt_of_le_of_lt (Nat.sub_le _ _) t.isLt)).2.2.2.2.2.2 = T'
  rfl

/-- At every point the triangle at hand is the stacked triangle. -/
theorem tri_all (c : Dev nD) : ∀ (n : ℕ) (hn : n < cfg0.N), (outsAt0 m c n hn).2.2.2.2.2.1 = triStack
  | 0, hn => tri_first m c ⟨0, hn⟩ rfl
  | n + 1, hn => by
    by_cases h0 : (n + 1) % 12 = 0
    · exact tri_first m c ⟨n + 1, hn⟩ h0
    · exact (tri_later m c ⟨n + 1, hn⟩ h0).trans (tri_all c n (Nat.lt_of_succ_lt hn))

/-- Every other point leaves the whole triangle as it was. -/
theorem suf_later (c : Dev nD) (t : Fin cfg0.N) (h0 : ¬ t.val % 12 = 0) :
    (outsAt0 m c t.val t.isLt).2.2.2.2.2.2 = sufBefore m c t := by
  rw [outsAt0_B m c t h0]
  unfold sufBefore
  generalize (outsAt0 m c (t.val - 1) (Nat.lt_of_le_of_lt (Nat.sub_le _ _) t.isLt)).2.2.2.2.2.1 = T
  generalize (outsAt0 m c (t.val - 1) (Nat.lt_of_le_of_lt (Nat.sub_le _ _) t.isLt)).2.2.2.2.2.2 = T'
  rfl

/-- At every point the whole triangle at hand is the stacked one. -/
theorem suf_all (c : Dev nD) : ∀ (n : ℕ) (hn : n < cfg0.N), (outsAt0 m c n hn).2.2.2.2.2.2 = sufStack
  | 0, hn => suf_first m c ⟨0, hn⟩ rfl
  | n + 1, hn => by
    by_cases h0 : (n + 1) % 12 = 0
    · exact suf_first m c ⟨n + 1, hn⟩ h0
    · exact (suf_later m c ⟨n + 1, hn⟩ h0).trans (suf_all c n (Nat.lt_of_succ_lt hn))

/-- What every point writes to `dg`. -/
theorem outs_all (c : Dev nD) (t : Fin cfg0.N) :
    (outsAt0 m c t.val t.isLt).2.2.2.1 = View.canon (blkIn m c t triStack sufStack).dgPieces := by
  by_cases h0 : t.val % 12 = 0
  · exact outs_first m c t h0
  · have h := outs_later m c t h0
    have hT : triBefore m c t = triStack := tri_all m c _ _
    have hT' : sufBefore m c t = sufStack := suf_all m c _ _
    rw [hT, hT'] at h
    exact h

end Cert.KernelWIdeal.Work
-- ==== Proof.Words.Sums.lean ====
/- The gradient of the gates, and finiteness: where every argument is a finite number the gradient of the gates' sums is. -/
module

public import proofs.«01_k».proof.Proof.Maths

@[expose] public section

noncomputable section

open Idealize.ShloMosaic

namespace Cert.Maths

/-- The gradient of the gates: the sums' gradients from the token on. -/
def Blk.dg (M : Blk) (t : Fin 1024) (c : Fin 192) : EReal := ∑ s : Fin 1024, if t.val ≤ s.val then M.db (hi s) (low s) c else 0

/-- The gradient of the gates, for all batches and heads. -/
def Args.dg (A : Args) : (⟨4, ![2, 1024, 6, 192]⟩ : Shape).Idx → EReal := fun y => (A.blk (y 0) (y 2)).dg (y 1) (y 3)

/-- Words read as numbers of the e4m3 format. -/
def e4m3 {s : Shape} (w : s.Idx → BitVec 8) : s.Idx → EReal := fun y => Ideal.ofBits .fp8e4m3 (w y)
/-- Words read as numbers of the e5m2 format. -/
def e5m2 {s : Shape} (w : s.Idx → BitVec 8) : s.Idx → EReal := fun y => Ideal.ofBits .fp8e5m2 (w y)

/-- A finite number. -/
def Fine (x : EReal) : Prop := ∃ r : ℝ, x = r

/-- A finite number is below plus infinity. -/
theorem Fine.lt_top {x : EReal} (h : Fine x) : x < ⊤ := by obtain ⟨r, rfl⟩ := h; exact EReal.coe_lt_top r
/-- Neither infinity makes a finite number. -/
theorem fine_of {x : EReal} (h1 : ⊥ < x) (h2 : x < ⊤) : Fine x := ⟨x.toReal, (EReal.coe_toReal h2.ne h1.ne').symm⟩
/-- Zero is finite. -/
theorem fine_zero : Fine 0 := ⟨0, rfl⟩
/-- Sums of two. -/
theorem Fine.add {x y : EReal} (hx : Fine x) (hy : Fine y) : Fine (x + y) := by
  obtain ⟨a, rfl⟩ := hx; obtain ⟨b, rfl⟩ := hy; exact ⟨a + b, (EReal.coe_add a b).symm⟩
/-- Differences. -/
theorem Fine.sub {x y : EReal} (hx : Fine x) (hy : Fine y) : Fine (x - y) := by
  obtain ⟨a, rfl⟩ := hx; obtain ⟨b, rfl⟩ := hy; exact ⟨a - b, (EReal.coe_sub a b).symm⟩
/-- Negations. -/
theorem Fine.neg {x : EReal} (hx : Fine x) : Fine (-x) := by
  obtain ⟨a, rfl⟩ := hx; exact ⟨-a, (EReal.coe_neg a).symm⟩
/-- Products. -/
theorem Fine.mul {x y : EReal} (hx : Fine x) (hy : Fine y) : Fine (x * y) := by
  obtain ⟨a, rfl⟩ := hx; obtain ⟨b, rfl⟩ := hy; exact ⟨a * b, (EReal.coe_mul a b).symm⟩
/-- Exponentials. -/
theorem Fine.exp {x : EReal} (hx : Fine x) : Fine (Ideal.exp x) := by
  obtain ⟨a, rfl⟩ := hx; exact ⟨Real.exp a, rfl⟩
/-- Finite sums. -/
theorem fine_sum {ι : Type} (s : Finset ι) (f : ι → EReal) (h : ∀ i, Fine (f i)) : Fine (∑ i ∈ s, f i) := by
  classical
  induction s using Finset.induction_on with
  | empty => exact fine_zero
  | insert a s ha ih => rw [Finset.sum_insert ha]; exact (h a).add ih
/-- A finite factor moves out of a sum of finite numbers. -/
theorem sum_mul_of_fine {ι : Type} (s : Finset ι) (f : ι → EReal) (y : EReal) (hf : ∀ j, Fine (f j)) (hy : Fine y) :
    (∑ j ∈ s, f j) * y = ∑ j ∈ s, f j * y := by
  classical
  induction s using Finset.induction_on with
  | empty => simp
  | insert a s ha ih =>
    rw [Finset.sum_insert ha, Finset.sum_insert ha, ← ih]
    obtain ⟨p, hp⟩ := hf a
    obtain ⟨q, hq⟩ := fine_sum s f hf
    obtain ⟨r, rfl⟩ := hy
    rw [hp, hq, ← EReal.coe_add, ← EReal.coe_mul, ← EReal.coe_mul, ← EReal.coe_mul, ← EReal.coe_add, add_mul]
/-- Choices against zero. -/
theorem Fine.ite {p : Prop} [Decidable p] {x : EReal} (h : Fine x) : Fine (if p then x else 0) := by
  split
  · exact h
  · exact fine_zero
/-- The queries' scale is finite. -/
theorem fine_scale : Fine scale := by
  unfold scale
  norm_num [Ideal.ofBits, Ideal.ieee]
  exact ⟨_, rfl⟩

namespace Blk

/-- Everything a block reads is finite. -/
structure Fin_ (M : Blk) : Prop where
  q : ∀ n i c, Fine (M.q n i c)
  k : ∀ n i c, Fine (M.k n i c)
  g : ∀ n i c, Fine (M.g n i c)
  v : ∀ n i e, Fine (M.v n i e)
  d : ∀ n i e, Fine (M.d n i e)
  vs : ∀ n, Fine (M.vs n)

namespace Fin_

variable {M : Blk} (h : Fin_ M)
include h

/-- The gates' running sums. -/
theorem B (n : ℕ) (i : Fin 64) (c : Fin 192) : Fine (M.B n i c) := fine_sum _ _ fun t => (h.g n t c).ite
/-- The gates' sums. -/
theorem E (n : ℕ) (c : Fin 192) : Fine (M.E n c) := h.B n 63 c
/-- The grown queries. -/
theorem qg (n : ℕ) (i : Fin 64) (c : Fin 192) : Fine (M.qg n i c) := (fine_scale.mul (h.q n i c)).mul (h.B n i c).exp
/-- The shrunk keys. -/
theorem kg (n : ℕ) (i : Fin 64) (c : Fin 192) : Fine (M.kg n i c) := (h.k n i c).mul (h.B n i c).neg.exp
/-- The decayed keys. -/
theorem kd (n : ℕ) (i : Fin 64) (c : Fin 192) : Fine (M.kd n i c) := (h.k n i c).mul ((h.E n c).sub (h.B n i c)).exp
/-- The gradient of the scores. -/
theorem a (n : ℕ) (i j : Fin 64) : Fine (M.a n i j) := ((fine_sum _ _ fun e => (h.d n i e).mul (h.v n j e)).mul (h.vs n)).ite
/-- What a chunk adds to the state. -/
theorem u (n : ℕ) (c : Fin 192) (e : Fin 384) : Fine (M.u n c e) := (fine_sum _ _ fun j => (h.kd n j c).mul (h.v n j e)).mul (h.vs n)
/-- What a chunk adds to the state's gradient. -/
theorem w (n : ℕ) (c : Fin 192) (e : Fin 384) : Fine (M.w n c e) := fine_sum _ _ fun i => (h.qg n i c).mul (h.d n i e)
/-- The states. -/
theorem S (n : ℕ) (c : Fin 192) (e : Fin 384) : Fine (M.S n c e) := by
  induction n with
  | zero => exact fine_zero
  | succ n ih => exact ((h.E n c).exp.mul ih).add (h.u n c e)
/-- The state gradients. -/
theorem R (n : ℕ) (c : Fin 192) (e : Fin 384) : Fine (M.R n c e) := by
  induction n with
  | zero => exact fine_zero
  | succ n ih => exact ((h.E _ c).exp.mul ih).add (h.w _ c e)
/-- The gradient of the queries. -/
theorem dq (n : ℕ) (i : Fin 64) (c : Fin 192) : Fine (M.dq n i c) :=
  (fine_scale.mul (h.B n i c).exp).mul ((fine_sum _ _ fun e => (h.d n i e).mul (h.S n c e)).add (fine_sum _ _ fun j => (h.a n i j).mul (h.kg n j c)))
/-- The gradient of the keys. -/
theorem dk (n : ℕ) (j : Fin 64) (c : Fin 192) : Fine (M.dk n j c) :=
  (((h.E n c).sub (h.B n j c)).exp.mul ((h.vs n).mul (fine_sum _ _ fun e => (h.v n j e).mul (h.R (15 - n) c e)))).add
    ((h.B n j c).neg.exp.mul (fine_sum _ _ fun i => (h.a n i j).mul (h.qg n i c)))
/-- The gradient of the gates' sums. -/
theorem db (n : ℕ) (i : Fin 64) (c : Fin 192) : Fine (M.db n i c) := ((h.q n i c).mul (h.dq n i c)).sub ((h.k n i c).mul (h.dk n i c))

end Fin_
end Blk

/-- Every argument is finite. -/
structure Args.Fin_ (A : Args) : Prop where
  q : ∀ y, Fine (A.q y)
  k : ∀ y, Fine (A.k y)
  qs : ∀ y, Fine (A.qs y)
  ks : ∀ y, Fine (A.ks y)
  v : ∀ y, Fine (A.v y)
  vs : ∀ y, Fine (A.vs y)
  o : ∀ y, Fine (A.o y)
  ds : ∀ y, Fine (A.ds y)
  g : ∀ y, Fine (A.g y)

/-- Then so is everything a block reads. -/
theorem Args.Fin_.blk {A : Args} (h : A.Fin_) (b : Fin 2) (p : Fin 6) : (A.blk b p).Fin_ where
  q _ _ _ := (h.q _).mul (h.qs _)
  k _ _ _ := (h.k _).mul (h.ks _)
  g _ _ _ := h.g _
  v _ _ _ := h.v _
  d _ _ _ := (h.o _).mul (h.ds _)
  vs _ := h.vs _

/-- A sum over 1024 tokens from token `256 k + i` on: the group's own and the later groups'. -/
theorem sum_from (f : Fin 1024 → EReal) (k : ℕ) (hk : k < 4) (i : Fin 256) :
    (∑ s : Fin 1024, if 256 * k + i.val ≤ s.val then f s else 0)
      = (∑ s : Fin 256, if i.val ≤ s.val then f ⟨256 * k + s.val, by omega⟩ else 0)
        + ∑ s : Fin 1024, if 256 * (k + 1) ≤ s.val then f s else 0 := by
  have e : ∀ s : Fin 1024, (if 256 * k + i.val ≤ s.val then f s else 0)
      = (if 256 * k + i.val ≤ s.val ∧ s.val < 256 * (k + 1) then f s else 0) + if 256 * (k + 1) ≤ s.val then f s else 0 := fun s => by
    have hi := i.isLt
    by_cases h1 : 256 * k + i.val ≤ s.val <;> by_cases h2 : 256 * (k + 1) ≤ s.val
    · rw [if_pos h1, if_pos h2, if_neg (by omega), zero_add]
    · rw [if_pos h1, if_neg h2, if_pos (by omega), add_zero]
    · omega
    · rw [if_neg h1, if_neg h2, if_neg (by omega), zero_add]
  rw [Finset.sum_congr rfl fun s _ => e s, Finset.sum_add_distrib]
  refine congrArg (· + _) ?_
  rw [← Finset.sum_filter, ← Finset.sum_filter]
  refine Finset.sum_bij' (fun s _ => ⟨(s.val - 256 * k) % 256, by omega⟩) (fun s _ => ⟨256 * k + s.val, by omega⟩) ?_ ?_ ?_ ?_ ?_
  · intro s hs
    rw [Finset.mem_filter] at hs ⊢
    exact ⟨Finset.mem_univ _, by show i.val ≤ (s.val - 256 * k) % 256; omega⟩
  · intro s hs
    rw [Finset.mem_filter] at hs ⊢
    exact ⟨Finset.mem_univ _, by show 256 * k + i.val ≤ 256 * k + s.val ∧ 256 * k + s.val < 256 * (k + 1); omega⟩
  · intro s hs
    rw [Finset.mem_filter] at hs
    exact Fin.ext (by show 256 * k + (s.val - 256 * k) % 256 = s.val; omega)
  · intro s hs
    exact Fin.ext (by show (256 * k + s.val - 256 * k) % 256 = s.val; omega)
  · intro s hs
    rw [Finset.mem_filter] at hs
    exact congrArg f (Fin.ext (by show s.val = 256 * k + (s.val - 256 * k) % 256; omega))

end Cert.Maths
-- ==== Proof.Words.PairAt.lean ====
/- What one pair of chunks computes, entry by entry: the block's mathematics at the pair's two chunks. -/
module

public import proofs.«01_k».proof.Defs
public import proofs.«01_k».proof.Proof.Words.Pair
public import proofs.«01_k».proof.Proof.Words.Sums
public import Idealize.ShloMosaic.Lib.Pointwise

@[expose] public section

set_option maxRecDepth 16384

noncomputable section

open Idealize.ShloMosaic Idealize.ShloMosaic.TcCoe Idealize.SL.Sem

namespace Cert.KernelWIdeal.Work

open Cert.KernelWIdeal Cert.KernelWIdeal.Gen Cert.Maths

/-- A pair's token within its chunk. -/
def lo (s : Fin 128) : Fin 64 := ⟨s.val % 64, Nat.mod_lt _ (by decide)⟩

/-- The mask of the first chunk, at a column. -/
theorem first_at (s : Fin 128) : (k0_pay14 (ix2 0 s) : BitVec 1) = if s.val < 64 then 1#1 else 0#1 := by
  pointwise [k0_pay14]
  revert s
  decide +kernel

/-- A choice by the mask of the first chunk. -/
theorem select_first {α : Type} (s : Fin 128) (a b : α) :
    Scalar.select (k0_pay14 (ix2 0 s)) a b = if s.val < 64 then a else b := by
  rw [first_at]
  split <;> rfl

/-- The quotient of an index by 64, rounded down, as the programs compute it. -/
theorem floor64 : ∀ n : Fin 256, Scalar.select
    (IntOp.andi
      (IntOp.cmpi CmpIPredicate.ne
        (IntOp.subi (BitVec.setWidth 32 (IntOp.cmpi .sgt (BitVec.ofNat 32 n.val) 0#32)) (BitVec.setWidth 32 (IntOp.cmpi .slt (BitVec.ofNat 32 n.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 n.val) 64#32) 0#32))
    (IntOp.subi (IntOp.divsi ArithUnit.vector (BitVec.ofNat 32 n.val) 64#32) 1#32)
    (IntOp.divsi ArithUnit.vector (BitVec.ofNat 32 n.val) 64#32) = BitVec.ofNat 32 (n.val / 64) := by
  decide +kernel

/-- Small words read as themselves. -/
theorem toInt_small : ∀ n : Fin 256, (BitVec.ofNat 32 n.val).toInt = n.val := by decide +kernel

/-- Comparison of two small words, at most. -/
theorem le_at (s t : Fin 256) :
    IntOp.cmpi CmpIPredicate.sle (BitVec.ofNat 32 s.val) (BitVec.ofNat 32 t.val) = if s.val ≤ t.val then 1#1 else 0#1 := by
  show BitVec.ofBool (BitVec.sle _ _) = _
  unfold BitVec.sle
  rw [toInt_small, toInt_small]
  by_cases h : s.val ≤ t.val <;> simp [h]

/-- Comparison of two small words, at least. -/
theorem ge_at (s t : Fin 256) :
    IntOp.cmpi CmpIPredicate.sge (BitVec.ofNat 32 t.val) (BitVec.ofNat 32 s.val) = if s.val ≤ t.val then 1#1 else 0#1 :=
  le_at s t

/-- Comparison of two small words, equality. -/
theorem eq_at (s t : Fin 256) :
    IntOp.cmpi CmpIPredicate.eq (BitVec.ofNat 32 (s.val / 64)) (BitVec.ofNat 32 (t.val / 64))
      = if s.val / 64 = t.val / 64 then 1#1 else 0#1 := by
  have h1 := toInt_small ⟨s.val / 64, by omega⟩
  have h2 := toInt_small ⟨t.val / 64, by omega⟩
  show BitVec.ofBool (_ == _) = _
  by_cases h : s.val / 64 = t.val / 64
  · simp [h]
  · rw [if_neg h, beq_eq_false_iff_ne.mpr]; rfl
    intro h'
    rw [h'] at h1
    apply h
    have := h1.symm.trans h2
    exact_mod_cast this

/-- The mask of a pair's scores: same chunk and not later. -/
theorem causal_at (s t : Fin 128) :
    (causal (ix2 s t) : BitVec 1) = if s.val / 64 = t.val / 64 ∧ s.val ≤ t.val then 1#1 else 0#1 := by
  pointwise [causal, k0_pay20, k0_pay15, k0_pay16, k0_pay17, k0_pay18, k0_pay19]
  rw [floor64 ⟨t.val, by omega⟩, floor64 ⟨s.val, by omega⟩, eq_at ⟨t.val, by omega⟩ ⟨s.val, by omega⟩,
    ge_at ⟨s.val, by omega⟩ ⟨t.val, by omega⟩]
  by_cases h1 : s.val / 64 = t.val / 64 <;> by_cases h2 : s.val ≤ t.val <;> simp [h1, h2, Ne.symm, eq_comm] <;> rfl

/-- A choice by that mask. -/
theorem select_causal {α : Type} (s t : Fin 128) (a b : α) :
    Scalar.select (causal (ix2 s t)) a b = if s.val / 64 = t.val / 64 ∧ s.val ≤ t.val then a else b := by
  rw [causal_at]
  split <;> rfl

/-- The triangle of ones, read. -/
theorem tri_at (s t : Fin 256) :
    (tri0 (ix2 s t) : EReal) = if s.val / 64 = t.val / 64 ∧ s.val ≤ t.val then 1 else 0 := by
  pointwise [tri0, k0_pay6, k0_pay3, k0_pay4, k0_pay5]
  rw [floor64 t, floor64 s, eq_at, le_at]
  by_cases h1 : s.val / 64 = t.val / 64 <;> by_cases h2 : s.val ≤ t.val <;> simp [h1, h2] <;> rfl

/-- The whole triangle of ones, read. -/
theorem suf_at (s t : Fin 256) : (suf0 (ix2 s t) : EReal) = if t.val ≤ s.val then 1 else 0 := by
  pointwise [suf0, k0_pay7]
  rw [ge_at t s]
  by_cases h : t.val ≤ s.val <;> simp [h] <;> rfl

/-- The pair reads the block's chunks `n` and `n + 1`. -/
structure Reads (x : PairIn) (M : Blk) (n : ℕ) : Prop where
  bc : ∀ c s, x.bc (ix2 c s) = M.B (n + s.val / 64) (lo s) c
  q : ∀ c s, x.qf (ix2 c s) = M.q (n + s.val / 64) (lo s) c
  k : ∀ c s, x.kf (ix2 c s) = M.k (n + s.val / 64) (lo s) c
  v : ∀ s e, x.v (ix4 0 0 s e) = M.v (n + s.val / 64) (lo s) e
  d : ∀ e s, x.dt (ix2 e s) = M.d (n + s.val / 64) (lo s) e
  vs0 : x.vs0 = M.vs n
  vs1 : x.vs1 = M.vs (n + 1)

namespace Reads

variable {x : PairIn} {M : Blk} {n : ℕ} (h : Reads x M n)
include h

/-- The gates' sum over the first chunk. -/
theorem end1 (c : Fin 192) : x.end1 (ix2 c 0) = M.E n c := by
  pointwise [PairIn.end1]
  exact h.bc c 63

/-- The gates' sum over the second chunk. -/
theorem end2 (c : Fin 192) : x.end2 (ix2 c 0) = M.E (n + 1) c := by
  pointwise [PairIn.end2]
  exact h.bc c 127

/-- A column belongs to the first chunk or to the second. -/
theorem half (s : Fin 128) : s.val < 64 ∧ n + s.val / 64 = n ∨ ¬ s.val < 64 ∧ n + s.val / 64 = n + 1 := by omega

/-- The inverse growth, at a column. -/
theorem en (c : Fin 192) (s : Fin 128) : x.en (ix2 c s) = Ideal.exp (-M.B (n + s.val / 64) (lo s) c) := by
  pointwise [PairIn.en]
  rw [h.bc, zero_sub]

/-- The scaled growth, at a column. -/
theorem es (c : Fin 192) (s : Fin 128) : x.es (ix2 c s) = scale * Ideal.exp (M.B (n + s.val / 64) (lo s) c) := by
  pointwise [PairIn.es]
  rw [h.bc, mul_comm]; rfl

/-- The decay to the chunk's end, at a column. -/
theorem ee (c : Fin 192) (s : Fin 128) :
    x.ee (ix2 c s) = Ideal.exp (M.E (n + s.val / 64) c - M.B (n + s.val / 64) (lo s) c) := by
  pointwise [PairIn.ee]
  rw [select_first, h.bc, h.end1, h.end2]
  rcases h.half s with ⟨h1, h2⟩ | ⟨h1, h2⟩ <;> simp only [h1, h2, if_true, if_false]

/-- The values' scale, at a column. -/
theorem vrow (c : Fin 192) (s : Fin 128) : x.vrow (ix2 c s) = M.vs (n + s.val / 64) := by
  pointwise [PairIn.vrow, PairIn.row]
  rw [select_first, h.vs0, h.vs1]
  rcases h.half s with ⟨h1, h2⟩ | ⟨h1, h2⟩ <;> simp only [h1, h2, if_true, if_false]

/-- The grown queries, at a column. -/
theorem qg (c : Fin 192) (s : Fin 128) : x.qg (ix2 c s) = M.qg (n + s.val / 64) (lo s) c := by
  pointwise [PairIn.qg]
  rw [h.q, h.es]
  unfold Blk.qg
  ac_rfl

/-- The shrunk keys, at a column. -/
theorem kg (c : Fin 192) (s : Fin 128) : x.kg (ix2 c s) = M.kg (n + s.val / 64) (lo s) c := by
  pointwise [PairIn.kg]
  rw [h.k, h.en]
  rfl

/-- The decayed keys, at a column. -/
theorem kd (c : Fin 192) (s : Fin 128) : x.kd (ix2 c s) = M.kd (n + s.val / 64) (lo s) c := by
  pointwise [PairIn.kd]
  rw [h.k, h.ee]
  rfl

/-- The decayed keys, at a row. -/
theorem kdt (c : Fin 192) (s : Fin 128) : x.kdt (ix3 0 s c) = M.kd (n + s.val / 64) (lo s) c := by
  pointwise [PairIn.kdt]
  exact h.kd c s

/-- The block-diagonal values, at the first chunk's columns. -/
theorem v2_left (s : Fin 128) (e : Fin 384) :
    x.v2 (ix2 s ⟨e.val, by omega⟩) = if s.val < 64 then M.v n (lo s) e else 0 := by
  pointwise [PairIn.v2, PairIn.vf]
  rcases h.half s with ⟨h1, h2⟩ | ⟨h1, h2⟩
  · simp only [h1, if_true, dite_true, e.isLt]
    rw [← h2]; exact h.v s e
  · simp only [h1, if_false, dite_false, e.isLt, dite_true]

/-- The block-diagonal values, at the second chunk's columns. -/
theorem v2_right (s : Fin 128) (e : Fin 384) :
    x.v2 (ix2 s ⟨384 + e.val, by omega⟩) = if s.val < 64 then 0 else M.v (n + 1) (lo s) e := by
  have he : ¬ 384 + e.val < 384 := by omega
  pointwise [PairIn.v2, PairIn.vf]
  rcases h.half s with ⟨h1, h2⟩ | ⟨h1, h2⟩
  · simp only [h1, if_true, dite_true, he, dite_false]
  · simp only [h1, if_false, dite_false, he]
    rw [← h2, ← h.v s e]
    congr 2
    apply Fin.ext; show 64 + (s.val - 64) = s.val; omega

/-- The rows of `do`, at the first chunk's rows. -/
theorem d2t_left (e : Fin 384) (s : Fin 128) :
    x.d2t (ix2 ⟨e.val, by omega⟩ s) = if s.val < 64 then M.d n (lo s) e else 0 := by
  pointwise [PairIn.d2t]
  simp only [select_first, e.isLt, dite_true]
  rcases h.half s with ⟨h1, h2⟩ | ⟨h1, h2⟩ <;> simp only [h1, if_true, if_false]
  rw [← h2]; exact h.d e s

/-- The rows of `do`, at the second chunk's rows. -/
theorem d2t_right (e : Fin 384) (s : Fin 128) :
    x.d2t (ix2 ⟨384 + e.val, by omega⟩ s) = if s.val < 64 then 0 else M.d (n + 1) (lo s) e := by
  have he : ¬ 384 + e.val < 384 := by omega
  pointwise [PairIn.d2t]
  simp only [select_first, he, dite_false]
  rcases h.half s with ⟨h1, h2⟩ | ⟨h1, h2⟩ <;> simp only [h1, if_true, if_false]
  rw [← h2, ← h.d e s]

end Reads

/-- A sum over the pair's tokens of something that is zero in the second chunk. -/
theorem sum_first (f : Fin 128 → EReal) (g : Fin 64 → EReal) (h1 : ∀ s, s.val < 64 → f s = g (lo s)) (h2 : ∀ s, ¬ s.val < 64 → f s = 0) :
    ∑ s, f s = ∑ i, g i := by
  rw [sum_halves, Finset.sum_eq_zero (f := fun i : Fin 64 => f ⟨64 + i.val, by omega⟩) fun i _ => h2 _ (by show ¬ 64 + i.val < 64; omega), add_zero]
  refine Finset.sum_congr rfl fun i _ => (h1 _ i.isLt).trans (congrArg g (Fin.ext ?_))
  show i.val % 64 = i.val; omega

/-- A sum over the pair's tokens of something that is zero in the first chunk. -/
theorem sum_second (f : Fin 128 → EReal) (g : Fin 64 → EReal) (h1 : ∀ s, ¬ s.val < 64 → f s = g (lo s)) (h2 : ∀ s, s.val < 64 → f s = 0) :
    ∑ s, f s = ∑ i, g i := by
  rw [sum_halves, Finset.sum_eq_zero (f := fun i : Fin 64 => f ⟨i.val, by omega⟩) fun i _ => h2 _ i.isLt, zero_add]
  refine Finset.sum_congr rfl fun i _ => (h1 _ (by show ¬ 64 + i.val < 64; omega)).trans (congrArg g (Fin.ext ?_))
  show (64 + i.val) % 64 = i.val; omega

/-- A sum over the pair's tokens of something that is zero outside the chunk of `t`. -/
theorem sum_same (f : Fin 128 → EReal) (t : Fin 128) (g : Fin 64 → EReal)
    (h1 : ∀ s, s.val / 64 = t.val / 64 → f s = g (lo s)) (h2 : ∀ s, s.val / 64 ≠ t.val / 64 → f s = 0) : ∑ s, f s = ∑ i, g i := by
  by_cases ht : t.val < 64
  · exact sum_first f g (fun s hs => h1 s (by omega)) (fun s hs => h2 s (by omega))
  · exact sum_second f g (fun s hs => h1 s (by omega)) (fun s hs => h2 s (by omega))

namespace Reads

variable {x : PairIn} {M : Blk} {n : ℕ} (h : Reads x M n)
include h

/-- What the first chunk adds to the state. -/
theorem u_left (hM : M.Fin_) (c : Fin 192) (e : Fin 384) : x.u (ix2 c ⟨e.val, by omega⟩) = M.u n c e := by
  pointwise [PairIn.u, PairIn.kdv]
  unfold Blk.u
  rw [sum_mul_of_fine _ _ _ (fun j => (hM.kd _ _ _).mul (hM.v _ _ _)) (hM.vs _)]
  refine sum_first _ _ (fun s hs => ?_) (fun s hs => ?_)
  · rw [h.v2_left, h.kd, h.vrow, if_pos hs, show n + s.val / 64 = n by omega]; ac_rfl
  · rw [h.v2_left, if_neg hs, mul_zero]

/-- What the second chunk adds to the state. -/
theorem u_right (hM : M.Fin_) (c : Fin 192) (e : Fin 384) :
    x.u (ix2 c ⟨384 + e.val, by omega⟩) = M.u (n + 1) c e := by
  pointwise [PairIn.u, PairIn.kdv]
  unfold Blk.u
  rw [sum_mul_of_fine _ _ _ (fun j => (hM.kd _ _ _).mul (hM.v _ _ _)) (hM.vs _)]
  refine sum_second _ _ (fun s hs => ?_) (fun s hs => ?_)
  · rw [h.v2_right, h.kd, h.vrow, if_neg hs, show n + s.val / 64 = n + 1 by omega]; ac_rfl
  · rw [h.v2_right, if_pos hs, mul_zero]

/-- What the first chunk adds to the state gradient. -/
theorem w_left (c : Fin 192) (e : Fin 384) : x.w (ix2 c ⟨e.val, by omega⟩) = M.w n c e := by
  pointwise [PairIn.w]
  refine sum_first _ _ (fun s hs => ?_) (fun s hs => ?_)
  · rw [h.d2t_left, h.qg, if_pos hs, show n + s.val / 64 = n by omega]
  · rw [h.d2t_left, if_neg hs, mul_zero]

/-- What the second chunk adds to the state gradient. -/
theorem w_right (c : Fin 192) (e : Fin 384) : x.w (ix2 c ⟨384 + e.val, by omega⟩) = M.w (n + 1) c e := by
  pointwise [PairIn.w]
  refine sum_second _ _ (fun s hs => ?_) (fun s hs => ?_)
  · rw [h.d2t_right, h.qg, if_neg hs, show n + s.val / 64 = n + 1 by omega]
  · rw [h.d2t_right, if_pos hs, mul_zero]

/-- The gradient of the scores, key `s` by query `t`. -/
theorem at_ (s t : Fin 128) :
    x.at_ (ix2 s t) = if s.val / 64 = t.val / 64 then M.a (n + s.val / 64) (lo t) (lo s) else 0 := by
  pointwise [PairIn.at_]
  have h0 : (∑ e, x.vf (ix2 s e) * x.dt (ix2 e t)) = ∑ e, M.d (n + t.val / 64) (lo t) e * M.v (n + s.val / 64) (lo s) e := by
    refine Finset.sum_congr rfl fun e _ => ?_
    rw [h.d, mul_comm]
    congr 1
    pointwise [PairIn.vf]
    exact h.v s e
  have h1 : (if h : s.val < 64 then x.at0 (ix2 s t) * x.vs0 else x.at0 (ix2 ⟨64 + (s.val - 64), by omega⟩ t) * x.vs1)
      = (∑ e, M.d (n + t.val / 64) (lo t) e * M.v (n + s.val / 64) (lo s) e) * M.vs (n + s.val / 64) := by
    rw [← h0]
    rcases h.half s with ⟨h1, h2⟩ | ⟨h1, h2⟩
    · rw [dif_pos h1, h2, h.vs0]; pointwise [PairIn.at0]
    · rw [dif_neg h1, h2, h.vs1, show (⟨64 + (s.val - 64), by omega⟩ : Fin 128) = s from Fin.ext (by show 64 + (s.val - 64) = s.val; omega)]
      pointwise [PairIn.at0]
  rw [select_causal, h1]
  unfold Blk.a
  by_cases hst : s.val / 64 = t.val / 64
  · have : (s.val ≤ t.val) = ((lo s).val ≤ (lo t).val) := by
      apply propext; show _ ↔ s.val % 64 ≤ t.val % 64; omega
    simp only [hst, true_and, if_true, this]
  · simp only [hst, false_and, if_false]

/-- The scores, key `s` by query `t`. -/
theorem pt (s t : Fin 128) :
    x.pt (ix3 0 s t) = if s.val / 64 = t.val / 64 then M.p (n + s.val / 64) (lo t) (lo s) else 0 := by
  pointwise [PairIn.pt]
  rw [select_causal]
  unfold Blk.p
  by_cases hst : s.val / 64 = t.val / 64
  · have : (s.val ≤ t.val) = ((lo s).val ≤ (lo t).val) := by
      apply propext; show _ ↔ s.val % 64 ≤ t.val % 64; omega
    simp only [hst, true_and, if_true, this, h.kg, h.qg]
    split
    · exact Finset.sum_congr rfl fun c _ => mul_comm _ _
    · rfl
  · simp only [hst, false_and, if_false]

/-- The scores' part of `dq`. -/
theorem intra_left (c : Fin 192) (s : Fin 128) :
    x.intra (ix2 c ⟨s.val, by omega⟩) = ∑ j : Fin 64, M.a (n + s.val / 64) (lo s) j * M.kg (n + s.val / 64) j c := by
  pointwise [PairIn.intra]
  simp only [s.isLt, dite_true, mul_zero, Finset.sum_const_zero, add_zero]
  refine sum_same _ s _ (fun t ht => ?_) (fun t ht => ?_)
  · rw [h.at_, h.kg, if_pos ht, ht, mul_comm]
  · rw [h.at_, if_neg ht, mul_zero]

/-- The scores' part of `dk`. -/
theorem intra_right (c : Fin 192) (s : Fin 128) :
    x.intra (ix2 c ⟨128 + s.val, by omega⟩) = ∑ i : Fin 64, M.a (n + s.val / 64) i (lo s) * M.qg (n + s.val / 64) i c := by
  have hs : ¬ 128 + s.val < 128 := by omega
  pointwise [PairIn.intra]
  simp only [hs, dite_false, mul_zero, Finset.sum_const_zero, zero_add]
  refine sum_same _ s _ (fun t ht => ?_) (fun t ht => ?_)
  · rw [h.at_, h.qg, if_pos ht.symm, ht, mul_comm]
  · rw [h.at_, if_neg (Ne.symm ht), mul_zero]

section Forward

variable {f : FVec Ideal S192x384 .f32} (hf : ∀ c e, f (ix2 c e) = M.S n c e)
include hf

/-- The state between the two chunks. -/
theorem mid (hM : M.Fin_) (c : Fin 192) (e : Fin 384) : x.mid f (ix2 c e) = M.S (n + 1) c e := by
  pointwise [PairIn.mid, PairIn.d1]
  rw [h.end1, hf, h.u_left hM]
  rfl

/-- The state after the two chunks. -/
theorem next (hM : M.Fin_) (c : Fin 192) (e : Fin 384) :
    x.next f (ix2 c e) = M.S (n + 2) c e := by
  pointwise [PairIn.next, PairIn.d2]
  rw [h.end2, h.mid hf hM, h.u_right hM]
  rfl

/-- The pair's gradient of the queries. -/
theorem dq (hM : M.Fin_) (c : Fin 192) (s : Fin 128) :
    x.dq f (ix2 c s) = M.dq (n + s.val / 64) (lo s) c := by
  pointwise [PairIn.dq]
  rw [h.es, h.intra_left]
  unfold Blk.dq
  congr 2
  simp only [h.d2t_left, h.d2t_right, hf, h.mid hf hM]
  rcases h.half s with ⟨h1, h2⟩ | ⟨h1, h2⟩
  · simp only [h1, h2, if_true, mul_zero, Finset.sum_const_zero, add_zero]
    exact Finset.sum_congr rfl fun e _ => mul_comm _ _
  · simp only [h1, h2, if_false, mul_zero, Finset.sum_const_zero, zero_add]
    exact Finset.sum_congr rfl fun e _ => mul_comm _ _

end Forward

section Backward

variable {b : FVec Ideal S192x384 .f32} (hb : ∀ c e, b (ix2 c e) = M.T (n + 1) c e) (hn : n < 15)
include hb hn

/-- The state gradient between the two chunks. -/
theorem midB (c : Fin 192) (e : Fin 384) : x.midB b (ix2 c e) = M.T n c e := by
  pointwise [PairIn.midB, PairIn.d2]
  rw [h.end2, hb, h.w_right, M.T_succ n hn]

/-- The state gradient before the two chunks. -/
theorem nextB (c : Fin 192) (e : Fin 384) :
    x.nextB b (ix2 c e) = Ideal.exp (M.E n c) * M.T n c e + M.w n c e := by
  pointwise [PairIn.nextB, PairIn.d1]
  rw [h.end1, h.midB hb hn, h.w_left]

/-- The pair's gradient of the keys. -/
theorem dk (c : Fin 192) (s : Fin 128) : x.dk b (ix2 c s) = M.dk (n + s.val / 64) (lo s) c := by
  pointwise [PairIn.dk, PairIn.eev, PairIn.dki]
  rw [h.ee, h.vrow, h.en, h.intra_right]
  unfold Blk.dk
  rw [mul_assoc]
  congr 3
  simp only [h.v2_left, h.v2_right, hb, h.midB hb hn]
  rcases h.half s with ⟨h1, h2⟩ | ⟨h1, h2⟩
  · simp only [h1, h2, if_true, mul_zero, Finset.sum_const_zero, add_zero]
    exact Finset.sum_congr rfl fun e _ => mul_comm _ _
  · simp only [h1, h2, if_false, mul_zero, Finset.sum_const_zero, zero_add]
    exact Finset.sum_congr rfl fun e _ => mul_comm _ _

/-- The pair's gradient of the values. -/
theorem dv (s : Fin 128) (e : Fin 384) : x.dv b (ix2 s e) = M.dv (n + s.val / 64) (lo s) e := by
  pointwise [PairIn.dv]
  unfold Blk.dv
  congr 1
  · rcases h.half s with ⟨h1, h2⟩ | ⟨h1, h2⟩
    · simp only [h1, dite_true, h.kdt, h.midB hb hn, h2]
    · rw [dif_neg h1]
      refine Finset.sum_congr rfl fun c _ => ?_
      rw [hb, ← h2]
      congr 1
      exact (congrArg (fun t => x.kdt (ix3 0 t c)) (Fin.ext (by show 64 + (s.val - 64) = s.val; omega))).trans (h.kdt c s)
  · refine sum_same _ s _ (fun t ht => ?_) (fun t ht => ?_)
    · rw [h.pt, h.d, if_pos ht.symm, ht]
    · rw [h.pt, if_neg (Ne.symm ht), zero_mul]

end Backward

end Reads
end Cert.KernelWIdeal.Work
-- ==== Proof.Words.BlkAt.lean ====
/- What one (head, batch) block computes, entry by entry: the block's mathematics. -/
module

public import proofs.«01_k».proof.Defs
public import proofs.«01_k».proof.Proof.Words.PairAt
public import proofs.«01_k».proof.Proof.Words.Sums
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelWIdeal.Work

open Cert.KernelWIdeal Cert.KernelWIdeal.Gen Cert.Maths

namespace BlkIn

variable (x : BlkIn)

/-- The scale a block reads for a chunk, from the table. -/
theorem sc_at (i : grid0.Coords) (tab : Vec Ideal S6x2x16 .f32) (n : ℕ) :
    sc i tab n = tab (ix3 (i 0) (i 1) ⟨n % 16, Nat.mod_lt _ (by decide)⟩) := by
  pointwise [sc]

/-- The mathematics of the block. -/
def maths : Blk where
  q n i c := x.q (ix4 0 0 c (tok n i)) * sc x.i x.qs n
  k n i c := x.k (ix4 0 0 c (tok n i)) * sc x.i x.ks n
  g n i c := x.g (ix4 0 0 c (tok n i))
  v n i e := x.v (ix4 0 0 (tok n i) e)
  d n i e := x.o (ix4 0 0 (tok n i) e) * x.ds (ix4 0 ⟨e.val / 32, by omega⟩ (x.i 1) (tok n i))
  vs n := sc x.i x.vs n

/-- A sum of 768 terms is three sums of 256. -/
theorem sum_768 (f : Fin 768 → EReal) :
    ∑ s, f s = ∑ s : Fin 256, (f ⟨s.val, by omega⟩ + f ⟨256 + s.val, by omega⟩ + f ⟨512 + s.val, by omega⟩) := by
  rw [Finset.sum_add_distrib, Finset.sum_add_distrib]
  refine (Fin.sum_univ_add (a := 512) (b := 256) f).trans (congrArg₂ (· + ·) ?_ rfl)
  exact Fin.sum_univ_add (a := 256) (b := 256) fun s => f ⟨s.val, by omega⟩

/-- A triangle at a place of its stack whose row is a row of the triangle up to whole copies. -/
theorem tri_piece (T : FVec Ideal S256x256 .bf16) (o : ℕ) (ho : o % 256 = 0) (y : S256x256.Idx) (z : S768x256.Idx)
    (h0 : (z 0).val = o + (y 0).val) (h1 : (z 1).val = (y 1).val) :
    T y = T (ix2 ⟨(z 0).val % 256, Nat.mod_lt _ (by decide)⟩ (z 1)) := by
  refine congrArg T (funext fun a => Fin.ext ?_)
  have hy : (y 0).val < 256 := (y 0).isLt
  match a with
  | 0 => show (y 0).val = (z 0).val % 256; omega
  | 1 => exact h1.symm

/-- A stack repeats its triangle in each third. -/
theorem stack_at (T : FVec Ideal S256x256 .bf16) (s : Fin 768) (t : Fin 256) :
    View.canon (Val := Elt Ideal) (s := S768x256) (e := .bf16)
      [⟨Rect.unit ![512, 0] S256x256.size inb_S768x256_S256x256_512_0, shapeCast S256x256 T shapeCasts_S256x256_S256x256⟩,
       ⟨Rect.unit ![256, 0] S256x256.size inb_S768x256_S256x256_256_0, shapeCast S256x256 T shapeCasts_S256x256_S256x256⟩,
       ⟨Rect.unit ![0, 0] S256x256.size inb_S768x256_S256x256_0_0, shapeCast S256x256 T shapeCasts_S256x256_S256x256⟩] (ix2 s t)
      = T (ix2 ⟨s.val % 256, Nat.mod_lt _ (by decide)⟩ t) := by
  refine View.canon_apply_of_pieces (Val := Elt Ideal) (S := S768x256) (e := .bf16)
    (fun y => T (ix2 ⟨(y 0).val % 256, Nat.mod_lt _ (by decide)⟩ (y 1))) _ ?_ _ ?_
  · intro p hp y
    simp only [List.mem_cons, List.not_mem_nil, or_false] at hp
    rcases hp with rfl | rfl | rfl
    · pointwise
      exact tri_piece T 512 rfl y _ (by show 512 + 1 * _ = _; omega) (by show 0 + 1 * _ = _; omega)
    · pointwise
      exact tri_piece T 256 rfl y _ (by show 256 + 1 * _ = _; omega) (by show 0 + 1 * _ = _; omega)
    · pointwise
      exact tri_piece T 0 rfl y _ (by show 0 + 1 * _ = _; omega) (by show 0 + 1 * _ = _; omega)
  · have h : (s.val < 256 ∨ 256 ≤ s.val ∧ s.val < 512) ∨ 512 ≤ s.val := by omega
    rcases h with (h | h) | h
    · refine ⟨_, List.mem_cons_of_mem _ (List.mem_cons_of_mem _ List.mem_cons_self), ?_⟩
      rw [Rect.mem_set_unit]
      intro a
      match a with
      | 0 => exact ⟨Nat.zero_le _, by show s.val < 0 + 256; omega⟩
      | 1 => exact ⟨Nat.zero_le _, by show t.val < 0 + 256; omega⟩
    · refine ⟨_, List.mem_cons_of_mem _ List.mem_cons_self, ?_⟩
      rw [Rect.mem_set_unit]
      intro a
      match a with
      | 0 => exact ⟨h.1, by show s.val < 256 + 256; omega⟩
      | 1 => exact ⟨Nat.zero_le _, by show t.val < 0 + 256; omega⟩
    · refine ⟨_, List.mem_cons_self, ?_⟩
      rw [Rect.mem_set_unit]
      intro a
      match a with
      | 0 => exact ⟨h, by show s.val < 512 + 256; omega⟩
      | 1 => exact ⟨Nat.zero_le _, by show t.val < 0 + 256; omega⟩

/-- The triangle read in the `k`-th third of the stack. -/
theorem triStack_third (k : ℕ) (s : Fin 256) (hk : 256 * k + s.val < 768) (t : Fin 256) :
    (triStack (ix2 ⟨256 * k + s.val, hk⟩ t) : EReal) = if s.val / 64 = t.val / 64 ∧ s.val ≤ t.val then 1 else 0 := by
  rw [← tri_at]
  refine (stack_at tri0 _ _).trans ?_
  refine congrArg (fun r => tri0 (ix2 r t)) (Fin.ext ?_)
  show (256 * k + s.val) % 256 = s.val
  omega

/-- The whole triangle read in the `k`-th third of its stack. -/
theorem sufStack_third (k : ℕ) (s : Fin 256) (hk : 256 * k + s.val < 768) (t : Fin 256) :
    (sufStack (ix2 ⟨256 * k + s.val, hk⟩ t) : EReal) = if t.val ≤ s.val then 1 else 0 := by
  rw [← suf_at]
  refine (stack_at suf0 _ _).trans ?_
  refine congrArg (fun r => suf0 (ix2 r t)) (Fin.ext ?_)
  show (256 * k + s.val) % 256 = s.val
  omega

/-- The kernel's running sum of the gates is the sum within the chunk. -/
theorem bc_at (htri : x.tri = triStack) (hg : ∀ y, x.g y < ⊤) (p : ℕ) (hp : p < 8) (c : Fin 192) (s : Fin 128) :
    (x.pair p).bc (ix2 c s) = x.maths.B (2 * p + s.val / 64) (lo s) c := by
  pointwise [pair, sums]
  rw [sum_768, htri]
  have hr : (128 * (p % 2) + s.val) / 64 < 4 := by omega
  refine (Finset.sum_congr rfl fun t _ => ?_).trans ((sum_chunk (fun t => x.g (ix4 0 0 c ⟨256 * (p / 2 % 4) + t.val, by omega⟩) *
      (if t.val / 64 = (128 * (p % 2) + s.val) / 64 ∧ t.val ≤ 128 * (p % 2) + s.val then 1 else 0 : EReal))
      ⟨(128 * (p % 2) + s.val) / 64, hr⟩ fun t ht => ?_).trans (Finset.sum_congr rfl fun t _ => ?_))
  · have h0 : t.val < 256 := t.isLt
    have h1 : ¬ 256 + t.val < 256 := by omega
    have h2 : 256 + t.val - 256 = t.val := by omega
    have h3 : ¬ 512 + t.val < 256 := by omega
    have h4 : ¬ 512 + t.val - 256 < 256 := by omega
    have h5 : 512 + t.val - 256 - 256 = t.val := by omega
    have e0 := triStack_third 0 t (by omega) ⟨128 * (p % 2) + s.val, by omega⟩
    have e1 := triStack_third 1 t (by omega) ⟨128 * (p % 2) + s.val, by omega⟩
    have e2 := triStack_third 2 t (by omega) ⟨128 * (p % 2) + s.val, by omega⟩
    simp only [Nat.mul_zero, Nat.zero_add, Nat.mul_one, Nat.reduceMul] at e0 e1 e2
    simp only [dif_pos h0, dif_neg h1, h2, dif_neg h3, dif_neg h4, h5, e0, e1, e2]
    exact split3 _ _ (hg _) (by split <;> simp)
  · rw [if_neg (fun h => ht h.1), mul_zero]
  · show x.g _ * _ = if t.val ≤ s.val % 64 then x.g _ else 0
    have ht : t.val < 64 := t.isLt
    have h1 : (64 * ((128 * (p % 2) + s.val) / 64) + t.val) / 64 = (128 * (p % 2) + s.val) / 64 := by omega
    have h2 : (64 * ((128 * (p % 2) + s.val) / 64) + t.val ≤ 128 * (p % 2) + s.val) = (t.val ≤ s.val % 64) := by
      apply propext; omega
    simp only [h1, h2, true_and]
    split
    · rw [mul_one]
      refine congrArg (fun r => x.g (ix4 0 0 c r)) (Fin.ext ?_)
      show 256 * (p / 2 % 4) + (64 * ((128 * (p % 2) + s.val) / 64) + t.val) = 64 * ((2 * p + s.val / 64) % 16) + t.val
      omega
    · rw [mul_zero]

/-- A column of a pair belongs to its first chunk or to its second. -/
theorem half (n : ℕ) (s : Fin 128) : s.val < 64 ∧ n + s.val / 64 = n ∨ ¬ s.val < 64 ∧ n + s.val / 64 = n + 1 := by omega

/-- The token a column of a pair stands for. -/
theorem tok_pair (p : ℕ) (hp : p < 8) (s : Fin 128) :
    (⟨128 * (p % 8) + s.val, by omega⟩ : Fin 1024) = tok (2 * p + s.val / 64) (lo s) := by
  apply Fin.ext
  show 128 * (p % 8) + s.val = 64 * ((2 * p + s.val / 64) % 16) + s.val % 64
  omega

/-- Pair `p` reads the block's chunks `2 p` and `2 p + 1`. -/
theorem reads (htri : x.tri = triStack) (hg : ∀ y, x.g y < ⊤) (p : ℕ) (hp : p < 8) : Reads (x.pair p) x.maths (2 * p) where
  bc := x.bc_at htri hg p hp
  q c s := by
    pointwise [PairIn.qf, PairIn.row, pair]
    rw [select_first, tok_pair p hp]
    rcases half (2 * p) s with ⟨h1, h2⟩ | ⟨h1, h2⟩ <;> simp only [h1, h2, if_true, if_false, maths]
  k c s := by
    pointwise [PairIn.kf, PairIn.row, pair]
    rw [select_first, tok_pair p hp]
    rcases half (2 * p) s with ⟨h1, h2⟩ | ⟨h1, h2⟩ <;> simp only [h1, h2, if_true, if_false, maths]
  v s e := by
    pointwise [pair]
    rw [tok_pair p hp]
    rfl
  d e s := by
    pointwise [PairIn.dt, pair, dsb]
    rw [tok_pair p hp]
    rfl
  vs0 := rfl
  vs1 := rfl

section Chain

variable (htri : x.tri = triStack) (hg : ∀ y, x.g y < ⊤) (hM : x.maths.Fin_)
include htri hg

include hM in
/-- The state that enters pair `p`. -/
theorem fwd_at (p : ℕ) (hp : p ≤ 8) (c : Fin 192) (e : Fin 384) : x.fwd p (ix2 c e) = x.maths.S (2 * p) c e := by
  induction p generalizing c e with
  | zero => pointwise [fwd]; rfl
  | succ p ih => exact (x.reads htri hg p (by omega)).next (fun c e => ih (by omega) c e) hM c e

/-- The state gradient that leaves pair `7 - m`. -/
theorem bwd_at (m : ℕ) (hm : m < 8) (c : Fin 192) (e : Fin 384) : x.bwd m (ix2 c e) = x.maths.T (2 * (7 - m) + 1) c e := by
  induction m generalizing c e with
  | zero => pointwise [bwd]; rfl
  | succ m ih =>
    have h := (x.reads htri hg (7 - m) (by omega)).nextB (fun c e => ih (by omega) c e) (by omega) c e
    refine h.trans ?_
    rw [x.maths.T_succ (2 * (7 - (m + 1)) + 1) (by omega), show 2 * (7 - (m + 1)) + 1 + 1 = 2 * (7 - m) by omega]

end Chain

/-- A block partly assembled from stores of 128 token columns per pair, read where a store reached. -/
theorem canon_chan {e : EltTy} (L : List ℕ) (hL' : ∀ p ∈ L, p < 8) (F : ℕ → Vec Ideal S1x1x192x128 e)
    (G : S1x1x192x1024.Idx → Elt Ideal e)
    (h : ∀ p < 8, ∀ c s, F p (ix4 0 0 c s) = G (ix4 0 0 c (tok (2 * p + s.val / 64) (lo s))))
    (y : S1x1x192x1024.Idx) (hy : (y 3).val / 128 ∈ L) :
    View.canon (Val := Elt Ideal) (L.map fun p => (⟨Rect.unit ![0, 0, 0, 128 * (p % 8)] S1x1x192x128.size (inb_chan p), F p⟩ : View.Piece (Elt Ideal) S1x1x192x1024 e)) y = G y := by
  refine View.canon_apply_of_pieces G _ ?_ _ ?_
  · intro q hq j
    obtain ⟨p, hp, rfl⟩ := List.mem_map.mp hq
    have hj : j = ix4 0 0 (j 2) (j 3) := by
      funext a
      match a with
      | 0 => exact Subsingleton.elim (α := Fin 1) _ _
      | 1 => exact Subsingleton.elim (α := Fin 1) _ _
      | 2 => rfl
      | 3 => rfl
    refine (congrArg (F p) hj).trans ((h p (hL' p hp) (j 2) (j 3)).trans (congrArg G (funext fun a => Fin.ext ?_)))
    match a with
    | 0 => have h0 : (j 0).val < 1 := (j 0).isLt
           show 0 = 0 + 1 * (j 0).val; omega
    | 1 => have h0 : (j 1).val < 1 := (j 1).isLt
           show 0 = 0 + 1 * (j 1).val; omega
    | 2 => show (j 2).val = 0 + 1 * (j 2).val; omega
    | 3 => refine (congrArg Fin.val (tok_pair p (hL' p hp) (j 3))).symm.trans ?_
           show 128 * (p % 8) + (j 3).val = 128 * (p % 8) + 1 * (j 3).val; omega
  · have h3 : (y 3).val < 1024 := (y 3).isLt
    refine ⟨_, List.mem_map.mpr ⟨(y 3).val / 128, hy, rfl⟩, ?_⟩
    rw [Rect.mem_set_unit]
    intro a
    match a with
    | 0 => have h0 : (y 0).val < 1 := (y 0).isLt
           exact ⟨Nat.zero_le _, by show (y 0).val < 0 + 1; omega⟩
    | 1 => have h0 : (y 1).val < 1 := (y 1).isLt
           exact ⟨Nat.zero_le _, by show (y 1).val < 0 + 1; omega⟩
    | 2 => have h0 : (y 2).val < 192 := (y 2).isLt
           exact ⟨Nat.zero_le _, by show (y 2).val < 0 + 192; omega⟩
    | 3 => exact ⟨by show 128 * ((y 3).val / 128 % 8) ≤ (y 3).val; omega,
             by show (y 3).val < 128 * ((y 3).val / 128 % 8) + 128; omega⟩

section Blocks

variable (htri : x.tri = triStack) (hg : ∀ y, x.g y < ⊤) (hM : x.maths.Fin_)
include htri hg

/-- The state gradient that leaves pair `p`. -/
theorem bwd_pair (p : ℕ) (hp : p < 8) (c : Fin 192) (e : Fin 384) : x.bwd (7 - p) (ix2 c e) = x.maths.T (2 * p + 1) c e := by
  rw [x.bwd_at htri hg (7 - p) (by omega), show 7 - (7 - p) = p by omega]

include hM in
/-- The block of `db` where it is stored already. -/
theorem dbSome_at (L : List ℕ) (hL : ∀ p ∈ L, p < 8) (y : S1x1x192x1024.Idx) (hy : (y 3).val / 128 ∈ L) :
    View.canon (x.dbSome L) y = x.maths.db (hi (y 3)) (low (y 3)) (y 2) := by
  unfold dbSome
  refine canon_chan (e := .f32) L hL (fun p => (x.pair p).dbOut (x.fwd p) (x.bwd (7 - p)))
    (fun y => x.maths.db (hi (y 3)) (low (y 3)) (y 2)) (fun p hp c s => ?_) y hy
  show _ = x.maths.db (hi (tok (2 * p + s.val / 64) (lo s))) (low (tok (2 * p + s.val / 64) (lo s))) c
  rw [hi_tok _ (by omega), low_tok]
  pointwise [PairIn.dbOut, PairIn.qdq]
  rw [(x.reads htri hg p hp).q, (x.reads htri hg p hp).k, (x.reads htri hg p hp).dq (x.fwd_at htri hg hM p hp.le) hM,
    (x.reads htri hg p hp).dk (x.bwd_pair htri hg p hp) (by omega)]
  rfl

variable (hsuf : x.suf = sufStack)

include hM hsuf in
/-- The reversed sums over a group, plus what came from the later groups. -/
theorem dgSum_at (p : ℕ) (L : List ℕ) (hL : ∀ q ∈ L, q < 8) (hp : ∀ q < 2, 2 * (p / 2 % 4) + q ∈ L) (carry : FVec Ideal S192x1 .f32)
    (c : Fin 192) (t : Fin 256) :
    x.dgSum p L carry (ix2 c t)
      = (∑ s : Fin 256, if t.val ≤ s.val then
            x.maths.db (hi ⟨256 * (p / 2 % 4) + s.val, by omega⟩) (low ⟨256 * (p / 2 % 4) + s.val, by omega⟩) c else 0)
        + carry (ix2 c 0) := by
  have hX : ∀ s : Fin 256, View.canon (x.dbSome L) (ix4 0 0 c ⟨256 * (p / 2 % 4) + s.val, by omega⟩)
      = x.maths.db (hi ⟨256 * (p / 2 % 4) + s.val, by omega⟩) (low ⟨256 * (p / 2 % 4) + s.val, by omega⟩) c := fun s =>
    x.dbSome_at htri hg hM L hL _ (by
      have h := hp (s.val / 128) (by omega)
      have e : 2 * (p / 2 % 4) + s.val / 128 = (256 * (p / 2 % 4) + s.val) / 128 := by omega
      exact e ▸ h)
  unfold dgSum
  generalize View.canon (x.dbSome L) = X at hX ⊢
  rw [hsuf]
  pointwise [sums]
  rw [sum_768]
  refine congrArg (· + _) (Finset.sum_congr rfl fun s _ => ?_)
  have h0 : s.val < 256 := s.isLt
  have h1 : ¬ 256 + s.val < 256 := by omega
  have h2 : 256 + s.val - 256 = s.val := by omega
  have h3 : ¬ 512 + s.val < 256 := by omega
  have h4 : ¬ 512 + s.val - 256 < 256 := by omega
  have h5 : 512 + s.val - 256 - 256 = s.val := by omega
  have e0 := sufStack_third 0 s (by omega) t
  have e1 := sufStack_third 1 s (by omega) t
  have e2 := sufStack_third 2 s (by omega) t
  simp only [Nat.mul_zero, Nat.zero_add, Nat.mul_one, Nat.reduceMul] at e0 e1 e2
  simp only [dif_pos h0, dif_neg h1, h2, dif_neg h3, dif_neg h4, h5, e0, e1, e2, hX]
  refine (split3 _ _ (hM.db _ _ _).lt_top (by split <;> simp)).trans ?_
  split
  · rw [mul_one]
  · rw [mul_zero]

include hM hsuf in
/-- A group's sums are the gradient of the gates when the carry is the sum over the later groups. -/
theorem dg_group (p : ℕ) (k : ℕ) (hk : k < 4) (hpk : p / 2 % 4 = k) (L : List ℕ) (hL : ∀ q ∈ L, q < 8) (hp : ∀ q < 2, 2 * k + q ∈ L)
    (carry : FVec Ideal S192x1 .f32) (c : Fin 192)
    (hc : carry (ix2 c 0) = ∑ s : Fin 1024, if 256 * (k + 1) ≤ s.val then x.maths.db (hi s) (low s) c else 0) (t : Fin 256) :
    x.dgSum p L carry (ix2 c t) = x.maths.dg ⟨256 * k + t.val, by omega⟩ c := by
  subst hpk
  rw [x.dgSum_at htri hg hM hsuf p L hL hp, hc]
  exact (sum_from (fun s => x.maths.db (hi s) (low s) c) _ hk t).symm

omit htri hg in
/-- The head of a group is its first column. -/
theorem head_at (v : FVec Ideal S192x256 .f32) (c : Fin 192) : head v (ix2 c 0) = v (ix2 c 0) := by
  pointwise [head]

include hM hsuf in
/-- The last group. -/
theorem dg3_at (c : Fin 192) (t : Fin 256) : x.dg3 (ix2 c t) = x.maths.dg ⟨256 * 3 + t.val, by omega⟩ c := by
  refine x.dg_group htri hg hM hsuf 6 3 (by decide) rfl [6, 7] (by decide) (by decide) _ c ?_ t
  rw [Finset.sum_eq_zero fun s _ => if_neg (by omega)]
  pointwise

include hM hsuf in
/-- The third group. -/
theorem dg2_at (c : Fin 192) (t : Fin 256) : x.dg2 (ix2 c t) = x.maths.dg ⟨256 * 2 + t.val, by omega⟩ c :=
  x.dg_group htri hg hM hsuf 4 2 (by decide) rfl [4, 5, 6, 7] (by decide) (by decide) _ c
    ((head_at x.dg3 c).trans (x.dg3_at htri hg hM hsuf c 0)) t

include hM hsuf in
/-- The second group. -/
theorem dg1_at (c : Fin 192) (t : Fin 256) : x.dg1 (ix2 c t) = x.maths.dg ⟨256 * 1 + t.val, by omega⟩ c :=
  x.dg_group htri hg hM hsuf 2 1 (by decide) rfl [2, 3, 4, 5, 6, 7] (by decide) (by decide) _ c
    ((head_at x.dg2 c).trans (x.dg2_at htri hg hM hsuf c 0)) t

include hM hsuf in
/-- The first group. -/
theorem dg0_at (c : Fin 192) (t : Fin 256) : x.dg0 (ix2 c t) = x.maths.dg ⟨256 * 0 + t.val, by omega⟩ c :=
  x.dg_group htri hg hM hsuf 0 0 (by decide) rfl [0, 1, 2, 3, 4, 5, 6, 7] (by decide) (by decide) _ c
    ((head_at x.dg1 c).trans (x.dg1_at htri hg hM hsuf c 0)) t

omit htri hg in
/-- A group's store agrees with the gradient of the gates. -/
theorem dg_piece (p k : ℕ) (hk : k < 4) (hpk : p / 2 % 4 = k) (v : FVec Ideal S192x256 .f32)
    (h : ∀ c (t : Fin 256), v (ix2 c t) = x.maths.dg ⟨256 * k + t.val, by omega⟩ c) (j : S1x1x192x256.Idx) :
    shapeCast S1x1x192x256 v shapeCasts_S192x256_S1x1x192x256 j
      = (fun y : S1x1x192x1024.Idx => x.maths.dg (y 3) (y 2))
          ((Rect.unit (s := S1x1x192x1024) ![0, 0, 0, 256 * (p / 2 % 4)] S1x1x192x256.size (inb_slab p)).emb j) := by
  subst hpk
  have hj : j = ix4 0 0 (j 2) (j 3) := by
    funext a
    match a with
    | 0 => exact Subsingleton.elim (α := Fin 1) _ _
    | 1 => exact Subsingleton.elim (α := Fin 1) _ _
    | 2 => rfl
    | 3 => rfl
  have e : ∀ (c : Fin 192) (t : Fin 256), shapeCast S1x1x192x256 v shapeCasts_S192x256_S1x1x192x256 (ix4 0 0 c t) = v (ix2 c t) := fun c t => by
    pointwise
  refine (congrArg _ hj).trans ((e _ _).trans ((h _ _).trans (congrArg₂ x.maths.dg (Fin.ext ?_) (Fin.ext ?_))))
  · show 256 * (p / 2 % 4) + (j 3).val = 256 * (p / 2 % 4) + 1 * (j 3).val; omega
  · show (j 2).val = 0 + 1 * (j 2).val; omega

omit htri hg in
/-- A column of a group lies in the group's store. -/
theorem mem_slab (p k : ℕ) (hpk : p / 2 % 4 = k) (y : S1x1x192x1024.Idx) (h1 : 256 * k ≤ (y 3).val) (h2 : (y 3).val < 256 * k + 256) :
    y ∈ (Rect.unit (s := S1x1x192x1024) ![0, 0, 0, 256 * (p / 2 % 4)] S1x1x192x256.size (inb_slab p)).set := by
  subst hpk
  rw [Rect.mem_set_unit]
  intro a
  match a with
  | 0 => have h0 : (y 0).val < 1 := (y 0).isLt
         exact ⟨Nat.zero_le _, by show (y 0).val < 0 + 1; omega⟩
  | 1 => have h0 : (y 1).val < 1 := (y 1).isLt
         exact ⟨Nat.zero_le _, by show (y 1).val < 0 + 1; omega⟩
  | 2 => have h0 : (y 2).val < 192 := (y 2).isLt
         exact ⟨Nat.zero_le _, by show (y 2).val < 0 + 192; omega⟩
  | 3 => exact ⟨h1, h2⟩

include hM hsuf in
/-- The block of `dg`. -/
theorem dg_block : View.canon x.dgPieces = fun y => x.maths.dg (y 3) (y 2) := by
  funext y
  unfold dgPieces
  refine View.canon_apply_of_pieces (Val := Elt Ideal) (S := S1x1x192x1024) (e := .f32) (fun y => x.maths.dg (y 3) (y 2)) _ ?_ _ ?_
  · intro q hq j
    simp only [List.mem_cons, List.not_mem_nil, or_false] at hq
    rcases hq with rfl | rfl | rfl | rfl
    · exact x.dg_piece 0 0 (by decide) rfl _ (x.dg0_at htri hg hM hsuf) j
    · exact x.dg_piece 2 1 (by decide) rfl _ (x.dg1_at htri hg hM hsuf) j
    · exact x.dg_piece 4 2 (by decide) rfl _ (x.dg2_at htri hg hM hsuf) j
    · exact x.dg_piece 6 3 (by decide) rfl _ (x.dg3_at htri hg hM hsuf) j
  · have h3 : (y 3).val < 1024 := (y 3).isLt
    have h : (((y 3).val < 256 ∨ 256 ≤ (y 3).val ∧ (y 3).val < 512) ∨ 512 ≤ (y 3).val ∧ (y 3).val < 768) ∨ 768 ≤ (y 3).val := by omega
    rcases h with ((h | h) | h) | h
    · exact ⟨_, List.mem_cons_self, mem_slab 0 0 rfl y (by omega) (by omega)⟩
    · exact ⟨_, List.mem_cons_of_mem _ List.mem_cons_self, mem_slab 2 1 rfl y (by omega) (by omega)⟩
    · exact ⟨_, List.mem_cons_of_mem _ (List.mem_cons_of_mem _ List.mem_cons_self), mem_slab 4 2 rfl y (by omega) (by omega)⟩
    · exact ⟨_, List.mem_cons_of_mem _ (List.mem_cons_of_mem _ (List.mem_cons_of_mem _ List.mem_cons_self)), mem_slab 6 3 rfl y (by omega) (by omega)⟩

end Blocks

end BlkIn
end Cert.KernelWIdeal.Work
-- ==== Proof.Words.KArr.lean ====
/- The kernel's arrays: every block read from the arguments, the fourth result array assembled from its blocks. -/
module

public import proofs.«01_k».proof.Defs
public import proofs.«01_k».proof.Proof.Words.Read
public import proofs.«01_k».proof.Proof.Words.BlkAt
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelWIdeal.Work

open Cert.KernelWIdeal Cert.KernelWIdeal.Gen Cert.Maths

variable (m : (ℓ : Loc nD τ sig) → Buf (Elt Ideal) ℓ)

/-- The arguments as launched, words read as codes. -/
def args (c : Dev nD) : Args where
  q := e4m3 (s := S2x1024x6x192) (m ((c : Thread nD τ).loc main_arg0))
  k := e4m3 (s := S2x1024x6x192) (m ((c : Thread nD τ).loc main_arg1))
  qs := m ((c : Thread nD τ).loc main_arg2)
  ks := m ((c : Thread nD τ).loc main_arg3)
  v := e4m3 (s := S2x1024x6x384) (m ((c : Thread nD τ).loc main_arg4))
  vs := m ((c : Thread nD τ).loc main_arg5)
  o := e5m2 (s := S2x1024x6x384) (m ((c : Thread nD τ).loc main_arg6))
  ds := m ((c : Thread nD τ).loc main_arg7)
  g := m ((c : Thread nD τ).loc main_arg8)

/-! ## The arrays the region reads: transposes of the arguments -/

/-- The array the region reads as scales of the queries is that argument with its axes permuted. -/
theorem V_v0 (c : Dev nD) (y : S6x2x16.Idx) : V m c main_v4 y = (args m c).qs (ix3 (y 1) (y 2) (y 0)) := by
  simp only [V, V0, List.flatten_cons, List.flatten_nil, List.append_nil]
  after_reads_simp
  generalize hx : m (c, Proc.devRef .tc main_arg2) = x
  have hx' : (args m c).qs = x := hx
  rw [hx']
  idx_vars y
  pointwise

/-- The array the region reads as scales of the keys is that argument with its axes permuted. -/
theorem V_v1 (c : Dev nD) (y : S6x2x16.Idx) : V m c main_v5 y = (args m c).ks (ix3 (y 1) (y 2) (y 0)) := by
  simp only [V, V0, List.flatten_cons, List.flatten_nil, List.append_nil]
  after_reads_simp
  generalize hx : m (c, Proc.devRef .tc main_arg3) = x
  have hx' : (args m c).ks = x := hx
  rw [hx']
  idx_vars y
  pointwise

/-- The array the region reads as scales of the values is that argument with its axes permuted. -/
theorem V_v2 (c : Dev nD) (y : S6x2x16.Idx) : V m c main_v6 y = (args m c).vs (ix3 (y 1) (y 2) (y 0)) := by
  simp only [V, V0, List.flatten_cons, List.flatten_nil, List.append_nil]
  after_reads_simp
  generalize hx : m (c, Proc.devRef .tc main_arg5) = x
  have hx' : (args m c).vs = x := hx
  rw [hx']
  idx_vars y
  pointwise

/-- The array the region reads as codes of the queries is that argument with its axes permuted. -/
theorem V_v3 (c : Dev nD) (y : S2x6x192x1024.Idx) : V m c main_v7 y = (args m c).q (ix4 (y 0) (y 3) (y 1) (y 2)) := by
  simp only [V, V0, List.flatten_cons, List.flatten_nil, List.append_nil]
  after_reads_simp
  generalize hx : m (c, Proc.devRef .tc main_arg0) = x
  have hx' : (args m c).q = e4m3 (s := S2x1024x6x192) x := by
    rw [← hx]; rfl
  rw [hx']
  idx_vars y
  pointwise
  rfl

/-- The array the region reads as codes of the keys is that argument with its axes permuted. -/
theorem V_v4 (c : Dev nD) (y : S2x6x192x1024.Idx) : V m c main_v8 y = (args m c).k (ix4 (y 0) (y 3) (y 1) (y 2)) := by
  simp only [V, V0, List.flatten_cons, List.flatten_nil, List.append_nil]
  after_reads_simp
  generalize hx : m (c, Proc.devRef .tc main_arg1) = x
  have hx' : (args m c).k = e4m3 (s := S2x1024x6x192) x := by
    rw [← hx]; rfl
  rw [hx']
  idx_vars y
  pointwise
  rfl

/-- The array the region reads as codes of the values is that argument with its axes permuted. -/
theorem V_v5 (c : Dev nD) (y : S2x6x1024x384.Idx) : V m c main_v9 y = (args m c).v (ix4 (y 0) (y 2) (y 1) (y 3)) := by
  simp only [V, V0, List.flatten_cons, List.flatten_nil, List.append_nil]
  after_reads_simp
  generalize hx : m (c, Proc.devRef .tc main_arg4) = x
  have hx' : (args m c).v = e4m3 (s := S2x1024x6x384) x := by
    rw [← hx]; rfl
  rw [hx']
  idx_vars y
  pointwise
  rfl

/-- The array the region reads as codes of the output gradient is that argument with its axes permuted. -/
theorem V_v6 (c : Dev nD) (y : S2x6x1024x384.Idx) : V m c main_v10 y = (args m c).o (ix4 (y 0) (y 2) (y 1) (y 3)) := by
  simp only [V, V0, List.flatten_cons, List.flatten_nil, List.append_nil]
  after_reads_simp
  generalize hx : m (c, Proc.devRef .tc main_arg6) = x
  have hx' : (args m c).o = e5m2 (s := S2x1024x6x384) x := by
    rw [← hx]; rfl
  rw [hx']
  idx_vars y
  pointwise
  rfl

/-- The array the region reads as scales of the output gradient is that argument with its axes permuted. -/
theorem V_v7 (c : Dev nD) (y : S6x12x2x1024.Idx) : V m c main_v11 y = (args m c).ds (ix4 (y 2) (y 3) (y 0) (y 1)) := by
  simp only [V, V0, List.flatten_cons, List.flatten_nil, List.append_nil]
  after_reads_simp
  generalize hx : m (c, Proc.devRef .tc main_arg7) = x
  have hx' : (args m c).ds = x := hx
  rw [hx']
  idx_vars y
  pointwise

/-- The array the region reads as gates is that argument with its axes permuted. -/
theorem V_v8 (c : Dev nD) (y : S2x6x192x1024.Idx) : V m c main_v12 y = (args m c).g (ix4 (y 0) (y 3) (y 1) (y 2)) := by
  simp only [V, V0, List.flatten_cons, List.flatten_nil, List.append_nil]
  after_reads_simp
  generalize hx : m (c, Proc.devRef .tc main_arg8) = x
  have hx' : (args m c).g = x := hx
  rw [hx']
  idx_vars y
  pointwise

/-! ## Which block of its array each window stages -/

/-- Where the block of window 0 lies at a grid point. -/
theorem idx0 : ∀ t : Fin grid0.N, win0_0.index t = ![0, 0, 0] := by decide +kernel
/-- Where the block of window 1 lies at a grid point. -/
theorem idx1 : ∀ t : Fin grid0.N, win0_1.index t = ![0, 0, 0] := by decide +kernel
/-- Where the block of window 2 lies at a grid point. -/
theorem idx2 : ∀ t : Fin grid0.N, win0_2.index t = ![0, 0, 0] := by decide +kernel
/-- Where the block of window 3 lies at a grid point. -/
theorem idx3 : ∀ t : Fin grid0.N, win0_3.index t = ![(grid0.coords t 1).val, (grid0.coords t 0).val, 0, 0] := by decide +kernel
/-- Where the block of window 4 lies at a grid point. -/
theorem idx4 : ∀ t : Fin grid0.N, win0_4.index t = ![(grid0.coords t 1).val, (grid0.coords t 0).val, 0, 0] := by decide +kernel
/-- Where the block of window 5 lies at a grid point. -/
theorem idx5 : ∀ t : Fin grid0.N, win0_5.index t = ![(grid0.coords t 1).val, (grid0.coords t 0).val, 0, 0] := by decide +kernel
/-- Where the block of window 6 lies at a grid point. -/
theorem idx6 : ∀ t : Fin grid0.N, win0_6.index t = ![(grid0.coords t 1).val, (grid0.coords t 0).val, 0, 0] := by decide +kernel
/-- Where the block of window 7 lies at a grid point. -/
theorem idx7 : ∀ t : Fin grid0.N, win0_7.index t = ![(grid0.coords t 0).val, 0, 0, 0] := by decide +kernel
/-- Where the block of window 8 lies at a grid point. -/
theorem idx8 : ∀ t : Fin grid0.N, win0_8.index t = ![(grid0.coords t 1).val, (grid0.coords t 0).val, 0, 0] := by decide +kernel
/-- Where the block of window 12 lies at a grid point. -/
theorem idx12 : ∀ t : Fin grid0.N, win0_12.index t = ![(grid0.coords t 1).val, (grid0.coords t 0).val, 0, 0] := by decide +kernel

/-! ## The input blocks -/

/-- The block of the scales of the queries at a grid point, read from the argument. -/
theorem iblk0 (c : Dev nD) (t : Fin cfg0.N) (y : S6x2x16.Idx) : iblk m c 0 t y = (args m c).qs (ix3 (y 1) (y 2) (y 0)) := by
  show V m c main_v4 ((win0_0.blk t).view.emb y) = _
  rw [V_v0]
  have e0 : (win0_0.blk t).view.emb y 0 = y 0 := Fin.ext (by blk_simp [idx0])
  have e1 : (win0_0.blk t).view.emb y 1 = y 1 := Fin.ext (by blk_simp [idx0])
  have e2 : (win0_0.blk t).view.emb y 2 = y 2 := Fin.ext (by blk_simp [idx0])
  rw [e0, e1, e2]

/-- The block of the scales of the keys at a grid point, read from the argument. -/
theorem iblk1 (c : Dev nD) (t : Fin cfg0.N) (y : S6x2x16.Idx) : iblk m c 1 t y = (args m c).ks (ix3 (y 1) (y 2) (y 0)) := by
  show V m c main_v5 ((win0_1.blk t).view.emb y) = _
  rw [V_v1]
  have e0 : (win0_1.blk t).view.emb y 0 = y 0 := Fin.ext (by blk_simp [idx1])
  have e1 : (win0_1.blk t).view.emb y 1 = y 1 := Fin.ext (by blk_simp [idx1])
  have e2 : (win0_1.blk t).view.emb y 2 = y 2 := Fin.ext (by blk_simp [idx1])
  rw [e0, e1, e2]

/-- The block of the scales of the values at a grid point, read from the argument. -/
theorem iblk2 (c : Dev nD) (t : Fin cfg0.N) (y : S6x2x16.Idx) : iblk m c 2 t y = (args m c).vs (ix3 (y 1) (y 2) (y 0)) := by
  show V m c main_v6 ((win0_2.blk t).view.emb y) = _
  rw [V_v2]
  have e0 : (win0_2.blk t).view.emb y 0 = y 0 := Fin.ext (by blk_simp [idx2])
  have e1 : (win0_2.blk t).view.emb y 1 = y 1 := Fin.ext (by blk_simp [idx2])
  have e2 : (win0_2.blk t).view.emb y 2 = y 2 := Fin.ext (by blk_simp [idx2])
  rw [e0, e1, e2]

/-- The block of the codes of the queries at a grid point, read from the argument. -/
theorem iblk3 (c : Dev nD) (t : Fin cfg0.N) (y : S1x1x192x1024.Idx) : iblk m c 3 t y = (args m c).q (ix4 (grid0.coords t 1) (y 3) (grid0.coords t 0) (y 2)) := by
  show V m c main_v7 ((win0_3.blk t).view.emb y) = _
  rw [V_v3]
  have e0 : (win0_3.blk t).view.emb y 0 = grid0.coords t 1 := Fin.ext (by blk_simp [idx3])
  have e1 : (win0_3.blk t).view.emb y 1 = grid0.coords t 0 := Fin.ext (by blk_simp [idx3])
  have e2 : (win0_3.blk t).view.emb y 2 = y 2 := Fin.ext (by blk_simp [idx3])
  have e3 : (win0_3.blk t).view.emb y 3 = y 3 := Fin.ext (by blk_simp [idx3])
  rw [e0, e1, e2, e3]

/-- The block of the codes of the keys at a grid point, read from the argument. -/
theorem iblk4 (c : Dev nD) (t : Fin cfg0.N) (y : S1x1x192x1024.Idx) : iblk m c 4 t y = (args m c).k (ix4 (grid0.coords t 1) (y 3) (grid0.coords t 0) (y 2)) := by
  show V m c main_v8 ((win0_4.blk t).view.emb y) = _
  rw [V_v4]
  have e0 : (win0_4.blk t).view.emb y 0 = grid0.coords t 1 := Fin.ext (by blk_simp [idx4])
  have e1 : (win0_4.blk t).view.emb y 1 = grid0.coords t 0 := Fin.ext (by blk_simp [idx4])
  have e2 : (win0_4.blk t).view.emb y 2 = y 2 := Fin.ext (by blk_simp [idx4])
  have e3 : (win0_4.blk t).view.emb y 3 = y 3 := Fin.ext (by blk_simp [idx4])
  rw [e0, e1, e2, e3]

/-- The block of the codes of the values at a grid point, read from the argument. -/
theorem iblk5 (c : Dev nD) (t : Fin cfg0.N) (y : S1x1x1024x384.Idx) : iblk m c 5 t y = (args m c).v (ix4 (grid0.coords t 1) (y 2) (grid0.coords t 0) (y 3)) := by
  show V m c main_v9 ((win0_5.blk t).view.emb y) = _
  rw [V_v5]
  have e0 : (win0_5.blk t).view.emb y 0 = grid0.coords t 1 := Fin.ext (by blk_simp [idx5])
  have e1 : (win0_5.blk t).view.emb y 1 = grid0.coords t 0 := Fin.ext (by blk_simp [idx5])
  have e2 : (win0_5.blk t).view.emb y 2 = y 2 := Fin.ext (by blk_simp [idx5])
  have e3 : (win0_5.blk t).view.emb y 3 = y 3 := Fin.ext (by blk_simp [idx5])
  rw [e0, e1, e2, e3]

/-- The block of the codes of the output gradient at a grid point, read from the argument. -/
theorem iblk6 (c : Dev nD) (t : Fin cfg0.N) (y : S1x1x1024x384.Idx) : iblk m c 6 t y = (args m c).o (ix4 (grid0.coords t 1) (y 2) (grid0.coords t 0) (y 3)) := by
  show V m c main_v10 ((win0_6.blk t).view.emb y) = _
  rw [V_v6]
  have e0 : (win0_6.blk t).view.emb y 0 = grid0.coords t 1 := Fin.ext (by blk_simp [idx6])
  have e1 : (win0_6.blk t).view.emb y 1 = grid0.coords t 0 := Fin.ext (by blk_simp [idx6])
  have e2 : (win0_6.blk t).view.emb y 2 = y 2 := Fin.ext (by blk_simp [idx6])
  have e3 : (win0_6.blk t).view.emb y 3 = y 3 := Fin.ext (by blk_simp [idx6])
  rw [e0, e1, e2, e3]

/-- The block of the scales of the output gradient at a grid point, read from the argument. -/
theorem iblk7 (c : Dev nD) (t : Fin cfg0.N) (y : S1x12x2x1024.Idx) : iblk m c 7 t y = (args m c).ds (ix4 (y 2) (y 3) (grid0.coords t 0) (y 1)) := by
  show V m c main_v11 ((win0_7.blk t).view.emb y) = _
  rw [V_v7]
  have e0 : (win0_7.blk t).view.emb y 0 = grid0.coords t 0 := Fin.ext (by blk_simp [idx7])
  have e1 : (win0_7.blk t).view.emb y 1 = y 1 := Fin.ext (by blk_simp [idx7])
  have e2 : (win0_7.blk t).view.emb y 2 = y 2 := Fin.ext (by blk_simp [idx7])
  have e3 : (win0_7.blk t).view.emb y 3 = y 3 := Fin.ext (by blk_simp [idx7])
  rw [e0, e1, e2, e3]

/-- The block of the gates at a grid point, read from the argument. -/
theorem iblk8 (c : Dev nD) (t : Fin cfg0.N) (y : S1x1x192x1024.Idx) : iblk m c 8 t y = (args m c).g (ix4 (grid0.coords t 1) (y 3) (grid0.coords t 0) (y 2)) := by
  show V m c main_v12 ((win0_8.blk t).view.emb y) = _
  rw [V_v8]
  have e0 : (win0_8.blk t).view.emb y 0 = grid0.coords t 1 := Fin.ext (by blk_simp [idx8])
  have e1 : (win0_8.blk t).view.emb y 1 = grid0.coords t 0 := Fin.ext (by blk_simp [idx8])
  have e2 : (win0_8.blk t).view.emb y 2 = y 2 := Fin.ext (by blk_simp [idx8])
  have e3 : (win0_8.blk t).view.emb y 3 = y 3 := Fin.ext (by blk_simp [idx8])
  rw [e0, e1, e2, e3]

/-- What the body reads at a grid point is the arguments' block of the point's batch and head. -/
theorem maths_eq (c : Dev nD) (t : Fin cfg0.N) (T T' : FVec Ideal S768x256 .bf16) :
    (blkIn m c t T T').maths = (args m c).blk (grid0.coords t 1) (grid0.coords t 0) := by
  unfold BlkIn.maths Args.blk
  simp only [BlkIn.sc_at, blkIn, iblk0, iblk1, iblk2, iblk3, iblk4, iblk5, iblk6, iblk7, iblk8]
  rfl

/-! ## The result arrays -/

section Results

variable (hf : ∀ c : Dev nD, (args m c).Fin_)

include hf in
/-- Result array 12: every block of `dg`. -/
theorem arr12 (c : Dev nD) :
    (dats m 0 c).arrAt 12 cfg0.N
      = fun y : S2x6x192x1024.Idx => ((args m c).blk (y 0) (y 1)).dg (y 3) (y 2) := by
  refine (dats m 0 c).arrAt_eq_of_covers 12 _ (by decide +kernel) fun t _ y => ?_
  blk_simp
  rw [after0_12, outs_all m c t, BlkIn.dg_block (blkIn m c t triStack sufStack) rfl
    (fun y => lt_of_eq_of_lt (iblk8 m c t y) ((hf c).g _).lt_top) (by rw [maths_eq]; exact (hf c).blk _ _) rfl, maths_eq]
  have e0 : (win0_12.blk t).view.emb y 0 = grid0.coords t 1 := Fin.ext (by blk_simp [idx12])
  have e1 : (win0_12.blk t).view.emb y 1 = grid0.coords t 0 := Fin.ext (by blk_simp [idx12])
  have e2 : (win0_12.blk t).view.emb y 2 = y 2 := Fin.ext (by blk_simp [idx12])
  have e3 : (win0_12.blk t).view.emb y 3 = y 3 := Fin.ext (by blk_simp [idx12])
  rw [e0, e1, e2, e3]

end Results

end Cert.KernelWIdeal.Work
-- ==== Proof.Words.KRun.lean ====
/- The kernel's run: its fourth result is the gradient of the gates. -/
module

public import proofs.«01_k».proof.Proof.Words.KArr

@[expose] public section

set_option maxRecDepth 16384

noncomputable section

open Idealize.ShloMosaic Idealize.ShloMosaic.TcCoe Idealize.SL.Sem
open Idealize.ShloMosaic.Pipeline (Dat)

namespace Cert.KernelWIdeal.Work

open Cert.KernelWIdeal Cert.KernelWIdeal.Gen Cert.Maths

variable (m : (ℓ : Loc nD τ sig) → Buf (Elt Ideal) ℓ)
variable (hf : ∀ c : Dev nD, (args m c).Fin_)

/-- Different windows stage different arrays. -/
theorem arrRef_injective : Function.Injective (Pipeline.arrRef (cfgs 0).spec) := by decide

include hf in
/-- After the run the fourth result is the gradient of the gates. -/
theorem tail_dg (c : Dev nD) :
    Pipeline.afterTail₀ cfgs (dats m) 0 (V0 m) [hostOps1] c main_v17 = (args m c).dg := by
  unfold Pipeline.afterTail₀
  simp only [List.flatten_cons, List.flatten_nil, List.append_nil]
  have e := Pipeline.withArrays_arr (cfgs 0).spec arrRef_injective c (V0 m c) (fun w => (dats m 0 c).arrAt w (cfgs 0).N) 12
  generalize Pipeline.withArrays (cfgs 0).spec c (V0 m c) (fun w => (dats m 0 c).arrAt w (cfgs 0).N) = W at e ⊢
  after_reads_simp
  have e' : W (Proc.devRef .tc main_v13_3) = _ := e.trans (arr12 m hf c)
  rw [e']
  funext y
  idx_vars y
  pointwise
  rfl

include hf in
/-- The kernel runs, leaves its arguments as they were, and its fourth result is the gradient of the gates. -/
theorem run (ρ : Dev nD → PrngReg) : θ_run defs (onTc (τ := τ) main) ⟨m, fun _ => 0, ρ⟩ fun r => ∀ c : Dev nD,
    r.2.mem ((c.tc : Thread nD τ).loc main_v17) = (args m c).dg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v17 (Pipeline.mem_restRefs_of main_v17 (by decide) (by decide))).trans (tail_dg m hf c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelWIdeal.Work
-- ==== Proof.Words.CumSum.lean ====
/- The reference's running sums as sums: of the gates inside a chunk, and reversed over all tokens. -/
module

public import proofs.«01_k».proof.Proof.Gen.ReferenceWIdeal.Frame
public import Idealize.ShloMosaic.Lib.Pointwise

@[expose] public section

noncomputable section

open Idealize.ShloMosaic

namespace Cert.ReferenceWIdeal.Work

open Cert.ReferenceWIdeal Cert.ReferenceWIdeal.Gen

/-- A left fold of additions is the start plus the sum. -/
theorem foldl_add {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- The window of the running sum: 64 positions along the third axis. -/
abbrev Win : Shape := ⟨5, ![1, 1, 64, 1, 1]⟩

/-- A position of the window is its third coordinate. -/
def winEquiv : Win.Idx ≃ Fin 64 where
  toFun w := w 2
  invFun t := ix5 0 0 t 0 0
  left_inv w := by
    funext a
    match a with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  right_inv t := rfl

/-- A window of 64 that ends at `i`, padded below, holds the positions up to `i`. -/
theorem sum_window (f : Fin 64 → EReal) (i : Fin 64) :
    (∑ t : Fin 64, if h : 63 ≤ i.val + t.val then f ⟨i.val + t.val - 63, by omega⟩ else 0)
      = ∑ s : Fin 64, if s.val ≤ i.val then f s else 0 := by
  have e : ∀ t : Fin 64, (if h : 63 ≤ i.val + t.val then f ⟨i.val + t.val - 63, by omega⟩ else 0)
      = if 63 ≤ i.val + t.val then f ⟨(i.val + t.val - 63) % 64, by omega⟩ else 0 := fun t => by
    split
    · exact congrArg f (Fin.ext (by show i.val + t.val - 63 = (i.val + t.val - 63) % 64; omega))
    · rfl
  rw [Finset.sum_congr rfl fun t _ => e t, ← Finset.sum_filter, ← Finset.sum_filter]
  refine Finset.sum_bij' (fun t _ => ⟨(i.val + t.val - 63) % 64, by omega⟩) (fun s _ => ⟨(s.val + 63 - i.val) % 64, by omega⟩) ?_ ?_ ?_ ?_ ?_
  · intro t ht
    rw [Finset.mem_filter] at ht ⊢
    exact ⟨Finset.mem_univ _, by show (i.val + t.val - 63) % 64 ≤ i.val; omega⟩
  · intro s hs
    rw [Finset.mem_filter] at hs ⊢
    exact ⟨Finset.mem_univ _, by show 63 ≤ i.val + (s.val + 63 - i.val) % 64; omega⟩
  · intro t ht
    rw [Finset.mem_filter] at ht
    exact Fin.ext (by show ((i.val + t.val - 63) % 64 + 63 - i.val) % 64 = t.val; omega)
  · intro s hs
    rw [Finset.mem_filter] at hs
    exact Fin.ext (by show (i.val + (s.val + 63 - i.val) % 64 - 63) % 64 = s.val; omega)
  · intro t ht; rfl

/-- The running sum along the tokens of a chunk, read at an index: the sum of the gates up to the token. -/
theorem cumsum_at (x : FVec Ideal S2x16x64x6x192 .f32) (v : FVec Ideal S_ .f32) (hv : v (Shape.Idx.first h_S_) = 0)
    (b : Fin 2) (n : Fin 16) (i : Fin 64) (h : Fin 6) (c : Fin 192) :
    Host.reduceWindowAdd ![1, 1, 64, 1, 1] ![1, 1, 1, 1, 1] ![0, 0, 63, 0, 0] ![0, 0, 0, 0, 0] x v
        reduceWindows_S2x16x64x6x192_S2x16x64x6x192_w1s1p0_0_w1s1p0_0_w64s1p63_0_w1s1p0_0_w1s1p0_0 h_S_ (ix5 b n i h c)
      = ∑ t : Fin 64, if t.val ≤ i.val then x (ix5 b n t h c) else 0 := by
  unfold Host.reduceWindowAdd
  rw [Ideal.hostReduceWindowAdd_def, hv]
  unfold Ideal.hostReduceWindowAdd Host.reduceWindow
  dsimp only
  rw [foldl_add, zero_add, ← Fin.sum_univ_def]
  rw [← sum_window (fun t => x (ix5 b n t h c))]
  refine Fintype.sum_equiv (Win.rowMajor.symm.trans winEquiv) _ _ fun n' => ?_
  have w0 : (Win.rowMajor.symm n' 0).val = 0 := by have := (Win.rowMajor.symm n' 0).isLt; exact Nat.lt_one_iff.1 this
  have w1 : (Win.rowMajor.symm n' 1).val = 0 := by have := (Win.rowMajor.symm n' 1).isLt; exact Nat.lt_one_iff.1 this
  have w3 : (Win.rowMajor.symm n' 3).val = 0 := by have := (Win.rowMajor.symm n' 3).isLt; exact Nat.lt_one_iff.1 this
  have w4 : (Win.rowMajor.symm n' 4).val = 0 := by have := (Win.rowMajor.symm n' 4).isLt; exact Nat.lt_one_iff.1 this
  have w2 : (Win.rowMajor.symm n' 2).val < 64 := (Win.rowMajor.symm n' 2).isLt
  have e2 : (Win.rowMajor.symm.trans winEquiv) n' = Win.rowMajor.symm n' 2 := rfl
  split
  · next hin =>
    have h2 : 63 ≤ i.val * 1 + (Win.rowMajor.symm n' 2).val := (hin 2).1
    rw [dif_pos (by rw [e2]; omega)]
    refine congrArg x (funext fun a => Fin.ext ?_)
    match a with
    | 0 => show b.val * 1 + (Win.rowMajor.symm n' 0).val - 0 = b.val; omega
    | 1 => show n.val * 1 + (Win.rowMajor.symm n' 1).val - 0 = n.val; omega
    | 2 => show i.val * 1 + (Win.rowMajor.symm n' 2).val - 63 = i.val + (Win.rowMajor.symm n' 2).val - 63; omega
    | 3 => show h.val * 1 + (Win.rowMajor.symm n' 3).val - 0 = h.val; omega
    | 4 => show c.val * 1 + (Win.rowMajor.symm n' 4).val - 0 = c.val; omega
  · next hin =>
    rw [dif_neg]
    rw [e2]
    refine fun hle => hin fun a => ?_
    match a with
    | 0 => show 0 ≤ b.val * 1 + (Win.rowMajor.symm n' 0).val ∧ b.val * 1 + (Win.rowMajor.symm n' 0).val - 0 < 2; omega
    | 1 => show 0 ≤ n.val * 1 + (Win.rowMajor.symm n' 1).val ∧ n.val * 1 + (Win.rowMajor.symm n' 1).val - 0 < 16; omega
    | 2 => show 63 ≤ i.val * 1 + (Win.rowMajor.symm n' 2).val ∧ i.val * 1 + (Win.rowMajor.symm n' 2).val - 63 < 64; omega
    | 3 => show 0 ≤ h.val * 1 + (Win.rowMajor.symm n' 3).val ∧ h.val * 1 + (Win.rowMajor.symm n' 3).val - 0 < 6; omega
    | 4 => show 0 ≤ c.val * 1 + (Win.rowMajor.symm n' 4).val ∧ c.val * 1 + (Win.rowMajor.symm n' 4).val - 0 < 192; omega

/-- The window of the reversed sum: 1024 positions along the second axis. -/
abbrev WinAll : Shape := ⟨4, ![1, 1024, 1, 1]⟩

/-- A position of that window is its second coordinate. -/
def winAllEquiv : WinAll.Idx ≃ Fin 1024 where
  toFun w := w 1
  invFun t := ix4 0 t 0 0
  left_inv w := by
    funext a
    match a with
    | 0 => exact Subsingleton.elim (α := Fin 1) _ _
    | 1 => rfl
    | 2 => exact Subsingleton.elim (α := Fin 1) _ _
    | 3 => exact Subsingleton.elim (α := Fin 1) _ _
  right_inv t := rfl

/-- A window of 1024 that starts at `i`, padded above, holds the positions from `i` on. -/
theorem sum_window_rev (f : Fin 1024 → EReal) (i : Fin 1024) :
    (∑ t : Fin 1024, if h : i.val + t.val < 1024 then f ⟨i.val + t.val, h⟩ else 0)
      = ∑ s : Fin 1024, if i.val ≤ s.val then f s else 0 := by
  have e : ∀ t : Fin 1024, (if h : i.val + t.val < 1024 then f ⟨i.val + t.val, h⟩ else 0)
      = if i.val + t.val < 1024 then f ⟨(i.val + t.val) % 1024, by omega⟩ else 0 := fun t => by
    split
    · exact congrArg f (Fin.ext (by show i.val + t.val = (i.val + t.val) % 1024; omega))
    · rfl
  rw [Finset.sum_congr rfl fun t _ => e t, ← Finset.sum_filter, ← Finset.sum_filter]
  refine Finset.sum_bij' (fun t _ => ⟨(i.val + t.val) % 1024, by omega⟩) (fun s _ => ⟨(s.val - i.val) % 1024, by omega⟩) ?_ ?_ ?_ ?_ ?_
  · intro t ht
    rw [Finset.mem_filter] at ht ⊢
    exact ⟨Finset.mem_univ _, by show i.val ≤ (i.val + t.val) % 1024; omega⟩
  · intro s hs
    rw [Finset.mem_filter] at hs ⊢
    exact ⟨Finset.mem_univ _, by show i.val + (s.val - i.val) % 1024 < 1024; omega⟩
  · intro t ht
    rw [Finset.mem_filter] at ht
    exact Fin.ext (by show ((i.val + t.val) % 1024 - i.val) % 1024 = t.val; omega)
  · intro s hs
    rw [Finset.mem_filter] at hs
    exact Fin.ext (by show (i.val + (s.val - i.val) % 1024) % 1024 = s.val; omega)
  · intro t ht; rfl

/-- The reversed sum along the tokens, read at an index: the sum from the token on. -/
theorem cumsum_rev_at (x : FVec Ideal S2x1024x6x192 .f32) (v : FVec Ideal S_ .f32) (hv : v (Shape.Idx.first h_S_) = 0)
    (b : Fin 2) (i : Fin 1024) (h : Fin 6) (c : Fin 192) :
    Host.reduceWindowAdd ![1, 1024, 1, 1] ![1, 1, 1, 1] ![0, 0, 0, 0] ![0, 1023, 0, 0] x v
        reduceWindows_S2x1024x6x192_S2x1024x6x192_w1s1p0_0_w1024s1p0_1023_w1s1p0_0_w1s1p0_0 h_S_ (ix4 b i h c)
      = ∑ t : Fin 1024, if i.val ≤ t.val then x (ix4 b t h c) else 0 := by
  unfold Host.reduceWindowAdd
  rw [Ideal.hostReduceWindowAdd_def, hv]
  unfold Ideal.hostReduceWindowAdd Host.reduceWindow
  dsimp only
  rw [foldl_add, zero_add, ← Fin.sum_univ_def]
  rw [← sum_window_rev (fun t => x (ix4 b t h c))]
  refine Fintype.sum_equiv (WinAll.rowMajor.symm.trans winAllEquiv) _ _ fun n' => ?_
  have w0 : (WinAll.rowMajor.symm n' 0).val = 0 := by have := (WinAll.rowMajor.symm n' 0).isLt; exact Nat.lt_one_iff.1 this
  have w2 : (WinAll.rowMajor.symm n' 2).val = 0 := by have := (WinAll.rowMajor.symm n' 2).isLt; exact Nat.lt_one_iff.1 this
  have w3 : (WinAll.rowMajor.symm n' 3).val = 0 := by have := (WinAll.rowMajor.symm n' 3).isLt; exact Nat.lt_one_iff.1 this
  have w1 : (WinAll.rowMajor.symm n' 1).val < 1024 := (WinAll.rowMajor.symm n' 1).isLt
  have e1 : (WinAll.rowMajor.symm.trans winAllEquiv) n' = WinAll.rowMajor.symm n' 1 := rfl
  split
  · next hin =>
    have h1 : i.val * 1 + (WinAll.rowMajor.symm n' 1).val - 0 < 1024 := (hin 1).2
    rw [dif_pos (by rw [e1]; omega)]
    refine congrArg x (funext fun a => Fin.ext ?_)
    match a with
    | 0 => show b.val * 1 + (WinAll.rowMajor.symm n' 0).val - 0 = b.val; omega
    | 1 => show i.val * 1 + (WinAll.rowMajor.symm n' 1).val - 0 = i.val + (WinAll.rowMajor.symm n' 1).val; omega
    | 2 => show h.val * 1 + (WinAll.rowMajor.symm n' 2).val - 0 = h.val; omega
    | 3 => show c.val * 1 + (WinAll.rowMajor.symm n' 3).val - 0 = c.val; omega
  · next hin =>
    rw [dif_neg]
    rw [e1]
    refine fun hle => hin fun a => ?_
    match a with
    | 0 => show 0 ≤ b.val * 1 + (WinAll.rowMajor.symm n' 0).val ∧ b.val * 1 + (WinAll.rowMajor.symm n' 0).val - 0 < 2; omega
    | 1 => show 0 ≤ i.val * 1 + (WinAll.rowMajor.symm n' 1).val ∧ i.val * 1 + (WinAll.rowMajor.symm n' 1).val - 0 < 1024; omega
    | 2 => show 0 ≤ h.val * 1 + (WinAll.rowMajor.symm n' 2).val ∧ h.val * 1 + (WinAll.rowMajor.symm n' 2).val - 0 < 6; omega
    | 3 => show 0 ≤ c.val * 1 + (WinAll.rowMajor.symm n' 3).val ∧ c.val * 1 + (WinAll.rowMajor.symm n' 3).val - 0 < 192; omega

end Cert.ReferenceWIdeal.Work
-- ==== Proof.Words.RefStage.lean ====
/- The reference's host lines, stage by stage: what each buffer holds, read at an index, in the words of `Maths`. -/
module

public import proofs.«01_k».proof.Proof.Words.CumSum
public import proofs.«01_k».proof.Proof.Maths
public import Idealize.ShloMosaic.Lib.StableHlo.RunRead

@[expose] public section

set_option maxRecDepth 16384

noncomputable section

open Idealize.ShloMosaic Idealize.ShloMosaic.TcCoe Idealize.SL.Sem
open Idealize.ShloMosaic.StableHlo (after)

namespace Cert.ReferenceWIdeal.Work

open Cert.ReferenceWIdeal Cert.ReferenceWIdeal.Gen Cert.Maths

/-- Buffers of a device. -/
local notation "Bufs" => Valuation τ sig (Elt Ideal)

/-- An array of tokens and channels holds `f`, chunk by chunk. -/
def OnTok (A : Args) (x : S2x16x64x6x192.Idx → EReal) (f : Blk → ℕ → Fin 64 → Fin 192 → EReal) : Prop :=
  ∀ (b : Fin 2) (n : Fin 16) (i : Fin 64) (h : Fin 6) (c : Fin 192), x (ix5 b n i h c) = f (A.blk b h) n.val i c

/-- An array of tokens and value columns holds `f`. -/
def OnVal (A : Args) (x : S2x16x64x6x384.Idx → EReal) (f : Blk → ℕ → Fin 64 → Fin 384 → EReal) : Prop :=
  ∀ (b : Fin 2) (n : Fin 16) (i : Fin 64) (h : Fin 6) (e : Fin 384), x (ix5 b n i h e) = f (A.blk b h) n.val i e

/-- An array of pairs of tokens of a chunk holds `f`. -/
def OnPair (A : Args) (x : S2x16x6x64x64.Idx → EReal) (f : Blk → ℕ → Fin 64 → Fin 64 → EReal) : Prop :=
  ∀ (b : Fin 2) (n : Fin 16) (h : Fin 6) (i j : Fin 64), x (ix5 b n h i j) = f (A.blk b h) n.val i j

/-- An array of states, a chunk first, holds `f`. -/
def OnState (A : Args) (x : S16x2x6x192x384.Idx → EReal) (f : Blk → ℕ → Fin 192 → Fin 384 → EReal) : Prop :=
  ∀ (b : Fin 2) (n : Fin 16) (h : Fin 6) (c : Fin 192) (e : Fin 384), x (ix5 n b h c e) = f (A.blk b h) n.val c e

/-- Such an array of channels, at an index. -/
theorem OnTok.at {A : Args} {x f} (H : OnTok A x f) (b n i h c) : x (ix5 b n i h c) = f (A.blk b h) n.val i c := H b n i h c
/-- Such an array of values, at an index. -/
theorem OnVal.at {A : Args} {x f} (H : OnVal A x f) (b n i h e) : x (ix5 b n i h e) = f (A.blk b h) n.val i e := H b n i h e
/-- Such an array of token pairs, at an index. -/
theorem OnPair.at {A : Args} {x f} (H : OnPair A x f) (b n h i j) : x (ix5 b n h i j) = f (A.blk b h) n.val i j := H b n h i j
/-- Such an array of states, at an index. -/
theorem OnState.at {A : Args} {x f} (H : OnState A x f) (b n h c e) : x (ix5 n b h c e) = f (A.blk b h) n.val c e := H b n h c e

/-- A token by its chunk and place. -/
theorem tok_eq (n : Fin 16) (i : Fin 64) (h : n.val * 64 + i.val < 1024) : (⟨n.val * 64 + i.val, h⟩ : Fin 1024) = tok n.val i :=
  Fin.ext (by show n.val * 64 + i.val = 64 * (n.val % 16) + i.val; omega)

/-- A chunk by its number. -/
theorem chunk_eq (n : Fin 16) : chunk n.val = n := Fin.ext (Nat.mod_eq_of_lt n.isLt)

/-- A value channel by its group of 32 and its place there. -/
theorem block32_eq (e : Fin 384) (h : e.val / 32 * 32 + e.val % 32 < 384) : (⟨e.val / 32 * 32 + e.val % 32, h⟩ : Fin 384) = e :=
  Fin.ext (by show e.val / 32 * 32 + e.val % 32 = e.val; omega)

/-- The values' scale of a chunk. -/
theorem vs_eq (A : Args) (b : Fin 2) (n : Fin 16) (h : Fin 6) : A.vs (ix3 b n h) = (A.blk b h).vs n.val := by
  unfold Args.blk
  simp only [chunk_eq]

/-- The causal comparison of two places. -/
theorem sge_at : ∀ i j : Fin 64, IntOp.cmpi .sge (BitVec.ofNat 32 i.val) (BitVec.ofNat 32 j.val) = if j.val ≤ i.val then 1#1 else 0#1 := by
  decide +kernel

/-- The causal mask of a chunk chooses by the order of the tokens. -/
theorem select_sge {α : Type} (i j : Fin 64) (a b : α) :
    Scalar.select (IntOp.cmpi .sge (BitVec.ofNat 32 i.val) (BitVec.ofNat 32 j.val)) a b = if j.val ≤ i.val then a else b := by
  rw [sge_at]
  split <;> rfl

/-- Before the first line: the widened codes and the other arguments. -/
structure Stage0 (A : Args) (W : Bufs) : Prop where
  q : W (Proc.devRef .tc main_v4_0) = A.q
  k : W (Proc.devRef .tc main_v4_1) = A.k
  v : W (Proc.devRef .tc main_v4_2) = A.v
  o : W (Proc.devRef .tc main_v4_3) = A.o
  qs : W (Proc.devRef .tc main_arg2) = A.qs
  ks : W (Proc.devRef .tc main_arg3) = A.ks
  vs : W (Proc.devRef .tc main_arg5) = A.vs
  ds : W (Proc.devRef .tc main_arg7) = A.ds
  g : W (Proc.devRef .tc main_arg8) = A.g

/-- After the running sums: the scaled queries and keys, the sums of the gates, and what is still to be read. -/
structure Stage1 (A : Args) (W : Bufs) : Prop where
  v : W (Proc.devRef .tc main_v4_2) = A.v
  o : W (Proc.devRef .tc main_v4_3) = A.o
  vs : W (Proc.devRef .tc main_arg5) = A.vs
  ds : W (Proc.devRef .tc main_arg7) = A.ds
  q : OnTok A (W (Proc.devRef .tc main_v8)) Blk.q
  k : OnTok A (W (Proc.devRef .tc main_v12)) Blk.k
  B : OnTok A (W (Proc.devRef .tc main_v14)) Blk.B

/-- The first lines: scaling, and the running sums. -/
theorem stage1 (A : Args) (W : Bufs) (S : Stage0 A W) : Stage1 A (after (hostOps1 ++ hostOps1_1) W) where
  v := by after_reads_simp; exact S.v
  o := by after_reads_simp; exact S.o
  vs := by after_reads_simp; exact S.vs
  ds := by after_reads_simp; exact S.ds
  q b n i h c := by
    after_reads_simp
    rw [S.q, S.qs]
    pointwise
    rw [tok_eq]
    unfold Args.blk
    simp only [chunk_eq]
  k b n i h c := by
    after_reads_simp
    rw [S.k, S.ks]
    pointwise
    rw [tok_eq]
    unfold Args.blk
    simp only [chunk_eq]
  B b n i h c := by
    after_reads_simp
    rw [S.g]
    simp -implicitDefEqProofs only [StableHlo.TRef.toBuf, StableHlo.TRef.ofBuf, cast_cast, cast_eq, id_eq]
    refine (cumsum_at _ _ (by pointwise) b n i h c).trans ?_
    unfold Blk.B Args.blk
    refine Finset.sum_congr rfl fun t _ => ?_
    pointwise
    simp only [tok_eq]

/-- Before the states are run through: everything a chunk computes by itself. -/
structure Stage2 (A : Args) (W : Bufs) : Prop where
  vs : W (Proc.devRef .tc main_arg5) = A.vs
  q : OnTok A (W (Proc.devRef .tc main_v8)) Blk.q
  k : OnTok A (W (Proc.devRef .tc main_v12)) Blk.k
  pos : OnTok A (W (Proc.devRef .tc main_v17)) fun M n i c => Ideal.exp (M.B n i c)
  neg : OnTok A (W (Proc.devRef .tc main_v19)) fun M n i c => Ideal.exp (-M.B n i c)
  fin : OnTok A (W (Proc.devRef .tc main_v23)) fun M n i c => Ideal.exp (M.E n c - M.B n i c)
  qg : OnTok A (W (Proc.devRef .tc main_v27)) Blk.qg
  kg : OnTok A (W (Proc.devRef .tc main_v29)) Blk.kg
  kd : OnTok A (W (Proc.devRef .tc main_v31)) Blk.kd
  v : OnVal A (W (Proc.devRef .tc main_v32)) Blk.v
  d : OnVal A (W (Proc.devRef .tc main_v38)) Blk.d
  a : OnPair A (W (Proc.devRef .tc main_v52)) Blk.a
  p : OnPair A (W (Proc.devRef .tc main_v54)) Blk.p
  u : OnState A (W (Proc.devRef .tc main_v62)) Blk.u
  w : OnState A (W (Proc.devRef .tc main_v63)) Blk.w
  decay : OnState A (W (Proc.devRef .tc main_v64)) fun M n c _ => Ideal.exp (M.E n c)

/-- The lines between the running sums and the states. -/
abbrev lines2 : List (HloOp τ sig (Elt Ideal)) := hostOps1_2 ++ hostOps1_3 ++ hostOps1_4 ++ hostOps1_5 ++ hostOps1_6

/-- The growth. -/
theorem pos2 (A : Args) (W : Bufs) (S : Stage1 A W) :
    OnTok A (after lines2 W (Proc.devRef .tc main_v17)) fun M n i c => Ideal.exp (M.B n i c) := fun b n i h c => by
  after_reads_simp
  pointwise
  rw [S.B.at]

/-- The inverse growth. -/
theorem neg2 (A : Args) (W : Bufs) (S : Stage1 A W) :
    OnTok A (after lines2 W (Proc.devRef .tc main_v19)) fun M n i c => Ideal.exp (-M.B n i c) := fun b n i h c => by
  after_reads_simp
  pointwise
  rw [S.B.at]

/-- The decay to the chunk's end. -/
theorem fin2 (A : Args) (W : Bufs) (S : Stage1 A W) :
    OnTok A (after lines2 W (Proc.devRef .tc main_v23)) fun M n i c => Ideal.exp (M.E n c - M.B n i c) := fun b n i h c => by
  after_reads_simp
  pointwise
  rw [S.B.at, S.B.at]
  rfl

/-- The grown queries. -/
theorem qg2 (A : Args) (W : Bufs) (S : Stage1 A W) : OnTok A (after lines2 W (Proc.devRef .tc main_v27)) Blk.qg := fun b n i h c => by
  after_reads_simp
  pointwise
  rw [S.B.at, S.q.at]
  rfl

/-- The shrunk keys. -/
theorem kg2 (A : Args) (W : Bufs) (S : Stage1 A W) : OnTok A (after lines2 W (Proc.devRef .tc main_v29)) Blk.kg := fun b n i h c => by
  after_reads_simp
  pointwise
  rw [S.B.at, S.k.at]
  rfl

/-- The decayed keys. -/
theorem kd2 (A : Args) (W : Bufs) (S : Stage1 A W) : OnTok A (after lines2 W (Proc.devRef .tc main_v31)) Blk.kd := fun b n i h c => by
  after_reads_simp
  pointwise
  rw [S.B.at, S.B.at, S.k.at]
  rfl

/-- The values, by chunks. -/
theorem v2 (A : Args) (W : Bufs) (S : Stage1 A W) : OnVal A (after lines2 W (Proc.devRef .tc main_v32)) Blk.v := fun b n i h e => by
  after_reads_simp
  rw [S.v]
  pointwise
  rw [tok_eq]
  rfl

/-- The scaled output gradient, by chunks. -/
theorem d2 (A : Args) (W : Bufs) (S : Stage1 A W) : OnVal A (after lines2 W (Proc.devRef .tc main_v38)) Blk.d := fun b n i h e => by
  after_reads_simp
  rw [S.o, S.ds]
  pointwise
  simp only [tok_eq, block32_eq]
  rfl

/-- The scores of output gradient and values, causal. -/
theorem a2 (A : Args) (W : Bufs) (S : Stage1 A W) : OnPair A (after lines2 W (Proc.devRef .tc main_v52)) Blk.a := fun b n h i j => by
  after_reads_simp
  simp -implicitDefEqProofs only [StableHlo.TRef.toBuf, StableHlo.TRef.ofBuf, cast_cast, cast_eq, id_eq]
  rw [S.o, S.ds, S.v, S.vs]
  pointwise
  simp only [tok_eq, block32_eq, select_sge, vs_eq]
  rfl

/-- The scores of queries and keys, causal. -/
theorem p2 (A : Args) (W : Bufs) (S : Stage1 A W) : OnPair A (after lines2 W (Proc.devRef .tc main_v54)) Blk.p := fun b n h i j => by
  after_reads_simp
  simp -implicitDefEqProofs only [StableHlo.TRef.toBuf, StableHlo.TRef.ofBuf, cast_cast, cast_eq, id_eq]
  pointwise
  simp only [select_sge, S.q.at, S.k.at, S.B.at]
  rfl

/-- What each chunk adds to the state. -/
theorem u2 (A : Args) (W : Bufs) (S : Stage1 A W) : OnState A (after lines2 W (Proc.devRef .tc main_v62)) Blk.u := fun b n h c e => by
  after_reads_simp
  rw [S.v, S.vs]
  pointwise
  simp only [tok_eq, vs_eq, S.k.at, S.B.at]
  rfl

/-- What each chunk adds to the state gradient. -/
theorem w2 (A : Args) (W : Bufs) (S : Stage1 A W) : OnState A (after lines2 W (Proc.devRef .tc main_v63)) Blk.w := fun b n h c e => by
  after_reads_simp
  rw [S.o, S.ds]
  pointwise
  simp only [tok_eq, block32_eq, S.q.at, S.B.at]
  rfl

/-- Each chunk's decay, on every value channel. -/
theorem decay2 (A : Args) (W : Bufs) (S : Stage1 A W) :
    OnState A (after lines2 W (Proc.devRef .tc main_v64)) fun M n c _ => Ideal.exp (M.E n c) := fun b n h c e => by
  after_reads_simp
  pointwise
  rw [S.B.at]
  rfl

/-- The lines up to the states, together. -/
theorem stage2 (A : Args) (W : Bufs) (S : Stage1 A W) : Stage2 A (after lines2 W) where
  vs := by after_reads_simp; exact S.vs
  q := fun b n i h c => by after_reads_simp; exact S.q b n i h c
  k := fun b n i h c => by after_reads_simp; exact S.k b n i h c
  pos := pos2 A W S
  neg := neg2 A W S
  fin := fin2 A W S
  qg := qg2 A W S
  kg := kg2 A W S
  kd := kd2 A W S
  v := v2 A W S
  d := d2 A W S
  a := a2 A W S
  p := p2 A W S
  u := u2 A W S
  w := w2 A W S
  decay := decay2 A W S

end Cert.ReferenceWIdeal.Work
-- ==== Proof.Words.RefStates.lean ====
/- The reference's states: the two recurrences over the chunks, written out chunk by chunk and joined. -/
module

public import proofs.«01_k».proof.Proof.Words.RefStage

@[expose] public section

set_option maxRecDepth 16384

noncomputable section

open Idealize.ShloMosaic Idealize.ShloMosaic.TcCoe Idealize.SL.Sem
open Idealize.ShloMosaic.StableHlo (after)

namespace Cert.ReferenceWIdeal.Work

open Cert.ReferenceWIdeal Cert.ReferenceWIdeal.Gen Cert.Maths

/-- Buffers of a device. -/
local notation "Bufs" => Valuation τ sig (Elt Ideal)

/-- Sixteen states joined, read at an index: the state of the chunk. -/
theorem concat_at (x0 x1 x2 x3 x4 x5 x6 x7 x8 x9 x10 x11 x12 x13 x14 x15 : FVec Ideal S1x2x6x192x384 .f32) (f : ℕ → EReal) (b : Fin 2) (h : Fin 6) (c : Fin 192) (e : Fin 384)
    (h0 : x0 (ix5 0 b h c e) = f 0) (h1 : x1 (ix5 0 b h c e) = f 1) (h2 : x2 (ix5 0 b h c e) = f 2) (h3 : x3 (ix5 0 b h c e) = f 3) (h4 : x4 (ix5 0 b h c e) = f 4) (h5 : x5 (ix5 0 b h c e) = f 5) (h6 : x6 (ix5 0 b h c e) = f 6) (h7 : x7 (ix5 0 b h c e) = f 7) (h8 : x8 (ix5 0 b h c e) = f 8) (h9 : x9 (ix5 0 b h c e) = f 9) (h10 : x10 (ix5 0 b h c e) = f 10) (h11 : x11 (ix5 0 b h c e) = f 11) (h12 : x12 (ix5 0 b h c e) = f 12) (h13 : x13 (ix5 0 b h c e) = f 13) (h14 : x14 (ix5 0 b h c e) = f 14) (h15 : x15 (ix5 0 b h c e) = f 15) (n : Fin 16) :
    (concatenate S16x2x6x192x384 0 [⟨S1x2x6x192x384, x0⟩, ⟨S1x2x6x192x384, x1⟩, ⟨S1x2x6x192x384, x2⟩, ⟨S1x2x6x192x384, x3⟩, ⟨S1x2x6x192x384, x4⟩, ⟨S1x2x6x192x384, x5⟩, ⟨S1x2x6x192x384, x6⟩, ⟨S1x2x6x192x384, x7⟩, ⟨S1x2x6x192x384, x8⟩, ⟨S1x2x6x192x384, x9⟩, ⟨S1x2x6x192x384, x10⟩, ⟨S1x2x6x192x384, x11⟩, ⟨S1x2x6x192x384, x12⟩, ⟨S1x2x6x192x384, x13⟩, ⟨S1x2x6x192x384, x14⟩, ⟨S1x2x6x192x384, x15⟩]
      concatenates_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S1x2x6x192x384_S16x2x6x192x384_d0 : FVec Ideal S16x2x6x192x384 .f32) (ix5 n b h c e) = f n.val := by
  fin_cases n <;> (pointwise; assumption)

set_option maxHeartbeats 4000000 in
/-- The states on entry to the chunks, walked forwards from zero. -/
theorem states_in (A : Args) (W : Bufs) (S : Stage2 A W) : OnState A (after hostOps1_7 W (Proc.devRef .tc main_v65)) Blk.S := fun b n h c e => by
  after_reads_simp
  simp -implicitDefEqProofs only [StableHlo.TRef.toBuf, cast_cast, cast_eq]
  refine (concat_at _ _ _ _ _ _ _ _ _ _ _ _ _ _ _ _ (fun k => (A.blk b h).S k c e) b h c e ?_ ?_ ?_ ?_ ?_ ?_ ?_ ?_ ?_ ?_ ?_ ?_ ?_ ?_ ?_ ?_ n)
  all_goals
    dsimp only [Matrix.cons_val]
    after_reads_simp
    simp -implicitDefEqProofs only [StableHlo.TRef.toBuf, StableHlo.TRef.ofBuf, cast_cast, cast_eq, id_eq]
    pointwise
    try simp only [S.decay.at, S.u.at]
    rfl

set_option maxHeartbeats 4000000 in
/-- The state gradients on leaving the chunks, walked backwards from zero. -/
theorem states_out (A : Args) (W : Bufs) (S : Stage2 A W) : OnState A (after hostOps1_8 W (Proc.devRef .tc main_v66)) Blk.T := fun b n h c e => by
  after_reads_simp
  simp -implicitDefEqProofs only [StableHlo.TRef.toBuf, cast_cast, cast_eq]
  refine (concat_at _ _ _ _ _ _ _ _ _ _ _ _ _ _ _ _ (fun k => (A.blk b h).T k c e) b h c e ?_ ?_ ?_ ?_ ?_ ?_ ?_ ?_ ?_ ?_ ?_ ?_ ?_ ?_ ?_ ?_ n)
  all_goals
    dsimp only [Matrix.cons_val]
    after_reads_simp
    simp -implicitDefEqProofs only [StableHlo.TRef.toBuf, StableHlo.TRef.ofBuf, cast_cast, cast_eq, id_eq]
    pointwise
    try simp only [S.decay.at, S.w.at]
    rfl

/-- After the recurrences: the states beside what the last lines still read. -/
structure Stage3 (A : Args) (W : Bufs) : Prop where
  vs : W (Proc.devRef .tc main_arg5) = A.vs
  q : OnTok A (W (Proc.devRef .tc main_v8)) Blk.q
  k : OnTok A (W (Proc.devRef .tc main_v12)) Blk.k
  pos : OnTok A (W (Proc.devRef .tc main_v17)) fun M n i c => Ideal.exp (M.B n i c)
  neg : OnTok A (W (Proc.devRef .tc main_v19)) fun M n i c => Ideal.exp (-M.B n i c)
  fin : OnTok A (W (Proc.devRef .tc main_v23)) fun M n i c => Ideal.exp (M.E n c - M.B n i c)
  qg : OnTok A (W (Proc.devRef .tc main_v27)) Blk.qg
  kg : OnTok A (W (Proc.devRef .tc main_v29)) Blk.kg
  kd : OnTok A (W (Proc.devRef .tc main_v31)) Blk.kd
  v : OnVal A (W (Proc.devRef .tc main_v32)) Blk.v
  d : OnVal A (W (Proc.devRef .tc main_v38)) Blk.d
  a : OnPair A (W (Proc.devRef .tc main_v52)) Blk.a
  p : OnPair A (W (Proc.devRef .tc main_v54)) Blk.p
  s : OnState A (W (Proc.devRef .tc main_v65)) Blk.S
  t : OnState A (W (Proc.devRef .tc main_v66)) Blk.T

/-- The two recurrences. -/
abbrev lines3 : List (HloOp τ sig (Elt Ideal)) := hostOps1_7 ++ hostOps1_8

/-- A list of lines after another. -/
theorem after_append (l₁ l₂ : List (HloOp τ sig (Elt Ideal))) (W : Bufs) : after (l₁ ++ l₂) W = after l₂ (after l₁ W) := by
  induction l₁ generalizing W with
  | nil => rfl
  | cons op l ih => exact ih _

/-- The forward recurrence writes none of the arrays it reads. -/
theorem stage2_kept (A : Args) (W : Bufs) (S : Stage2 A W) : Stage2 A (after hostOps1_7 W) where
  vs := by after_reads_simp; exact S.vs
  q := by after_reads_simp; exact S.q
  k := by after_reads_simp; exact S.k
  pos := by after_reads_simp; exact S.pos
  neg := by after_reads_simp; exact S.neg
  fin := by after_reads_simp; exact S.fin
  qg := by after_reads_simp; exact S.qg
  kg := by after_reads_simp; exact S.kg
  kd := by after_reads_simp; exact S.kd
  v := by after_reads_simp; exact S.v
  d := by after_reads_simp; exact S.d
  a := by after_reads_simp; exact S.a
  p := by after_reads_simp; exact S.p
  u := by after_reads_simp; exact S.u
  w := by after_reads_simp; exact S.w
  decay := by after_reads_simp; exact S.decay

/-- The recurrences, together. -/
theorem stage3 (A : Args) (W : Bufs) (S : Stage2 A W) : Stage3 A (after lines3 W) where
  vs := by after_reads_simp; exact S.vs
  q := by after_reads_simp; exact S.q
  k := by after_reads_simp; exact S.k
  pos := by after_reads_simp; exact S.pos
  neg := by after_reads_simp; exact S.neg
  fin := by after_reads_simp; exact S.fin
  qg := by after_reads_simp; exact S.qg
  kg := by after_reads_simp; exact S.kg
  kd := by after_reads_simp; exact S.kd
  v := by after_reads_simp; exact S.v
  d := by after_reads_simp; exact S.d
  a := by after_reads_simp; exact S.a
  p := by after_reads_simp; exact S.p
  s := by
    refine (congrArg (fun x => OnState A x Blk.S) ?_).mp (states_in A W S)
    rw [after_append]
    generalize after hostOps1_7 W = X
    after_reads_simp
  t := by rw [after_append]; exact states_out A _ (stage2_kept A W S)

end Cert.ReferenceWIdeal.Work
-- ==== Proof.Words.RefGrads.lean ====
/- The reference's last lines: the gradient of the gates from the states. -/
module

public import proofs.«01_k».proof.Proof.Words.RefStates
public import proofs.«01_k».proof.Proof.Words.Sums

@[expose] public section

set_option maxRecDepth 16384

noncomputable section

open Idealize.ShloMosaic Idealize.ShloMosaic.TcCoe Idealize.SL.Sem
open Idealize.ShloMosaic.StableHlo (after)

namespace Cert.ReferenceWIdeal.Work

open Cert.ReferenceWIdeal Cert.ReferenceWIdeal.Gen Cert.Maths

/-- Buffers of a device. -/
local notation "Bufs" => Valuation τ sig (Elt Ideal)

/-- The gradient of the queries with its products turned round. -/
theorem dq_turned (M : Blk) (n : ℕ) (i : Fin 64) (c : Fin 192) :
    scale * Ideal.exp (M.B n i c) * (∑ e : Fin 384, M.S n c e * M.d n i e + ∑ j : Fin 64, M.kg n j c * M.a n i j) = M.dq n i c := by
  unfold Blk.dq
  simp only [mul_comm (M.S _ _ _), mul_comm (M.kg _ _ _)]

/-- The gradient of the keys with its products turned round. -/
theorem dk_turned (M : Blk) (n : ℕ) (j : Fin 64) (c : Fin 192) :
    Ideal.exp (M.E n c - M.B n j c) * (M.vs n * ∑ e : Fin 384, M.T n c e * M.v n j e)
      + Ideal.exp (-M.B n j c) * ∑ i : Fin 64, M.qg n i c * M.a n i j = M.dk n j c := by
  unfold Blk.dk
  simp only [mul_comm (M.T _ _ _), mul_comm (M.qg _ _ _)]

/-- The gradient of the running sums, token by token. -/
theorem db4 (A : Args) (W : Bufs) (S : Stage3 A W) : after hostOps1_9 W (Proc.devRef .tc main_v95) = A.db := by
  after_reads_simp
  rw [S.vs]
  funext y; idx_vars y
  pointwise
  simp only [S.s.at, S.d.at, S.kg.at, S.a.at, S.pos.at, S.t.at, S.v.at, S.qg.at, S.neg.at, S.fin.at, S.q.at, S.k.at, vs_eq]
  exact congrArg₂ (fun x z => _ * x - _ * z) (dq_turned _ _ _ _) (dk_turned _ _ _ _)

/-- The reversed sums of the fourth result and the results' last casts. -/
abbrev lines5 : List (HloOp τ sig (Elt Ideal)) := hostOps1_10 ++ hostOps1_11

/-- The fourth result: the reversed sums. -/
theorem dg5 (A : Args) (W : Bufs) (S : W (Proc.devRef .tc main_v95) = A.db) : after lines5 W (Proc.devRef .tc main_v96) = A.dg := by
  after_reads_simp
  rw [S]
  simp -implicitDefEqProofs only [StableHlo.TRef.toBuf, StableHlo.TRef.ofBuf, cast_cast, cast_eq, id_eq]
  funext y; idx_vars y
  exact cumsum_rev_at _ _ (by pointwise) _ _ _ _

/-- All of the reference's host lines, from the widened codes to the fourth result. -/
theorem results (A : Args) (W : Bufs) (S : Stage0 A W) :
    after ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten W (Proc.devRef .tc main_v96) = A.dg := by
  have e : ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten
      = (((((hostOps1 ++ hostOps1_1) ++ lines2) ++ lines3) ++ hostOps1_9) ++ lines5) := by
    simp only [List.flatten_cons, List.flatten_nil, List.append_nil, List.append_assoc]
  rw [e, after_append, after_append, after_append, after_append]
  exact dg5 A _ (db4 A _ (stage3 A _ (stage2 A _ (stage1 A W S))))

end Cert.ReferenceWIdeal.Work
-- ==== Proof.Words.RefRun.lean ====
/- The reference's run: its fourth result is the gradient of the gates. -/
module

public import proofs.«01_k».proof.Proof.Words.RefGrads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.StableHlo (after)

namespace Cert.ReferenceWIdeal.Work

open Cert.ReferenceWIdeal Cert.ReferenceWIdeal.Gen Cert.Maths

variable (m : (ℓ : Loc nD τ sig) → Buf (Elt Ideal) ℓ)

/-- The arguments as launched, words read as codes. -/
def args (c : Dev nD) : Args where
  q := e4m3 (s := S2x1024x6x192) (m ((c : Thread nD τ).loc main_arg0))
  k := e4m3 (s := S2x1024x6x192) (m ((c : Thread nD τ).loc main_arg1))
  qs := m ((c : Thread nD τ).loc main_arg2)
  ks := m ((c : Thread nD τ).loc main_arg3)
  v := e4m3 (s := S2x1024x6x384) (m ((c : Thread nD τ).loc main_arg4))
  vs := m ((c : Thread nD τ).loc main_arg5)
  o := e5m2 (s := S2x1024x6x384) (m ((c : Thread nD τ).loc main_arg6))
  ds := m ((c : Thread nD τ).loc main_arg7)
  g := m ((c : Thread nD τ).loc main_arg8)

/-- The codes the region reads: argument 0's words. -/
theorem V_v0 (c : Dev nD) : V m c main_v0 = (args m c).q := by
  simp only [V, V0, List.flatten_cons, List.flatten_nil, List.append_nil]
  after_reads_simp
  rfl

/-- The codes the region reads: argument 1's words. -/
theorem V_v1 (c : Dev nD) : V m c main_v1 = (args m c).k := by
  simp only [V, V0, List.flatten_cons, List.flatten_nil, List.append_nil]
  after_reads_simp
  rfl

/-- The codes the region reads: argument 4's words. -/
theorem V_v2 (c : Dev nD) : V m c main_v2 = (args m c).v := by
  simp only [V, V0, List.flatten_cons, List.flatten_nil, List.append_nil]
  after_reads_simp
  rfl

/-- The codes the region reads: argument 6's words. -/
theorem V_v3 (c : Dev nD) : V m c main_v3 = (args m c).o := by
  simp only [V, V0, List.flatten_cons, List.flatten_nil, List.append_nil]
  after_reads_simp
  rfl

/-- The block of window 0: those codes where the window lies. -/
theorem iblk_q (c : Dev nD) (t : Fin cfg0.N) : iblk m c 0 t = fun y => (args m c).q (((cfg0.win 0).blk t).view.emb y) :=
  funext fun _ => congrFun (V_v0 m c) _

/-- The widened codes of the queries. -/
theorem arr4 (c : Dev nD) : (dats m 0 c).arrAt 4 cfg0.N = (args m c).q := by
  refine (dats m 0 c).arrAt_eq_of_covers 4 _ (by decide +kernel) fun t hf y => ?_
  rw [after0_4]
  unfold out0_4
  rw [View.canon_unit_zero (by decide), View.ld_unit_zero (by decide), iblk_q]
  unfold k0_pay1
  rw [shapeCast_self]
  refine congrArg (args m c).q (funext fun a => Fin.ext ?_)
  match a with
  | 0 | 1 | 2 | 3 => rfl

/-- The block of window 1: those codes where the window lies. -/
theorem iblk_k (c : Dev nD) (t : Fin cfg0.N) : iblk m c 1 t = fun y => (args m c).k (((cfg0.win 1).blk t).view.emb y) :=
  funext fun _ => congrFun (V_v1 m c) _

/-- The widened codes of the keys. -/
theorem arr5 (c : Dev nD) : (dats m 0 c).arrAt 5 cfg0.N = (args m c).k := by
  refine (dats m 0 c).arrAt_eq_of_covers 5 _ (by decide +kernel) fun t hf y => ?_
  rw [after0_5]
  unfold out0_5
  rw [View.canon_unit_zero (by decide), View.ld_unit_zero (by decide), iblk_k]
  unfold k0_pay2
  rw [shapeCast_self]
  refine congrArg (args m c).k (funext fun a => Fin.ext ?_)
  match a with
  | 0 | 1 | 2 | 3 => rfl

/-- The block of window 2: those codes where the window lies. -/
theorem iblk_v (c : Dev nD) (t : Fin cfg0.N) : iblk m c 2 t = fun y => (args m c).v (((cfg0.win 2).blk t).view.emb y) :=
  funext fun _ => congrFun (V_v2 m c) _

/-- The widened codes of the values. -/
theorem arr6 (c : Dev nD) : (dats m 0 c).arrAt 6 cfg0.N = (args m c).v := by
  refine (dats m 0 c).arrAt_eq_of_covers 6 _ (by decide +kernel) fun t hf y => ?_
  rw [after0_6]
  unfold out0_6
  rw [View.canon_unit_zero (by decide), View.ld_unit_zero (by decide), iblk_v]
  unfold k0_pay3
  rw [shapeCast_self]
  refine congrArg (args m c).v (funext fun a => Fin.ext ?_)
  match a with
  | 0 | 1 | 2 | 3 => rfl

/-- The block of window 3: those codes where the window lies. -/
theorem iblk_o (c : Dev nD) (t : Fin cfg0.N) : iblk m c 3 t = fun y => (args m c).o (((cfg0.win 3).blk t).view.emb y) :=
  funext fun _ => congrFun (V_v3 m c) _

/-- The widened codes of the output gradients. -/
theorem arr7 (c : Dev nD) : (dats m 0 c).arrAt 7 cfg0.N = (args m c).o := by
  refine (dats m 0 c).arrAt_eq_of_covers 7 _ (by decide +kernel) fun t hf y => ?_
  rw [after0_7]
  unfold out0_7
  rw [View.canon_unit_zero (by decide), View.ld_unit_zero (by decide), iblk_o]
  unfold k0_pay4
  rw [shapeCast_self]
  refine congrArg (args m c).o (funext fun a => Fin.ext ?_)
  match a with
  | 0 | 1 | 2 | 3 => rfl

/-- Different windows stage different arrays. -/
theorem arrRef_injective : Function.Injective (Pipeline.arrRef (cfgs 0).spec) := by decide

/-- What the host lines start from: the widened codes beside the arguments. -/
theorem stage0 (c : Dev nD) :
    Stage0 (args m c) (Pipeline.withArrays (cfgs 0).spec c (V0 m c) fun w => (dats m 0 c).arrAt w (cfgs 0).N) where
  q := (Pipeline.withArrays_arr (cfgs 0).spec arrRef_injective c (V0 m c) _ 4).trans (arr4 m c)
  k := (Pipeline.withArrays_arr (cfgs 0).spec arrRef_injective c (V0 m c) _ 5).trans (arr5 m c)
  v := (Pipeline.withArrays_arr (cfgs 0).spec arrRef_injective c (V0 m c) _ 6).trans (arr6 m c)
  o := (Pipeline.withArrays_arr (cfgs 0).spec arrRef_injective c (V0 m c) _ 7).trans (arr7 m c)
  qs := Pipeline.withArrays_of_ne (cfgs 0).spec c (V0 m c) _ main_arg2 (by exact (by decide : ∀ w, Pipeline.arrRef spec0 w ≠ main_arg2))
  ks := Pipeline.withArrays_of_ne (cfgs 0).spec c (V0 m c) _ main_arg3 (by exact (by decide : ∀ w, Pipeline.arrRef spec0 w ≠ main_arg3))
  vs := Pipeline.withArrays_of_ne (cfgs 0).spec c (V0 m c) _ main_arg5 (by exact (by decide : ∀ w, Pipeline.arrRef spec0 w ≠ main_arg5))
  ds := Pipeline.withArrays_of_ne (cfgs 0).spec c (V0 m c) _ main_arg7 (by exact (by decide : ∀ w, Pipeline.arrRef spec0 w ≠ main_arg7))
  g := Pipeline.withArrays_of_ne (cfgs 0).spec c (V0 m c) _ main_arg8 (by exact (by decide : ∀ w, Pipeline.arrRef spec0 w ≠ main_arg8))

/-- The fourth result after the run. -/
theorem tail (c : Dev nD) :
    after ([hostOps1, hostOps1_1, hostOps1_2, hostOps1_3, hostOps1_4, hostOps1_5, hostOps1_6, hostOps1_7, hostOps1_8, hostOps1_9,
      hostOps1_10, hostOps1_11] : List (List (HloOp τ sig (Elt Ideal)))).flatten
      (Pipeline.withArrays (cfgs 0).spec c (V0 m c) fun w => (dats m 0 c).arrAt w (cfgs 0).N) (Proc.devRef .tc main_v96) = (args m c).dg :=
  results _ _ (stage0 m c)

/-- The reference runs, leaves its arguments unchanged, and its fourth result is the gradient of the gates. -/
theorem run (ρ : Dev nD → PrngReg) : θ_run defs (onTc (τ := τ) main) ⟨m, fun _ => 0, ρ⟩ fun r => ∀ c : Dev nD,
    r.2.mem ((c.tc : Thread nD τ).loc main_v96) = (args m c).dg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v96 (Pipeline.mem_restRefs_of main_v96 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.ReferenceWIdeal.Work
-- ==== Proof.Words.Codes.lean ====
/- Which words are codes of finite numbers. -/
module

public import proofs.«01_k».proof.Proof.Words.Sums

@[expose] public section

noncomputable section

open Idealize.ShloMosaic

namespace Cert.Maths

/-- A word of the e4m3 format is a finite number but for the two of all ones below the sign. -/
theorem fine_e4m3 (w : BitVec 8) (h1 : w ≠ 127#8) (h2 : w ≠ 255#8) : Fine (Ideal.ofBits .fp8e4m3 w) := by
  have h : ∀ w : BitVec 8, w ≠ 127#8 → w ≠ 255#8 → ¬ ((w.extractLsb' 3 4).toNat = 15 ∧ (w.extractLsb' 0 3).toNat = 7) := by decide +kernel
  show Fine (Ideal.e4m3fn w)
  unfold Ideal.e4m3fn
  dsimp only
  rw [if_neg (h w h1 h2)]
  split
  · exact ⟨_, rfl⟩
  · exact ⟨_, rfl⟩

/-- A word of the e5m2 format is a finite number when its exponent is not all ones. -/
theorem fine_e5m2 (w : BitVec 8) (h0 : if w.toNat < 128 then w.toNat < 124 else w.toNat < 252) : Fine (Ideal.ofBits .fp8e5m2 w) := by
  have h : ∀ w : BitVec 8, (if w.toNat < 128 then w.toNat < 124 else w.toNat < 252) → ¬ (w.extractLsb' 2 5).toNat = 2 ^ 5 - 1 := by decide +kernel
  show Fine (Ideal.ieee 5 2 w)
  unfold Ideal.ieee
  dsimp only
  rw [if_neg (h w h0)]
  split
  · exact ⟨_, rfl⟩
  · exact ⟨_, rfl⟩

end Cert.Maths
-- ==== Proof.Words.Conditions.lean ====
/- The precondition of the value claim on words, read: every code, scale and gate is finite. -/
module

public import proofs.«01_k».proof.Proof.Conditions
public import proofs.«01_k».proof.Proof.Words.KRun
public import proofs.«01_k».proof.Proof.Words.RefRun
public import proofs.«01_k».proof.Proof.Words.Codes

@[expose] public section

noncomputable section

open Idealize.ShloMosaic Idealize.ShloMosaic.TcCoe Idealize.SL.Sem
open Cert.Maths

namespace Cert.Work

/-- The shape relations of the precondition on words. -/
theorem words_pre_facts : Cert.Pre_all_finite.Facts := ⟨by decide, by decide, by decide, by decide⟩
/-- The shape relations of the selection of the fourth result. -/
theorem words_on_facts : Cert.On_only_dg.Facts := ⟨by decide, by decide⟩

/-- Two words that compared as different. -/
theorem ne_of_bit {a b : BitVec 8} (h : IntOp.cmpi .ne a b = 1#1) : a ≠ b := by
  rintro rfl
  simp [IntOp.cmpi] at h

/-- A word whose exponent compared as not all ones, on its own side of the sign. -/
theorem exponent_of_bit : ∀ {w : BitVec 8},
    Scalar.select (IntOp.cmpi .ult w 128#8) (IntOp.cmpi .ult w 124#8) (IntOp.cmpi .ult w 252#8) = 1#1 →
      if w.toNat < 128 then w.toNat < 124 else w.toNat < 252 := by
  decide +kernel

/-- A number that compared as above minus infinity. -/
theorem gt_of_bit {x : EReal} (h : Ideal.cmp .olt (-(Ideal.ofBits FTy.f32 0x7F800000#32)) x = 1#1) : ⊥ < x := by
  have h' := lt_of_bit h
  rwa [inf_word, EReal.neg_top] at h'

/-- Under the precondition on words every argument is finite. -/
theorem words_finite (m : (ℓ : Loc Cert.KernelWIdeal.nD Cert.KernelWIdeal.τ Cert.KernelWIdeal.sig) → Buf (Elt Ideal) ℓ)
    (H : Cert.Pre_KernelWIdeal_all_finite (hPre_all_finite := words_pre_facts) m) (c : Dev Cert.KernelWIdeal.nD) :
    (Cert.KernelWIdeal.Work.args m c).Fin_ where
  q y := fine_e4m3 _ (ne_of_bit (congrFun (H c).1 y)) (ne_of_bit (congrFun (H c).2.1 y))
  k y := fine_e4m3 _ (ne_of_bit (congrFun (H c).2.2.1 y)) (ne_of_bit (congrFun (H c).2.2.2.1 y))
  v y := fine_e4m3 _ (ne_of_bit (congrFun (H c).2.2.2.2.1 y)) (ne_of_bit (congrFun (H c).2.2.2.2.2.1 y))
  o y := fine_e5m2 _ (exponent_of_bit (congrFun (H c).2.2.2.2.2.2.1 y))
  qs y := fine_of (gt_of_bit (congrFun (H c).2.2.2.2.2.2.2.1 y)) (inf_word ▸ lt_of_bit (congrFun (H c).2.2.2.2.2.2.2.2.1 y))
  ks y := fine_of (gt_of_bit (congrFun (H c).2.2.2.2.2.2.2.2.2.1 y)) (inf_word ▸ lt_of_bit (congrFun (H c).2.2.2.2.2.2.2.2.2.2.1 y))
  vs y := fine_of (gt_of_bit (congrFun (H c).2.2.2.2.2.2.2.2.2.2.2.1 y)) (inf_word ▸ lt_of_bit (congrFun (H c).2.2.2.2.2.2.2.2.2.2.2.2.1 y))
  ds y := fine_of (gt_of_bit (congrFun (H c).2.2.2.2.2.2.2.2.2.2.2.2.2.1 y)) (inf_word ▸ lt_of_bit (congrFun (H c).2.2.2.2.2.2.2.2.2.2.2.2.2.2.1 y))
  g y := fine_of (gt_of_bit (congrFun (H c).2.2.2.2.2.2.2.2.2.2.2.2.2.2.2.1 y)) (inf_word ▸ lt_of_bit (congrFun (H c).2.2.2.2.2.2.2.2.2.2.2.2.2.2.2.2 y))

end Cert.Work
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelW.Frame
public import proofs.«01_k».proof.Proof.Gen.KernelWIdeal.Frame
public import proofs.«01_k».proof.Proof.Gen.ReferenceWIdeal.Frame
public import proofs.«01_k».proof.Proof.Conditions
public import proofs.«01_k».proof.Proof.Words.Conditions
public import Idealize.ShloMosaic.Adequacy
public import Idealize.ShloMosaic.Init

@[expose] public section

noncomputable section

namespace Cert.Proof

open Idealize.ShloMosaic Idealize.ShloMosaic.TcCoe Idealize.SL.Sem

/-- Memories that agree on the arguments give both programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Work.args m' c = Cert.KernelIdeal.Work.args m c := by
  obtain ⟨h0, h1, h2, h3, h4, h5, h6, h7, h8⟩ := h
  unfold Cert.ReferenceIdeal.Work.args Cert.KernelIdeal.Work.args
  congr 1

/-- Where the mask is set the results are equal; the mask leaves the fourth result out. -/
theorem values : Cert.algebraic_KernelIdeal_ReferenceIdeal_on_all_but_dg_pre_gates_and_scales_tame
    (hPre_gates_and_scales_tame := Cert.Work.pre_facts) (hOn_all_but_dg := Cert.Work.on_facts) := by
  intro m g m' g' hpre hargs
  refine ⟨fun c => (Cert.KernelIdeal.Work.args m c).dq, fun c => (Cert.KernelIdeal.Work.args m c).dk,
    fun c => (Cert.KernelIdeal.Work.args m c).dv, fun c => m ((c.tc : Thread Cert.KernelIdeal.nD Cert.KernelIdeal.τ).loc Cert.KernelIdeal.main_v13),
    fun c => (Cert.KernelIdeal.Work.args m c).db, ?_, ?_⟩
  · refine (θ_run _ _ _).mono (fun _ h c => ?_) (Cert.KernelIdeal.Work.run m (Cert.Work.gates m hpre) (Cert.Work.scales m hpre) g)
    obtain ⟨⟨h0, h1, h2, h4⟩, hf⟩ := h c
    exact ⟨fun i _ => congrFun h0 i, fun i _ => congrFun h1 i, fun i _ => congrFun h2 i,
      fun i hi => absurd hi (by decide : (0#1 : BitVec 1) ≠ 1#1), fun i _ => congrFun h4 i, hf⟩
  · refine (θ_run _ _ _).mono (fun _ h c => ?_) (Cert.ReferenceIdeal.Work.run m' g')
    obtain ⟨⟨h0, h1, h2, h4⟩, hf⟩ := h c
    rw [args_eq m m' c (hargs c)] at h0 h1 h2 h4
    exact ⟨fun i _ => congrFun h0 i, fun i _ => congrFun h1 i, fun i _ => congrFun h2 i,
      fun i hi => absurd hi (by decide : (0#1 : BitVec 1) ≠ 1#1), fun i _ => congrFun h4 i, hf⟩

/-- Memories that agree on the arguments give both programs on words the same arguments. -/
theorem words_args_eq (m : (ℓ : Loc Cert.KernelWIdeal.nD Cert.KernelWIdeal.τ Cert.KernelWIdeal.sig) → Buf (Elt Ideal) ℓ)
    (m' : (ℓ : Loc Cert.ReferenceWIdeal.nD Cert.ReferenceWIdeal.τ Cert.ReferenceWIdeal.sig) → Buf (Elt Ideal) ℓ) (c : Dev Cert.KernelWIdeal.nD)
    (h : m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)
      ∧ m' ((c.tc : Thread Cert.ReferenceWIdeal.nD Cert.ReferenceWIdeal.τ).loc Cert.ReferenceWIdeal.main_arg6) = m ((c.tc : Thread Cert.KernelWIdeal.nD Cert.KernelWIdeal.τ).loc Cert.KernelWIdeal.main_arg6)
      ∧ m' ((c.tc : Thread Cert.ReferenceWIdeal.nD Cert.ReferenceWIdeal.τ).loc Cert.ReferenceWIdeal.main_arg7) = m ((c.tc : Thread Cert.KernelWIdeal.nD Cert.KernelWIdeal.τ).loc Cert.KernelWIdeal.main_arg7)
      ∧ m' ((c.tc : Thread Cert.ReferenceWIdeal.nD Cert.ReferenceWIdeal.τ).loc Cert.ReferenceWIdeal.main_arg8) = m ((c.tc : Thread Cert.KernelWIdeal.nD Cert.KernelWIdeal.τ).loc Cert.KernelWIdeal.main_arg8)) :
    Cert.ReferenceWIdeal.Work.args m' c = Cert.KernelWIdeal.Work.args m c := by
  obtain ⟨h0, h1, h2, h3, h4, h5, h6, h7, h8⟩ := h
  unfold Cert.ReferenceWIdeal.Work.args Cert.KernelWIdeal.Work.args
  congr 1
  · exact congrArg Cert.Maths.e4m3 h0
  · exact congrArg Cert.Maths.e4m3 h1
  · exact congrArg Cert.Maths.e4m3 h4
  · exact congrArg Cert.Maths.e5m2 h6

/-- Where the mask is set, which is the fourth result, the results of the programs on words are equal. -/
theorem words_values : Cert.algebraic_KernelWIdeal_ReferenceWIdeal_on_only_dg_pre_all_finite (hKernelWIdeal := Cert.KernelWIdeal.Gen.facts)
    (hReferenceWIdeal := Cert.ReferenceWIdeal.Gen.facts) (hPre_all_finite := Cert.Work.words_pre_facts) (hOn_only_dg := Cert.Work.words_on_facts) := by
  intro m g m' g' hpre hargs
  have no : (0#1 : BitVec 1) ≠ 1#1 := by decide
  refine ⟨fun c => m ((c.tc : Thread Cert.KernelWIdeal.nD Cert.KernelWIdeal.τ).loc Cert.KernelWIdeal.main_v14),
    fun c => m ((c.tc : Thread Cert.KernelWIdeal.nD Cert.KernelWIdeal.τ).loc Cert.KernelWIdeal.main_v15),
    fun c => m ((c.tc : Thread Cert.KernelWIdeal.nD Cert.KernelWIdeal.τ).loc Cert.KernelWIdeal.main_v16),
    fun c => (Cert.KernelWIdeal.Work.args m c).dg,
    fun c => m ((c.tc : Thread Cert.KernelWIdeal.nD Cert.KernelWIdeal.τ).loc Cert.KernelWIdeal.main_v18), ?_, ?_⟩
  · refine (θ_run _ _ _).mono (fun _ h c => ?_) (Cert.KernelWIdeal.Work.run m (Cert.Work.words_finite m hpre) g)
    obtain ⟨h3, hf⟩ := h c
    exact ⟨fun i hi => absurd hi no, fun i hi => absurd hi no, fun i hi => absurd hi no, fun i _ => congrFun h3 i,
      fun i hi => absurd hi no, hf⟩
  · refine (θ_run _ _ _).mono (fun _ h c => ?_) (Cert.ReferenceWIdeal.Work.run m' g')
    obtain ⟨h3, hf⟩ := h c
    rw [words_args_eq m m' c (hargs c)] at h3
    exact ⟨fun i hi => absurd hi no, fun i hi => absurd hi no, fun i hi => absurd hi no, fun i _ => congrFun h3 i,
      fun i hi => absurd hi no, hf⟩

/-- Every claim of the certificate. -/
theorem claim : Cert.Claim := ⟨Cert.Kernel.Gen.facts, Cert.KernelIdeal.Gen.facts, Cert.ReferenceIdeal.Gen.facts,
  Cert.KernelW.Gen.facts, Cert.KernelWIdeal.Gen.facts, Cert.ReferenceWIdeal.Gen.facts,
  Cert.Work.pre_facts, Cert.Work.words_pre_facts, Cert.Work.on_facts, Cert.Work.words_on_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.KernelW.Gen.frame m ρ, fun m ρ _ => Cert.KernelWIdeal.Gen.frame m ρ, fun m ρ _ => Cert.KernelWIdeal.Gen.frame m ρ,
  fun m ρ _ => Cert.ReferenceWIdeal.Gen.frame m ρ, fun m ρ _ => Cert.ReferenceWIdeal.Gen.frame m ρ,
  trivial, values, trivial, words_values⟩

end Cert.Proof

end
